-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_stage_a_inputs [hPre_stage_a_inputs : Cert.Pre_stage_a_inputs.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.2.2.2.2.2.1 = (fun _ => 1#1)
    ∧ (Cert.Pre_stage_a_inputs.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8)) (m ((c.tc : Thread Cert.KernelAIdeal.nD Cert.KernelAIdeal.τ).loc Cert.KernelAIdeal.main_arg9)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg11)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg13)) (m ((c.tc : Thread Cert.KernelAIdeal.nD Cert.KernelAIdeal.τ).loc Cert.KernelAIdeal.main_arg14)) (m ((c.tc : Thread Cert.KernelAIdeal.nD Cert.KernelAIdeal.τ).loc Cert.KernelAIdeal.main_arg15)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg17)) (m ((c.tc : Thread Cert.KernelAIdeal.nD Cert.KernelAIdeal.τ).loc Cert.KernelAIdeal.main_arg18)) (m ((c.tc : Thread Cert.KernelAIdeal.nD Cert.KernelAIdeal.τ).loc Cert.KernelAIdeal.main_arg19))).2.2.2.2.2.2.2.2.2.2.2.2.2.2.2.2.2.2.2.2 = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_stage_a_inputs [hPre_stage_a_inputs : Cert.Pre_stage_a_inputs.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.2.2.2.2.2.1 = (fun _ => 1#1)
    ∧ (Cert.Pre_stage_a_inputs.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8)) (m ((c.tc : Thread Cert.ReferenceAIdeal.nD Cert.ReferenceAIdeal.τ).loc Cert.ReferenceAIdeal.main_arg9)) (m ((c.tc : Thread Cert.ReferenceAIdeal.nD Cert.ReferenceAIdeal.τ).loc Cert.ReferenceAIdeal.main_arg10)) (m ((c.tc : Thread Cert.ReferenceAIdeal.nD Cert.ReferenceAIdeal.τ).loc Cert.ReferenceAIdeal.main_arg11)) (m ((c.tc : Thread Cert.ReferenceAIdeal.nD Cert.ReferenceAIdeal.τ).loc Cert.ReferenceAIdeal.main_arg12)) (m ((c.tc : Thread Cert.ReferenceAIdeal.nD Cert.ReferenceAIdeal.τ).loc Cert.ReferenceAIdeal.main_arg13)) (m ((c.tc : Thread Cert.ReferenceAIdeal.nD Cert.ReferenceAIdeal.τ).loc Cert.ReferenceAIdeal.main_arg14)) (m ((c.tc : Thread Cert.ReferenceAIdeal.nD Cert.ReferenceAIdeal.τ).loc Cert.ReferenceAIdeal.main_arg15)) (m ((c.tc : Thread Cert.ReferenceAIdeal.nD Cert.ReferenceAIdeal.τ).loc Cert.ReferenceAIdeal.main_arg16)) (m ((c.tc : Thread Cert.ReferenceAIdeal.nD Cert.ReferenceAIdeal.τ).loc Cert.ReferenceAIdeal.main_arg17)) (m ((c.tc : Thread Cert.ReferenceAIdeal.nD Cert.ReferenceAIdeal.τ).loc Cert.ReferenceAIdeal.main_arg18)) (m ((c.tc : Thread Cert.ReferenceAIdeal.nD Cert.ReferenceAIdeal.τ).loc Cert.ReferenceAIdeal.main_arg19))).2.2.2.2.2.2.2.2.2.2.2.2.2.2.2.2.2.2.2.2 = (fun _ => 1#1)

def Pre_KernelBIdeal (m : (ℓ : Loc Cert.KernelBIdeal.nD Cert.KernelBIdeal.τ Cert.KernelBIdeal.sig) → Buf (Elt Ideal) ℓ) : Prop :=
  True

def Pre_KernelBIdeal_stage_b_inputs [hPre_stage_b_inputs : Cert.Pre_stage_b_inputs.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_stage_b_inputs.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))).1 = (fun _ => 1#1)
    ∧ (Cert.Pre_stage_b_inputs.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))).2.1 = (fun _ => 1#1)
    ∧ (Cert.Pre_stage_b_inputs.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))).2.2.1 = (fun _ => 1#1)
    ∧ (Cert.Pre_stage_b_inputs.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))).2.2.2.1 = (fun _ => 1#1)
    ∧ (Cert.Pre_stage_b_inputs.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))).2.2.2.2 = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_stage_b_inputs [hPre_stage_b_inputs : Cert.Pre_stage_b_inputs.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_stage_b_inputs.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))).1 = (fun _ => 1#1)
    ∧ (Cert.Pre_stage_b_inputs.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))).2.1 = (fun _ => 1#1)
    ∧ (Cert.Pre_stage_b_inputs.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))).2.2.1 = (fun _ => 1#1)
    ∧ (Cert.Pre_stage_b_inputs.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))).2.2.2.1 = (fun _ => 1#1)
    ∧ (Cert.Pre_stage_b_inputs.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))).2.2.2.2 = (fun _ => 1#1)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5)
      ∧ r.2.mem ((c.tc : Thread Cert.KernelA.nD Cert.KernelA.τ).loc Cert.KernelA.main_arg6) = m ((c.tc : Thread Cert.KernelA.nD Cert.KernelA.τ).loc Cert.KernelA.main_arg6)
      ∧ r.2.mem ((c.tc : Thread Cert.KernelA.nD Cert.KernelA.τ).loc Cert.KernelA.main_arg7) = m ((c.tc : Thread Cert.KernelA.nD Cert.KernelA.τ).loc Cert.KernelA.main_arg7)
      ∧ r.2.mem ((c.tc : Thread Cert.KernelA.nD Cert.KernelA.τ).loc Cert.KernelA.main_arg8) = m ((c.tc : Thread Cert.KernelA.nD Cert.KernelA.τ).loc Cert.KernelA.main_arg8)
      ∧ r.2.mem ((c.tc : Thread Cert.KernelA.nD Cert.KernelA.τ).loc Cert.KernelA.main_arg9) = m ((c.tc : Thread Cert.KernelA.nD Cert.KernelA.τ).loc Cert.KernelA.main_arg9)
      ∧ r.2.mem ((c.tc : Thread Cert.KernelA.nD Cert.KernelA.τ).loc Cert.KernelA.main_arg10) = m ((c.tc : Thread Cert.KernelA.nD Cert.KernelA.τ).loc Cert.KernelA.main_arg10)
      ∧ r.2.mem ((c.tc : Thread Cert.KernelA.nD Cert.KernelA.τ).loc Cert.KernelA.main_arg11) = m ((c.tc : Thread Cert.KernelA.nD Cert.KernelA.τ).loc Cert.KernelA.main_arg11)
      ∧ r.2.mem ((c.tc : Thread Cert.KernelA.nD Cert.KernelA.τ).loc Cert.KernelA.main_arg12) = m ((c.tc : Thread Cert.KernelA.nD Cert.KernelA.τ).loc Cert.KernelA.main_arg12)
      ∧ r.2.mem ((c.tc : Thread Cert.KernelA.nD Cert.KernelA.τ).loc Cert.KernelA.main_arg13) = m ((c.tc : Thread Cert.KernelA.nD Cert.KernelA.τ).loc Cert.KernelA.main_arg13)
      ∧ r.2.mem ((c.tc : Thread Cert.KernelA.nD Cert.KernelA.τ).loc Cert.KernelA.main_arg14) = m ((c.tc : Thread Cert.KernelA.nD Cert.KernelA.τ).loc Cert.KernelA.main_arg14)
      ∧ r.2.mem ((c.tc : Thread Cert.KernelA.nD Cert.KernelA.τ).loc Cert.KernelA.main_arg15) = m ((c.tc : Thread Cert.KernelA.nD Cert.KernelA.τ).loc Cert.KernelA.main_arg15)
      ∧ r.2.mem ((c.tc : Thread Cert.KernelA.nD Cert.KernelA.τ).loc Cert.KernelA.main_arg16) = m ((c.tc : Thread Cert.KernelA.nD Cert.KernelA.τ).loc Cert.KernelA.main_arg16)
      ∧ r.2.mem ((c.tc : Thread Cert.KernelA.nD Cert.KernelA.τ).loc Cert.KernelA.main_arg17) = m ((c.tc : Thread Cert.KernelA.nD Cert.KernelA.τ).loc Cert.KernelA.main_arg17)
      ∧ r.2.mem ((c.tc : Thread Cert.KernelA.nD Cert.KernelA.τ).loc Cert.KernelA.main_arg18) = m ((c.tc : Thread Cert.KernelA.nD Cert.KernelA.τ).loc Cert.KernelA.main_arg18)
      ∧ r.2.mem ((c.tc : Thread Cert.KernelA.nD Cert.KernelA.τ).loc Cert.KernelA.main_arg19) = m ((c.tc : Thread Cert.KernelA.nD Cert.KernelA.τ).loc Cert.KernelA.main_arg19))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7)
      ∧ r.2.mem ((c.tc : Thread Cert.KernelAIdeal.nD Cert.KernelAIdeal.τ).loc Cert.KernelAIdeal.main_arg8) = m ((c.tc : Thread Cert.KernelAIdeal.nD Cert.KernelAIdeal.τ).loc Cert.KernelAIdeal.main_arg8)
      ∧ r.2.mem ((c.tc : Thread Cert.KernelAIdeal.nD Cert.KernelAIdeal.τ).loc Cert.KernelAIdeal.main_arg9) = m ((c.tc : Thread Cert.KernelAIdeal.nD Cert.KernelAIdeal.τ).loc Cert.KernelAIdeal.main_arg9)
      ∧ r.2.mem ((c.tc : Thread Cert.KernelAIdeal.nD Cert.KernelAIdeal.τ).loc Cert.KernelAIdeal.main_arg10) = m ((c.tc : Thread Cert.KernelAIdeal.nD Cert.KernelAIdeal.τ).loc Cert.KernelAIdeal.main_arg10)
      ∧ r.2.mem ((c.tc : Thread Cert.KernelAIdeal.nD Cert.KernelAIdeal.τ).loc Cert.KernelAIdeal.main_arg11) = m ((c.tc : Thread Cert.KernelAIdeal.nD Cert.KernelAIdeal.τ).loc Cert.KernelAIdeal.main_arg11)
      ∧ r.2.mem ((c.tc : Thread Cert.KernelAIdeal.nD Cert.KernelAIdeal.τ).loc Cert.KernelAIdeal.main_arg12) = m ((c.tc : Thread Cert.KernelAIdeal.nD Cert.KernelAIdeal.τ).loc Cert.KernelAIdeal.main_arg12)
      ∧ r.2.mem ((c.tc : Thread Cert.KernelAIdeal.nD Cert.KernelAIdeal.τ).loc Cert.KernelAIdeal.main_arg13) = m ((c.tc : Thread Cert.KernelAIdeal.nD Cert.KernelAIdeal.τ).loc Cert.KernelAIdeal.main_arg13)
      ∧ r.2.mem ((c.tc : Thread Cert.KernelAIdeal.nD Cert.KernelAIdeal.τ).loc Cert.KernelAIdeal.main_arg14) = m ((c.tc : Thread Cert.KernelAIdeal.nD Cert.KernelAIdeal.τ).loc Cert.KernelAIdeal.main_arg14)
      ∧ r.2.mem ((c.tc : Thread Cert.KernelAIdeal.nD Cert.KernelAIdeal.τ).loc Cert.KernelAIdeal.main_arg15) = m ((c.tc : Thread Cert.KernelAIdeal.nD Cert.KernelAIdeal.τ).loc Cert.KernelAIdeal.main_arg15)
      ∧ r.2.mem ((c.tc : Thread Cert.KernelAIdeal.nD Cert.KernelAIdeal.τ).loc Cert.KernelAIdeal.main_arg16) = m ((c.tc : Thread Cert.KernelAIdeal.nD Cert.KernelAIdeal.τ).loc Cert.KernelAIdeal.main_arg16)
      ∧ r.2.mem ((c.tc : Thread Cert.KernelAIdeal.nD Cert.KernelAIdeal.τ).loc Cert.KernelAIdeal.main_arg17) = m ((c.tc : Thread Cert.KernelAIdeal.nD Cert.KernelAIdeal.τ).loc Cert.KernelAIdeal.main_arg17)
      ∧ r.2.mem ((c.tc : Thread Cert.KernelAIdeal.nD Cert.KernelAIdeal.τ).loc Cert.KernelAIdeal.main_arg18) = m ((c.tc : Thread Cert.KernelAIdeal.nD Cert.KernelAIdeal.τ).loc Cert.KernelAIdeal.main_arg18)
      ∧ r.2.mem ((c.tc : Thread Cert.KernelAIdeal.nD Cert.KernelAIdeal.τ).loc Cert.KernelAIdeal.main_arg19) = m ((c.tc : Thread Cert.KernelAIdeal.nD Cert.KernelAIdeal.τ).loc Cert.KernelAIdeal.main_arg19))
      ∧ r.2.sem = fun _ => 0)

def quiescent_KernelAIdeal_pre_stage_a_inputs [hKernelAIdeal : Cert.KernelAIdeal.Facts] [hPre_stage_a_inputs : Cert.Pre_stage_a_inputs.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_stage_a_inputs m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7)
      ∧ r.2.mem ((c.tc : Thread Cert.KernelAIdeal.nD Cert.KernelAIdeal.τ).loc Cert.KernelAIdeal.main_arg8) = m ((c.tc : Thread Cert.KernelAIdeal.nD Cert.KernelAIdeal.τ).loc Cert.KernelAIdeal.main_arg8)
      ∧ r.2.mem ((c.tc : Thread Cert.KernelAIdeal.nD Cert.KernelAIdeal.τ).loc Cert.KernelAIdeal.main_arg9) = m ((c.tc : Thread Cert.KernelAIdeal.nD Cert.KernelAIdeal.τ).loc Cert.KernelAIdeal.main_arg9)
      ∧ r.2.mem ((c.tc : Thread Cert.KernelAIdeal.nD Cert.KernelAIdeal.τ).loc Cert.KernelAIdeal.main_arg10) = m ((c.tc : Thread Cert.KernelAIdeal.nD Cert.KernelAIdeal.τ).loc Cert.KernelAIdeal.main_arg10)
      ∧ r.2.mem ((c.tc : Thread Cert.KernelAIdeal.nD Cert.KernelAIdeal.τ).loc Cert.KernelAIdeal.main_arg11) = m ((c.tc : Thread Cert.KernelAIdeal.nD Cert.KernelAIdeal.τ).loc Cert.KernelAIdeal.main_arg11)
      ∧ r.2.mem ((c.tc : Thread Cert.KernelAIdeal.nD Cert.KernelAIdeal.τ).loc Cert.KernelAIdeal.main_arg12) = m ((c.tc : Thread Cert.KernelAIdeal.nD Cert.KernelAIdeal.τ).loc Cert.KernelAIdeal.main_arg12)
      ∧ r.2.mem ((c.tc : Thread Cert.KernelAIdeal.nD Cert.KernelAIdeal.τ).loc Cert.KernelAIdeal.main_arg13) = m ((c.tc : Thread Cert.KernelAIdeal.nD Cert.KernelAIdeal.τ).loc Cert.KernelAIdeal.main_arg13)
      ∧ r.2.mem ((c.tc : Thread Cert.KernelAIdeal.nD Cert.KernelAIdeal.τ).loc Cert.KernelAIdeal.main_arg14) = m ((c.tc : Thread Cert.KernelAIdeal.nD Cert.KernelAIdeal.τ).loc Cert.KernelAIdeal.main_arg14)
      ∧ r.2.mem ((c.tc : Thread Cert.KernelAIdeal.nD Cert.KernelAIdeal.τ).loc Cert.KernelAIdeal.main_arg15) = m ((c.tc : Thread Cert.KernelAIdeal.nD Cert.KernelAIdeal.τ).loc Cert.KernelAIdeal.main_arg15)
      ∧ r.2.mem ((c.tc : Thread Cert.KernelAIdeal.nD Cert.KernelAIdeal.τ).loc Cert.KernelAIdeal.main_arg16) = m ((c.tc : Thread Cert.KernelAIdeal.nD Cert.KernelAIdeal.τ).loc Cert.KernelAIdeal.main_arg16)
      ∧ r.2.mem ((c.tc : Thread Cert.KernelAIdeal.nD Cert.KernelAIdeal.τ).loc Cert.KernelAIdeal.main_arg17) = m ((c.tc : Thread Cert.KernelAIdeal.nD Cert.KernelAIdeal.τ).loc Cert.KernelAIdeal.main_arg17)
      ∧ r.2.mem ((c.tc : Thread Cert.KernelAIdeal.nD Cert.KernelAIdeal.τ).loc Cert.KernelAIdeal.main_arg18) = m ((c.tc : Thread Cert.KernelAIdeal.nD Cert.KernelAIdeal.τ).loc Cert.KernelAIdeal.main_arg18)
      ∧ r.2.mem ((c.tc : Thread Cert.KernelAIdeal.nD Cert.KernelAIdeal.τ).loc Cert.KernelAIdeal.main_arg19) = m ((c.tc : Thread Cert.KernelAIdeal.nD Cert.KernelAIdeal.τ).loc Cert.KernelAIdeal.main_arg19))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7)
      ∧ r.2.mem ((c.tc : Thread Cert.ReferenceAIdeal.nD Cert.ReferenceAIdeal.τ).loc Cert.ReferenceAIdeal.main_arg8) = m ((c.tc : Thread Cert.ReferenceAIdeal.nD Cert.ReferenceAIdeal.τ).loc Cert.ReferenceAIdeal.main_arg8)
      ∧ r.2.mem ((c.tc : Thread Cert.ReferenceAIdeal.nD Cert.ReferenceAIdeal.τ).loc Cert.ReferenceAIdeal.main_arg9) = m ((c.tc : Thread Cert.ReferenceAIdeal.nD Cert.ReferenceAIdeal.τ).loc Cert.ReferenceAIdeal.main_arg9)
      ∧ r.2.mem ((c.tc : Thread Cert.ReferenceAIdeal.nD Cert.ReferenceAIdeal.τ).loc Cert.ReferenceAIdeal.main_arg10) = m ((c.tc : Thread Cert.ReferenceAIdeal.nD Cert.ReferenceAIdeal.τ).loc Cert.ReferenceAIdeal.main_arg10)
      ∧ r.2.mem ((c.tc : Thread Cert.ReferenceAIdeal.nD Cert.ReferenceAIdeal.τ).loc Cert.ReferenceAIdeal.main_arg11) = m ((c.tc : Thread Cert.ReferenceAIdeal.nD Cert.ReferenceAIdeal.τ).loc Cert.ReferenceAIdeal.main_arg11)
      ∧ r.2.mem ((c.tc : Thread Cert.ReferenceAIdeal.nD Cert.ReferenceAIdeal.τ).loc Cert.ReferenceAIdeal.main_arg12) = m ((c.tc : Thread Cert.ReferenceAIdeal.nD Cert.ReferenceAIdeal.τ).loc Cert.ReferenceAIdeal.main_arg12)
      ∧ r.2.mem ((c.tc : Thread Cert.ReferenceAIdeal.nD Cert.ReferenceAIdeal.τ).loc Cert.ReferenceAIdeal.main_arg13) = m ((c.tc : Thread Cert.ReferenceAIdeal.nD Cert.ReferenceAIdeal.τ).loc Cert.ReferenceAIdeal.main_arg13)
      ∧ r.2.mem ((c.tc : Thread Cert.ReferenceAIdeal.nD Cert.ReferenceAIdeal.τ).loc Cert.ReferenceAIdeal.main_arg14) = m ((c.tc : Thread Cert.ReferenceAIdeal.nD Cert.ReferenceAIdeal.τ).loc Cert.ReferenceAIdeal.main_arg14)
      ∧ r.2.mem ((c.tc : Thread Cert.ReferenceAIdeal.nD Cert.ReferenceAIdeal.τ).loc Cert.ReferenceAIdeal.main_arg15) = m ((c.tc : Thread Cert.ReferenceAIdeal.nD Cert.ReferenceAIdeal.τ).loc Cert.ReferenceAIdeal.main_arg15)
      ∧ r.2.mem ((c.tc : Thread Cert.ReferenceAIdeal.nD Cert.ReferenceAIdeal.τ).loc Cert.ReferenceAIdeal.main_arg16) = m ((c.tc : Thread Cert.ReferenceAIdeal.nD Cert.ReferenceAIdeal.τ).loc Cert.ReferenceAIdeal.main_arg16)
      ∧ r.2.mem ((c.tc : Thread Cert.ReferenceAIdeal.nD Cert.ReferenceAIdeal.τ).loc Cert.ReferenceAIdeal.main_arg17) = m ((c.tc : Thread Cert.ReferenceAIdeal.nD Cert.ReferenceAIdeal.τ).loc Cert.ReferenceAIdeal.main_arg17)
      ∧ r.2.mem ((c.tc : Thread Cert.ReferenceAIdeal.nD Cert.ReferenceAIdeal.τ).loc Cert.ReferenceAIdeal.main_arg18) = m ((c.tc : Thread Cert.ReferenceAIdeal.nD Cert.ReferenceAIdeal.τ).loc Cert.ReferenceAIdeal.main_arg18)
      ∧ r.2.mem ((c.tc : Thread Cert.ReferenceAIdeal.nD Cert.ReferenceAIdeal.τ).loc Cert.ReferenceAIdeal.main_arg19) = m ((c.tc : Thread Cert.ReferenceAIdeal.nD Cert.ReferenceAIdeal.τ).loc Cert.ReferenceAIdeal.main_arg19))
      ∧ r.2.sem = fun _ => 0)

def quiescent_ReferenceAIdeal_pre_stage_a_inputs [hReferenceAIdeal : Cert.ReferenceAIdeal.Facts] [hPre_stage_a_inputs : Cert.Pre_stage_a_inputs.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_stage_a_inputs m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7)
      ∧ r.2.mem ((c.tc : Thread Cert.ReferenceAIdeal.nD Cert.ReferenceAIdeal.τ).loc Cert.ReferenceAIdeal.main_arg8) = m ((c.tc : Thread Cert.ReferenceAIdeal.nD Cert.ReferenceAIdeal.τ).loc Cert.ReferenceAIdeal.main_arg8)
      ∧ r.2.mem ((c.tc : Thread Cert.ReferenceAIdeal.nD Cert.ReferenceAIdeal.τ).loc Cert.ReferenceAIdeal.main_arg9) = m ((c.tc : Thread Cert.ReferenceAIdeal.nD Cert.ReferenceAIdeal.τ).loc Cert.ReferenceAIdeal.main_arg9)
      ∧ r.2.mem ((c.tc : Thread Cert.ReferenceAIdeal.nD Cert.ReferenceAIdeal.τ).loc Cert.ReferenceAIdeal.main_arg10) = m ((c.tc : Thread Cert.ReferenceAIdeal.nD Cert.ReferenceAIdeal.τ).loc Cert.ReferenceAIdeal.main_arg10)
      ∧ r.2.mem ((c.tc : Thread Cert.ReferenceAIdeal.nD Cert.ReferenceAIdeal.τ).loc Cert.ReferenceAIdeal.main_arg11) = m ((c.tc : Thread Cert.ReferenceAIdeal.nD Cert.ReferenceAIdeal.τ).loc Cert.ReferenceAIdeal.main_arg11)
      ∧ r.2.mem ((c.tc : Thread Cert.ReferenceAIdeal.nD Cert.ReferenceAIdeal.τ).loc Cert.ReferenceAIdeal.main_arg12) = m ((c.tc : Thread Cert.ReferenceAIdeal.nD Cert.ReferenceAIdeal.τ).loc Cert.ReferenceAIdeal.main_arg12)
      ∧ r.2.mem ((c.tc : Thread Cert.ReferenceAIdeal.nD Cert.ReferenceAIdeal.τ).loc Cert.ReferenceAIdeal.main_arg13) = m ((c.tc : Thread Cert.ReferenceAIdeal.nD Cert.ReferenceAIdeal.τ).loc Cert.ReferenceAIdeal.main_arg13)
      ∧ r.2.mem ((c.tc : Thread Cert.ReferenceAIdeal.nD Cert.ReferenceAIdeal.τ).loc Cert.ReferenceAIdeal.main_arg14) = m ((c.tc : Thread Cert.ReferenceAIdeal.nD Cert.ReferenceAIdeal.τ).loc Cert.ReferenceAIdeal.main_arg14)
      ∧ r.2.mem ((c.tc : Thread Cert.ReferenceAIdeal.nD Cert.ReferenceAIdeal.τ).loc Cert.ReferenceAIdeal.main_arg15) = m ((c.tc : Thread Cert.ReferenceAIdeal.nD Cert.ReferenceAIdeal.τ).loc Cert.ReferenceAIdeal.main_arg15)
      ∧ r.2.mem ((c.tc : Thread Cert.ReferenceAIdeal.nD Cert.ReferenceAIdeal.τ).loc Cert.ReferenceAIdeal.main_arg16) = m ((c.tc : Thread Cert.ReferenceAIdeal.nD Cert.ReferenceAIdeal.τ).loc Cert.ReferenceAIdeal.main_arg16)
      ∧ r.2.mem ((c.tc : Thread Cert.ReferenceAIdeal.nD Cert.ReferenceAIdeal.τ).loc Cert.ReferenceAIdeal.main_arg17) = m ((c.tc : Thread Cert.ReferenceAIdeal.nD Cert.ReferenceAIdeal.τ).loc Cert.ReferenceAIdeal.main_arg17)
      ∧ r.2.mem ((c.tc : Thread Cert.ReferenceAIdeal.nD Cert.ReferenceAIdeal.τ).loc Cert.ReferenceAIdeal.main_arg18) = m ((c.tc : Thread Cert.ReferenceAIdeal.nD Cert.ReferenceAIdeal.τ).loc Cert.ReferenceAIdeal.main_arg18)
      ∧ r.2.mem ((c.tc : Thread Cert.ReferenceAIdeal.nD Cert.ReferenceAIdeal.τ).loc Cert.ReferenceAIdeal.main_arg19) = m ((c.tc : Thread Cert.ReferenceAIdeal.nD Cert.ReferenceAIdeal.τ).loc Cert.ReferenceAIdeal.main_arg19))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_KernelBIdeal_pre_stage_b_inputs [hKernelBIdeal : Cert.KernelBIdeal.Facts] [hPre_stage_b_inputs : Cert.Pre_stage_b_inputs.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_stage_b_inputs m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def quiescent_ReferenceBIdeal_pre_stage_b_inputs [hReferenceBIdeal : Cert.ReferenceBIdeal.Facts] [hPre_stage_b_inputs : Cert.Pre_stage_b_inputs.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_stage_b_inputs m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def preserves_KernelA_KernelAIdeal : Prop :=
  IdealRules.named_const.Statement Cert.KernelAIdeal.κ "sqrt2" .f32 0x3FB504F3#32 ((Real.sqrt 2 : ℝ) : EReal)

def algebraic_KernelAIdeal_ReferenceAIdeal_pre_stage_a_inputs [hKernelAIdeal : Cert.KernelAIdeal.Facts] [hReferenceAIdeal : Cert.ReferenceAIdeal.Facts] [hPre_stage_a_inputs : Cert.Pre_stage_a_inputs.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_stage_a_inputs m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)
      ∧ m' ((c.tc : Thread Cert.ReferenceAIdeal.nD Cert.ReferenceAIdeal.τ).loc Cert.ReferenceAIdeal.main_arg5) = m ((c.tc : Thread Cert.KernelAIdeal.nD Cert.KernelAIdeal.τ).loc Cert.KernelAIdeal.main_arg5)
      ∧ m' ((c.tc : Thread Cert.ReferenceAIdeal.nD Cert.ReferenceAIdeal.τ).loc Cert.ReferenceAIdeal.main_arg6) = m ((c.tc : Thread Cert.KernelAIdeal.nD Cert.KernelAIdeal.τ).loc Cert.KernelAIdeal.main_arg6)
      ∧ m' ((c.tc : Thread Cert.ReferenceAIdeal.nD Cert.ReferenceAIdeal.τ).loc Cert.ReferenceAIdeal.main_arg7) = m ((c.tc : Thread Cert.KernelAIdeal.nD Cert.KernelAIdeal.τ).loc Cert.KernelAIdeal.main_arg7)
      ∧ m' ((c.tc : Thread Cert.ReferenceAIdeal.nD Cert.ReferenceAIdeal.τ).loc Cert.ReferenceAIdeal.main_arg8) = m ((c.tc : Thread Cert.KernelAIdeal.nD Cert.KernelAIdeal.τ).loc Cert.KernelAIdeal.main_arg8)
      ∧ m' ((c.tc : Thread Cert.ReferenceAIdeal.nD Cert.ReferenceAIdeal.τ).loc Cert.ReferenceAIdeal.main_arg9) = m ((c.tc : Thread Cert.KernelAIdeal.nD Cert.KernelAIdeal.τ).loc Cert.KernelAIdeal.main_arg9)
      ∧ m' ((c.tc : Thread Cert.ReferenceAIdeal.nD Cert.ReferenceAIdeal.τ).loc Cert.ReferenceAIdeal.main_arg10) = m ((c.tc : Thread Cert.KernelAIdeal.nD Cert.KernelAIdeal.τ).loc Cert.KernelAIdeal.main_arg10)
      ∧ m' ((c.tc : Thread Cert.ReferenceAIdeal.nD Cert.ReferenceAIdeal.τ).loc Cert.ReferenceAIdeal.main_arg11) = m ((c.tc : Thread Cert.KernelAIdeal.nD Cert.KernelAIdeal.τ).loc Cert.KernelAIdeal.main_arg11)
      ∧ m' ((c.tc : Thread Cert.ReferenceAIdeal.nD Cert.ReferenceAIdeal.τ).loc Cert.ReferenceAIdeal.main_arg12) = m ((c.tc : Thread Cert.KernelAIdeal.nD Cert.KernelAIdeal.τ).loc Cert.KernelAIdeal.main_arg12)
      ∧ m' ((c.tc : Thread Cert.ReferenceAIdeal.nD Cert.ReferenceAIdeal.τ).loc Cert.ReferenceAIdeal.main_arg13) = m ((c.tc : Thread Cert.KernelAIdeal.nD Cert.KernelAIdeal.τ).loc Cert.KernelAIdeal.main_arg13)
      ∧ m' ((c.tc : Thread Cert.ReferenceAIdeal.nD Cert.ReferenceAIdeal.τ).loc Cert.ReferenceAIdeal.main_arg14) = m ((c.tc : Thread Cert.KernelAIdeal.nD Cert.KernelAIdeal.τ).loc Cert.KernelAIdeal.main_arg14)
      ∧ m' ((c.tc : Thread Cert.ReferenceAIdeal.nD Cert.ReferenceAIdeal.τ).loc Cert.ReferenceAIdeal.main_arg15) = m ((c.tc : Thread Cert.KernelAIdeal.nD Cert.KernelAIdeal.τ).loc Cert.KernelAIdeal.main_arg15)
      ∧ m' ((c.tc : Thread Cert.ReferenceAIdeal.nD Cert.ReferenceAIdeal.τ).loc Cert.ReferenceAIdeal.main_arg16) = m ((c.tc : Thread Cert.KernelAIdeal.nD Cert.KernelAIdeal.τ).loc Cert.KernelAIdeal.main_arg16)
      ∧ m' ((c.tc : Thread Cert.ReferenceAIdeal.nD Cert.ReferenceAIdeal.τ).loc Cert.ReferenceAIdeal.main_arg17) = m ((c.tc : Thread Cert.KernelAIdeal.nD Cert.KernelAIdeal.τ).loc Cert.KernelAIdeal.main_arg17)
      ∧ m' ((c.tc : Thread Cert.ReferenceAIdeal.nD Cert.ReferenceAIdeal.τ).loc Cert.ReferenceAIdeal.main_arg18) = m ((c.tc : Thread Cert.KernelAIdeal.nD Cert.KernelAIdeal.τ).loc Cert.KernelAIdeal.main_arg18)
      ∧ m' ((c.tc : Thread Cert.ReferenceAIdeal.nD Cert.ReferenceAIdeal.τ).loc Cert.ReferenceAIdeal.main_arg19) = m ((c.tc : Thread Cert.KernelAIdeal.nD Cert.KernelAIdeal.τ).loc Cert.KernelAIdeal.main_arg19)) →
    ∃ (v0 : (c : Dev Cert.KernelAIdeal.nD) → Buf (Elt Ideal) ((c.tc : Thread Cert.KernelAIdeal.nD Cert.KernelAIdeal.τ).loc Cert.KernelAIdeal.main_v10_0)) (v1 : (c : Dev Cert.KernelAIdeal.nD) → Buf (Elt Ideal) ((c.tc : Thread Cert.KernelAIdeal.nD Cert.KernelAIdeal.τ).loc Cert.KernelAIdeal.main_v10_1)) (v2 : (c : Dev Cert.KernelAIdeal.nD) → Buf (Elt Ideal) ((c.tc : Thread Cert.KernelAIdeal.nD Cert.KernelAIdeal.τ).loc Cert.KernelAIdeal.main_v10_2)) (v3 : (c : Dev Cert.KernelAIdeal.nD) → Buf (Elt Ideal) ((c.tc : Thread Cert.KernelAIdeal.nD Cert.KernelAIdeal.τ).loc Cert.KernelAIdeal.main_v10_3)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v10_0) = v0 c
          ∧ r.2.mem ((c.tc : Thread Cert.KernelAIdeal.nD Cert.KernelAIdeal.τ).loc Cert.KernelAIdeal.main_v10_1) = v1 c
          ∧ r.2.mem ((c.tc : Thread Cert.KernelAIdeal.nD Cert.KernelAIdeal.τ).loc Cert.KernelAIdeal.main_v10_2) = v2 c
          ∧ r.2.mem ((c.tc : Thread Cert.KernelAIdeal.nD Cert.KernelAIdeal.τ).loc Cert.KernelAIdeal.main_v10_3) = v3 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
          ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
          ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
          ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7)
          ∧ r.2.mem ((c.tc : Thread Cert.KernelAIdeal.nD Cert.KernelAIdeal.τ).loc Cert.KernelAIdeal.main_arg8) = m ((c.tc : Thread Cert.KernelAIdeal.nD Cert.KernelAIdeal.τ).loc Cert.KernelAIdeal.main_arg8)
          ∧ r.2.mem ((c.tc : Thread Cert.KernelAIdeal.nD Cert.KernelAIdeal.τ).loc Cert.KernelAIdeal.main_arg9) = m ((c.tc : Thread Cert.KernelAIdeal.nD Cert.KernelAIdeal.τ).loc Cert.KernelAIdeal.main_arg9)
          ∧ r.2.mem ((c.tc : Thread Cert.KernelAIdeal.nD Cert.KernelAIdeal.τ).loc Cert.KernelAIdeal.main_arg10) = m ((c.tc : Thread Cert.KernelAIdeal.nD Cert.KernelAIdeal.τ).loc Cert.KernelAIdeal.main_arg10)
          ∧ r.2.mem ((c.tc : Thread Cert.KernelAIdeal.nD Cert.KernelAIdeal.τ).loc Cert.KernelAIdeal.main_arg11) = m ((c.tc : Thread Cert.KernelAIdeal.nD Cert.KernelAIdeal.τ).loc Cert.KernelAIdeal.main_arg11)
          ∧ r.2.mem ((c.tc : Thread Cert.KernelAIdeal.nD Cert.KernelAIdeal.τ).loc Cert.KernelAIdeal.main_arg12) = m ((c.tc : Thread Cert.KernelAIdeal.nD Cert.KernelAIdeal.τ).loc Cert.KernelAIdeal.main_arg12)
          ∧ r.2.mem ((c.tc : Thread Cert.KernelAIdeal.nD Cert.KernelAIdeal.τ).loc Cert.KernelAIdeal.main_arg13) = m ((c.tc : Thread Cert.KernelAIdeal.nD Cert.KernelAIdeal.τ).loc Cert.KernelAIdeal.main_arg13)
          ∧ r.2.mem ((c.tc : Thread Cert.KernelAIdeal.nD Cert.KernelAIdeal.τ).loc Cert.KernelAIdeal.main_arg14) = m ((c.tc : Thread Cert.KernelAIdeal.nD Cert.KernelAIdeal.τ).loc Cert.KernelAIdeal.main_arg14)
          ∧ r.2.mem ((c.tc : Thread Cert.KernelAIdeal.nD Cert.KernelAIdeal.τ).loc Cert.KernelAIdeal.main_arg15) = m ((c.tc : Thread Cert.KernelAIdeal.nD Cert.KernelAIdeal.τ).loc Cert.KernelAIdeal.main_arg15)
          ∧ r.2.mem ((c.tc : Thread Cert.KernelAIdeal.nD Cert.KernelAIdeal.τ).loc Cert.KernelAIdeal.main_arg16) = m ((c.tc : Thread Cert.KernelAIdeal.nD Cert.KernelAIdeal.τ).loc Cert.KernelAIdeal.main_arg16)
          ∧ r.2.mem ((c.tc : Thread Cert.KernelAIdeal.nD Cert.KernelAIdeal.τ).loc Cert.KernelAIdeal.main_arg17) = m ((c.tc : Thread Cert.KernelAIdeal.nD Cert.KernelAIdeal.τ).loc Cert.KernelAIdeal.main_arg17)
          ∧ r.2.mem ((c.tc : Thread Cert.KernelAIdeal.nD Cert.KernelAIdeal.τ).loc Cert.KernelAIdeal.main_arg18) = m ((c.tc : Thread Cert.KernelAIdeal.nD Cert.KernelAIdeal.τ).loc Cert.KernelAIdeal.main_arg18)
          ∧ r.2.mem ((c.tc : Thread Cert.KernelAIdeal.nD Cert.KernelAIdeal.τ).loc Cert.KernelAIdeal.main_arg19) = m ((c.tc : Thread Cert.KernelAIdeal.nD Cert.KernelAIdeal.τ).loc Cert.KernelAIdeal.main_arg19))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v129) = v0 c
          ∧ r.2.mem ((c.tc : Thread Cert.ReferenceAIdeal.nD Cert.ReferenceAIdeal.τ).loc Cert.ReferenceAIdeal.main_v173) = v1 c
          ∧ r.2.mem ((c.tc : Thread Cert.ReferenceAIdeal.nD Cert.ReferenceAIdeal.τ).loc Cert.ReferenceAIdeal.main_v191) = v2 c
          ∧ r.2.mem ((c.tc : Thread Cert.ReferenceAIdeal.nD Cert.ReferenceAIdeal.τ).loc Cert.ReferenceAIdeal.main_v193) = v3 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4)
          ∧ r.2.mem ((c.tc : Thread Cert.ReferenceAIdeal.nD Cert.ReferenceAIdeal.τ).loc Cert.ReferenceAIdeal.main_arg5) = m' ((c.tc : Thread Cert.ReferenceAIdeal.nD Cert.ReferenceAIdeal.τ).loc Cert.ReferenceAIdeal.main_arg5)
          ∧ r.2.mem ((c.tc : Thread Cert.ReferenceAIdeal.nD Cert.ReferenceAIdeal.τ).loc Cert.ReferenceAIdeal.main_arg6) = m' ((c.tc : Thread Cert.ReferenceAIdeal.nD Cert.ReferenceAIdeal.τ).loc Cert.ReferenceAIdeal.main_arg6)
          ∧ r.2.mem ((c.tc : Thread Cert.ReferenceAIdeal.nD Cert.ReferenceAIdeal.τ).loc Cert.ReferenceAIdeal.main_arg7) = m' ((c.tc : Thread Cert.ReferenceAIdeal.nD Cert.ReferenceAIdeal.τ).loc Cert.ReferenceAIdeal.main_arg7)
          ∧ r.2.mem ((c.tc : Thread Cert.ReferenceAIdeal.nD Cert.ReferenceAIdeal.τ).loc Cert.ReferenceAIdeal.main_arg8) = m' ((c.tc : Thread Cert.ReferenceAIdeal.nD Cert.ReferenceAIdeal.τ).loc Cert.ReferenceAIdeal.main_arg8)
          ∧ r.2.mem ((c.tc : Thread Cert.ReferenceAIdeal.nD Cert.ReferenceAIdeal.τ).loc Cert.ReferenceAIdeal.main_arg9) = m' ((c.tc : Thread Cert.ReferenceAIdeal.nD Cert.ReferenceAIdeal.τ).loc Cert.ReferenceAIdeal.main_arg9)
          ∧ r.2.mem ((c.tc : Thread Cert.ReferenceAIdeal.nD Cert.ReferenceAIdeal.τ).loc Cert.ReferenceAIdeal.main_arg10) = m' ((c.tc : Thread Cert.ReferenceAIdeal.nD Cert.ReferenceAIdeal.τ).loc Cert.ReferenceAIdeal.main_arg10)
          ∧ r.2.mem ((c.tc : Thread Cert.ReferenceAIdeal.nD Cert.ReferenceAIdeal.τ).loc Cert.ReferenceAIdeal.main_arg11) = m' ((c.tc : Thread Cert.ReferenceAIdeal.nD Cert.ReferenceAIdeal.τ).loc Cert.ReferenceAIdeal.main_arg11)
          ∧ r.2.mem ((c.tc : Thread Cert.ReferenceAIdeal.nD Cert.ReferenceAIdeal.τ).loc Cert.ReferenceAIdeal.main_arg12) = m' ((c.tc : Thread Cert.ReferenceAIdeal.nD Cert.ReferenceAIdeal.τ).loc Cert.ReferenceAIdeal.main_arg12)
          ∧ r.2.mem ((c.tc : Thread Cert.ReferenceAIdeal.nD Cert.ReferenceAIdeal.τ).loc Cert.ReferenceAIdeal.main_arg13) = m' ((c.tc : Thread Cert.ReferenceAIdeal.nD Cert.ReferenceAIdeal.τ).loc Cert.ReferenceAIdeal.main_arg13)
          ∧ r.2.mem ((c.tc : Thread Cert.ReferenceAIdeal.nD Cert.ReferenceAIdeal.τ).loc Cert.ReferenceAIdeal.main_arg14) = m' ((c.tc : Thread Cert.ReferenceAIdeal.nD Cert.ReferenceAIdeal.τ).loc Cert.ReferenceAIdeal.main_arg14)
          ∧ r.2.mem ((c.tc : Thread Cert.ReferenceAIdeal.nD Cert.ReferenceAIdeal.τ).loc Cert.ReferenceAIdeal.main_arg15) = m' ((c.tc : Thread Cert.ReferenceAIdeal.nD Cert.ReferenceAIdeal.τ).loc Cert.ReferenceAIdeal.main_arg15)
          ∧ r.2.mem ((c.tc : Thread Cert.ReferenceAIdeal.nD Cert.ReferenceAIdeal.τ).loc Cert.ReferenceAIdeal.main_arg16) = m' ((c.tc : Thread Cert.ReferenceAIdeal.nD Cert.ReferenceAIdeal.τ).loc Cert.ReferenceAIdeal.main_arg16)
          ∧ r.2.mem ((c.tc : Thread Cert.ReferenceAIdeal.nD Cert.ReferenceAIdeal.τ).loc Cert.ReferenceAIdeal.main_arg17) = m' ((c.tc : Thread Cert.ReferenceAIdeal.nD Cert.ReferenceAIdeal.τ).loc Cert.ReferenceAIdeal.main_arg17)
          ∧ r.2.mem ((c.tc : Thread Cert.ReferenceAIdeal.nD Cert.ReferenceAIdeal.τ).loc Cert.ReferenceAIdeal.main_arg18) = m' ((c.tc : Thread Cert.ReferenceAIdeal.nD Cert.ReferenceAIdeal.τ).loc Cert.ReferenceAIdeal.main_arg18)
          ∧ r.2.mem ((c.tc : Thread Cert.ReferenceAIdeal.nD Cert.ReferenceAIdeal.τ).loc Cert.ReferenceAIdeal.main_arg19) = m' ((c.tc : Thread Cert.ReferenceAIdeal.nD Cert.ReferenceAIdeal.τ).loc Cert.ReferenceAIdeal.main_arg19))

def algebraic_KernelBIdeal_ReferenceBIdeal_pre_stage_b_inputs [hKernelBIdeal : Cert.KernelBIdeal.Facts] [hReferenceBIdeal : Cert.ReferenceBIdeal.Facts] [hPre_stage_b_inputs : Cert.Pre_stage_b_inputs.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_stage_b_inputs m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)) →
    ∃ (v0 : (c : Dev Cert.KernelBIdeal.nD) → Buf (Elt Ideal) ((c.tc : Thread Cert.KernelBIdeal.nD Cert.KernelBIdeal.τ).loc Cert.KernelBIdeal.main_v7_0)) (v1 : (c : Dev Cert.KernelBIdeal.nD) → Buf (Elt Ideal) ((c.tc : Thread Cert.KernelBIdeal.nD Cert.KernelBIdeal.τ).loc Cert.KernelBIdeal.main_v7_1)) (v2 : (c : Dev Cert.KernelBIdeal.nD) → Buf (Elt Ideal) ((c.tc : Thread Cert.KernelBIdeal.nD Cert.KernelBIdeal.τ).loc Cert.KernelBIdeal.main_v7_2)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v7_0) = v0 c
          ∧ r.2.mem ((c.tc : Thread Cert.KernelBIdeal.nD Cert.KernelBIdeal.τ).loc Cert.KernelBIdeal.main_v7_1) = v1 c
          ∧ r.2.mem ((c.tc : Thread Cert.KernelBIdeal.nD Cert.KernelBIdeal.τ).loc Cert.KernelBIdeal.main_v7_2) = v2 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v26) = v0 c
          ∧ r.2.mem ((c.tc : Thread Cert.ReferenceBIdeal.nD Cert.ReferenceBIdeal.τ).loc Cert.ReferenceBIdeal.main_v27) = v1 c
          ∧ r.2.mem ((c.tc : Thread Cert.ReferenceBIdeal.nD Cert.ReferenceBIdeal.τ).loc Cert.ReferenceBIdeal.main_v25) = v2 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3))

def Claim : Prop :=
  ∃ (hKernelA : Cert.KernelA.Facts) (hKernelAIdeal : Cert.KernelAIdeal.Facts) (hReferenceAIdeal : Cert.ReferenceAIdeal.Facts) (hKernelBIdeal : Cert.KernelBIdeal.Facts) (hReferenceBIdeal : Cert.ReferenceBIdeal.Facts) (hPre_stage_a_inputs : Cert.Pre_stage_a_inputs.Facts) (hPre_stage_b_inputs : Cert.Pre_stage_b_inputs.Facts),
    quiescent_KernelA (hKernelA := hKernelA)
    ∧ quiescent_KernelAIdeal (hKernelAIdeal := hKernelAIdeal)
    ∧ quiescent_KernelAIdeal_pre_stage_a_inputs (hKernelAIdeal := hKernelAIdeal) (hPre_stage_a_inputs := hPre_stage_a_inputs)
    ∧ quiescent_ReferenceAIdeal (hReferenceAIdeal := hReferenceAIdeal)
    ∧ quiescent_ReferenceAIdeal_pre_stage_a_inputs (hReferenceAIdeal := hReferenceAIdeal) (hPre_stage_a_inputs := hPre_stage_a_inputs)
    ∧ quiescent_KernelBIdeal (hKernelBIdeal := hKernelBIdeal)
    ∧ quiescent_KernelBIdeal_pre_stage_b_inputs (hKernelBIdeal := hKernelBIdeal) (hPre_stage_b_inputs := hPre_stage_b_inputs)
    ∧ quiescent_ReferenceBIdeal (hReferenceBIdeal := hReferenceBIdeal)
    ∧ quiescent_ReferenceBIdeal_pre_stage_b_inputs (hReferenceBIdeal := hReferenceBIdeal) (hPre_stage_b_inputs := hPre_stage_b_inputs)
    ∧ preserves_KernelA_KernelAIdeal
    ∧ algebraic_KernelAIdeal_ReferenceAIdeal_pre_stage_a_inputs (hKernelAIdeal := hKernelAIdeal) (hReferenceAIdeal := hReferenceAIdeal) (hPre_stage_a_inputs := hPre_stage_a_inputs)
    ∧ algebraic_KernelBIdeal_ReferenceBIdeal_pre_stage_b_inputs (hKernelBIdeal := hKernelBIdeal) (hReferenceBIdeal := hReferenceBIdeal) (hPre_stage_b_inputs := hPre_stage_b_inputs)
-- ==== Pre_stage_a_inputs.lean ====
abbrev S16x64x1024 : Shape := ⟨3, ![16, 64, 1024]⟩
abbrev S16x64 : Shape := ⟨2, ![16, 64]⟩
abbrev S1024 : Shape := ⟨1, ![1024]⟩
abbrev S1024x1024 : Shape := ⟨2, ![1024, 1024]⟩
abbrev S2048 : Shape := ⟨1, ![2048]⟩
abbrev S2048x1024 : Shape := ⟨2, ![2048, 1024]⟩
abbrev S1024x1 : Shape := ⟨2, ![1024, 1]⟩
abbrev S1 : Shape := ⟨1, ![1]⟩
abbrev S_ : Shape := ⟨0, ![]⟩

class Facts : Prop where
  bcast_S_S16x64 : S_.BroadcastsInDim S16x64 (![] : Fin 0 → Fin S16x64.rank)
  bcast_S_S16x64x1024 : S_.BroadcastsInDim S16x64x1024 (![] : Fin 0 → Fin S16x64x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S2048 : S_.BroadcastsInDim S2048 (![] : Fin 0 → Fin S2048.rank)
  bcast_S_S2048x1024 : S_.BroadcastsInDim S2048x1024 (![] : Fin 0 → Fin S2048x1024.rank)
  bcast_S_S1024x1 : S_.BroadcastsInDim S1024x1 (![] : Fin 0 → Fin S1024x1.rank)
  bcast_S_S1 : S_.BroadcastsInDim S1 (![] : Fin 0 → Fin S1.rank)

variable [Facts]

def fn_part2 {F : FTy → Type} [FloatOps F] (main_arg13 : FVec F S1 .f32) (main_arg14 : FVec F S2048 .f32) (main_arg15 : FVec F S2048 .f32) (main_arg16 : FVec F S2048x1024 .f32) (main_arg17 : FVec F S1024 .f32) (main_arg18 : FVec F S1024x1024 .f32) (main_arg19 : FVec F S1024 .f32) (main_v1 : IVec S16x64 1) (main_v3 : IVec S16x64 1) (main_v6 : IVec S16x64x1024 1) (main_v8 : IVec S1024 1) (main_v10 : IVec S1024 1) (main_v13 : IVec S1024x1024 1) (main_v15 : IVec S1024 1) (main_v18 : IVec S1024x1024 1) (main_v20 : IVec S1024 1) (main_v22 : IVec S2048 1) (main_v24 : IVec S2048 1) (main_v27 : IVec S2048x1024 1) (main_v29 : IVec S1024 1) (main_v32 : IVec S1024x1 1) (main_cst_13 : FVec F S_ .f32) : IVec S16x64 1 × IVec S16x64 1 × IVec S16x64x1024 1 × IVec S1024 1 × IVec S1024 1 × IVec S1024x1024 1 × IVec S1024 1 × IVec S1024x1024 1 × IVec S1024 1 × IVec S2048 1 × IVec S2048 1 × IVec S2048x1024 1 × IVec S1024 1 × IVec S1024x1 1 × IVec S1 1 × IVec S2048 1 × IVec S2048 1 × IVec S2048x1024 1 × IVec S1024 1 × IVec S1024x1024 1 × IVec S1024 1 :=
  let main_v33 : FVec F S1 .f32 := broadcastInDim S1 ![] bcast_S_S1 main_cst_13
  let main_v34 : IVec S1 1 := cmpf .oeq main_arg13 main_v33
  let main_cst_14 : FVec F S_ .f32 := constant S_ .f32 0x3F800000#32
  let main_v35 : FVec F S2048 .f32 := broadcastInDim S2048 ![] bcast_S_S2048 main_cst_14
  let main_v36 : IVec S2048 1 := cmpf .oeq main_arg14 main_v35
  let main_cst_15 : FVec F S_ .f32 := constant S_ .f32 0x00000000#32
  let main_v37 : FVec F S2048 .f32 := broadcastInDim S2048 ![] bcast_S_S2048 main_cst_15
  let main_v38 : IVec S2048 1 := cmpf .oeq main_arg15 main_v37
  let main_v39 : FVec F S2048x1024 .f32 := Host.absf main_arg16
  let main_cst_16 : FVec F S_ .f32 := constant S_ .f32 0x7F800000#32
  let main_v40 : FVec F S2048x1024 .f32 := broadcastInDim S2048x1024 ![] bcast_S_S2048x1024 main_cst_16
  let main_v41 : IVec S2048x1024 1 := cmpf .olt main_v39 main_v40
  let main_cst_17 : FVec F S_ .f32 := constant S_ .f32 0x00000000#32
  let main_v42 : FVec F S1024 .f32 := broadcastInDim S1024 ![] bcast_S_S1024 main_cst_17
  let main_v43 : IVec S1024 1 := cmpf .oeq main_arg17 main_v42
  let main_v44 : FVec F S1024x1024 .f32 := Host.absf main_arg18
  let main_cst_18 : FVec F S_ .f32 := constant S_ .f32 0x7F800000#32
  let main_v45 : FVec F S1024x1024 .f32 := broadcastInDim S1024x1024 ![] bcast_S_S1024x1024 main_cst_18
  let main_v46 : IVec S1024x1024 1 := cmpf .olt main_v44 main_v45
  let main_cst_19 : FVec F S_ .f32 := constant S_ .f32 0x00000000#32
  let main_v47 : FVec F S1024 .f32 := broadcastInDim S1024 ![] bcast_S_S1024 main_cst_19
  let main_v48 : IVec S1024 1 := cmpf .oeq main_arg19 main_v47
  (main_v1, main_v3, main_v6, main_v8, main_v10, main_v13, main_v15, main_v18, main_v20, main_v22, main_v24, main_v27, main_v29, main_v32, main_v34, main_v36, main_v38, main_v41, main_v43, main_v46, main_v48)

def fn_part1 {F : FTy → Type} [FloatOps F] (main_arg7 : FVec F S1024 .f32) (main_arg8 : FVec F S2048 .f32) (main_arg9 : FVec F S2048 .f32) (main_arg10 : FVec F S2048x1024 .f32) (main_arg11 : FVec F S1024 .f32) (main_arg12 : FVec F S1024x1 .f32) (main_arg13 : FVec F S1 .f32) (main_arg14 : FVec F S2048 .f32) (main_arg15 : FVec F S2048 .f32) (main_arg16 : FVec F S2048x1024 .f32) (main_arg17 : FVec F S1024 .f32) (main_arg18 : FVec F S1024x1024 .f32) (main_arg19 : FVec F S1024 .f32) (main_v1 : IVec S16x64 1) (main_v3 : IVec S16x64 1) (main_v6 : IVec S16x64x1024 1) (main_v8 : IVec S1024 1) (main_v10 : IVec S1024 1) (main_v13 : IVec S1024x1024 1) (main_v15 : IVec S1024 1) (main_v16 : FVec F S1024x1024 .f32) : IVec S16x64 1 × IVec S16x64 1 × IVec S16x64x1024 1 × IVec S1024 1 × IVec S1024 1 × IVec S1024x1024 1 × IVec S1024 1 × IVec S1024x1024 1 × IVec S1024 1 × IVec S2048 1 × IVec S2048 1 × IVec S2048x1024 1 × IVec S1024 1 × IVec S1024x1 1 × IVec S1 1 × IVec S2048 1 × IVec S2048 1 × IVec S2048x1024 1 × IVec S1024 1 × IVec S1024x1024 1 × IVec S1024 1 :=
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_cst_7 : FVec F S_ .f32 := constant S_ .f32 0x00000000#32
  let main_v19 : FVec F S1024 .f32 := broadcastInDim S1024 ![] bcast_S_S1024 main_cst_7
  let main_v20 : IVec S1024 1 := cmpf .oeq main_arg7 main_v19
  let main_cst_8 : FVec F S_ .f32 := constant S_ .f32 0x3F800000#32
  let main_v21 : FVec F S2048 .f32 := broadcastInDim S2048 ![] bcast_S_S2048 main_cst_8
  let main_v22 : IVec S2048 1 := cmpf .oeq main_arg8 main_v21
  let main_cst_9 : FVec F S_ .f32 := constant S_ .f32 0x00000000#32
  let main_v23 : FVec F S2048 .f32 := broadcastInDim S2048 ![] bcast_S_S2048 main_cst_9
  let main_v24 : IVec S2048 1 := cmpf .oeq main_arg9 main_v23
  let main_v25 : FVec F S2048x1024 .f32 := Host.absf main_arg10
  let main_cst_10 : FVec F S_ .f32 := constant S_ .f32 0x7F800000#32
  let main_v26 : FVec F S2048x1024 .f32 := broadcastInDim S2048x1024 ![] bcast_S_S2048x1024 main_cst_10
  let main_v27 : IVec S2048x1024 1 := cmpf .olt main_v25 main_v26
  let main_cst_11 : FVec F S_ .f32 := constant S_ .f32 0x00000000#32
  let main_v28 : FVec F S1024 .f32 := broadcastInDim S1024 ![] bcast_S_S1024 main_cst_11
  let main_v29 : IVec S1024 1 := cmpf .oeq main_arg11 main_v28
  let main_v30 : FVec F S1024x1 .f32 := Host.absf main_arg12
  let main_cst_12 : FVec F S_ .f32 := constant S_ .f32 0x7F800000#32
  let main_v31 : FVec F S1024x1 .f32 := broadcastInDim S1024x1 ![] bcast_S_S1024x1 main_cst_12
  let main_v32 : IVec S1024x1 1 := cmpf .olt main_v30 main_v31
  let main_cst_13 : FVec F S_ .f32 := constant S_ .f32 0x00000000#32
  fn_part2 (F := F) main_arg13 main_arg14 main_arg15 main_arg16 main_arg17 main_arg18 main_arg19 main_v1 main_v3 main_v6 main_v8 main_v10 main_v13 main_v15 main_v18 main_v20 main_v22 main_v24 main_v27 main_v29 main_v32 main_cst_13

def fn {F : FTy → Type} [FloatOps F] (main_arg0 : FVec F S16x64x1024 .f32) (main_arg1 : FVec F S16x64 .f32) (main_arg2 : FVec F S1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S2048 .f32) (main_arg9 : FVec F S2048 .f32) (main_arg10 : FVec F S2048x1024 .f32) (main_arg11 : FVec F S1024 .f32) (main_arg12 : FVec F S1024x1 .f32) (main_arg13 : FVec F S1 .f32) (main_arg14 : FVec F S2048 .f32) (main_arg15 : FVec F S2048 .f32) (main_arg16 : FVec F S2048x1024 .f32) (main_arg17 : FVec F S1024 .f32) (main_arg18 : FVec F S1024x1024 .f32) (main_arg19 : FVec F S1024 .f32) : IVec S16x64 1 × IVec S16x64 1 × IVec S16x64x1024 1 × IVec S1024 1 × IVec S1024 1 × IVec S1024x1024 1 × IVec S1024 1 × IVec S1024x1024 1 × IVec S1024 1 × IVec S2048 1 × IVec S2048 1 × IVec S2048x1024 1 × IVec S1024 1 × IVec S1024x1 1 × IVec S1 1 × IVec S2048 1 × IVec S2048 1 × IVec S2048x1024 1 × IVec S1024 1 × IVec S1024x1024 1 × IVec S1024 1 :=
  let main_cst : FVec F S_ .f32 := constant S_ .f32 0x00000000#32
  let main_v0 : FVec F S16x64 .f32 := broadcastInDim S16x64 ![] bcast_S_S16x64 main_cst
  let main_v1 : IVec S16x64 1 := cmpf .ogt main_arg1 main_v0
  let main_cst_0 : FVec F S_ .f32 := constant S_ .f32 0x3F800000#32
  let main_v2 : FVec F S16x64 .f32 := broadcastInDim S16x64 ![] bcast_S_S16x64 main_cst_0
  let main_v3 : IVec S16x64 1 := cmpf .olt main_arg1 main_v2
  let main_v4 : FVec F S16x64x1024 .f32 := Host.absf main_arg0
  let main_cst_1 : FVec F S_ .f32 := constant S_ .f32 0x7F800000#32
  let main_v5 : FVec F S16x64x1024 .f32 := broadcastInDim S16x64x1024 ![] bcast_S_S16x64x1024 main_cst_1
  let main_v6 : IVec S16x64x1024 1 := cmpf .olt main_v4 main_v5
  let main_cst_2 : FVec F S_ .f32 := constant S_ .f32 0x3F800000#32
  let main_v7 : FVec F S1024 .f32 := broadcastInDim S1024 ![] bcast_S_S1024 main_cst_2
  let main_v8 : IVec S1024 1 := cmpf .oeq main_arg2 main_v7
  let main_cst_3 : FVec F S_ .f32 := constant S_ .f32 0x00000000#32
  let main_v9 : FVec F S1024 .f32 := broadcastInDim S1024 ![] bcast_S_S1024 main_cst_3
  let main_v10 : IVec S1024 1 := cmpf .oeq main_arg3 main_v9
  let main_v11 : FVec F S1024x1024 .f32 := Host.absf main_arg4
  let main_cst_4 : FVec F S_ .f32 := constant S_ .f32 0x7F800000#32
  let main_v12 : FVec F S1024x1024 .f32 := broadcastInDim S1024x1024 ![] bcast_S_S1024x1024 main_cst_4
  let main_v13 : IVec S1024x1024 1 := cmpf .olt main_v11 main_v12
  let main_cst_5 : FVec F S_ .f32 := constant S_ .f32 0x00000000#32
  let main_v14 : FVec F S1024 .f32 := broadcastInDim S1024 ![] bcast_S_S1024 main_cst_5
  let main_v15 : IVec S1024 1 := cmpf .oeq main_arg5 main_v14
  let main_v16 : FVec F S1024x1024 .f32 := Host.absf main_arg6
  fn_part1 (F := F) main_arg7 main_arg8 main_arg9 main_arg10 main_arg11 main_arg12 main_arg13 main_arg14 main_arg15 main_arg16 main_arg17 main_arg18 main_arg19 main_v1 main_v3 main_v6 main_v8 main_v10 main_v13 main_v15 main_v16
-- ==== Pre_stage_b_inputs.lean ====
abbrev S16x4096x1024 : Shape := ⟨3, ![16, 4096, 1024]⟩
abbrev S16x1024 : Shape := ⟨2, ![16, 1024]⟩
abbrev S16x4096 : Shape := ⟨2, ![16, 4096]⟩
abbrev S_ : Shape := ⟨0, ![]⟩

class Facts : Prop where
  bcast_S_S16x4096 : S_.BroadcastsInDim S16x4096 (![] : Fin 0 → Fin S16x4096.rank)
  bcast_S_S16x4096x1024 : S_.BroadcastsInDim S16x4096x1024 (![] : Fin 0 → Fin S16x4096x1024.rank)
  bcast_S_S16x1024 : S_.BroadcastsInDim S16x1024 (![] : Fin 0 → Fin S16x1024.rank)

variable [Facts]

def fn {F : FTy → Type} [FloatOps F] (main_arg0 : FVec F S16x4096x1024 .f32) (main_arg1 : FVec F S16x1024 .f32) (main_arg2 : FVec F S16x4096 .f32) (main_arg3 : FVec F S16x4096 .f32) : IVec S16x4096 1 × IVec S16x4096 1 × IVec S16x4096x1024 1 × IVec S16x1024 1 × IVec S16x4096 1 :=
  let main_cst : FVec F S_ .f32 := constant S_ .f32 0x00000000#32
  let main_v0 : FVec F S16x4096 .f32 := broadcastInDim S16x4096 ![] bcast_S_S16x4096 main_cst
  let main_v1 : IVec S16x4096 1 := cmpf .ogt main_arg3 main_v0
  let main_cst_0 : FVec F S_ .f32 := constant S_ .f32 0x3F800000#32
  let main_v2 : FVec F S16x4096 .f32 := broadcastInDim S16x4096 ![] bcast_S_S16x4096 main_cst_0
  let main_v3 : IVec S16x4096 1 := cmpf .olt main_arg3 main_v2
  let main_v4 : FVec F S16x4096x1024 .f32 := Host.absf main_arg0
  let main_cst_1 : FVec F S_ .f32 := constant S_ .f32 0x7F800000#32
  let main_v5 : FVec F S16x4096x1024 .f32 := broadcastInDim S16x4096x1024 ![] bcast_S_S16x4096x1024 main_cst_1
  let main_v6 : IVec S16x4096x1024 1 := cmpf .olt main_v4 main_v5
  let main_v7 : FVec F S16x1024 .f32 := Host.absf main_arg1
  let main_cst_2 : FVec F S_ .f32 := constant S_ .f32 0x7F800000#32
  let main_v8 : FVec F S16x1024 .f32 := broadcastInDim S16x1024 ![] bcast_S_S16x1024 main_cst_2
  let main_v9 : IVec S16x1024 1 := cmpf .olt main_v7 main_v8
  let main_v10 : FVec F S16x4096 .f32 := Host.absf main_arg2
  let main_cst_3 : FVec F S_ .f32 := constant S_ .f32 0x7F800000#32
  let main_v11 : FVec F S16x4096 .f32 := broadcastInDim S16x4096 ![] bcast_S_S16x4096 main_cst_3
  let main_v12 : IVec S16x4096 1 := cmpf .olt main_v10 main_v11
  (main_v1, main_v3, main_v6, main_v9, main_v12)
-- ==== KernelA.lean ====
abbrev S16x64x1024 : Shape := ⟨3, ![16, 64, 1024]⟩
abbrev S16x64 : Shape := ⟨2, ![16, 64]⟩
abbrev S1024 : Shape := ⟨1, ![1024]⟩
abbrev S1024x1024 : Shape := ⟨2, ![1024, 1024]⟩
abbrev S2048 : Shape := ⟨1, ![2048]⟩
abbrev S2048x1024 : Shape := ⟨2, ![2048, 1024]⟩
abbrev S1024x1 : Shape := ⟨2, ![1024, 1]⟩
abbrev S1 : Shape := ⟨1, ![1]⟩
abbrev S16x1024 : Shape := ⟨2, ![16, 1024]⟩
abbrev S16x48x1024 : Shape := ⟨3, ![16, 48, 1024]⟩
abbrev S16x48x64 : Shape := ⟨3, ![16, 48, 64]⟩
abbrev S16 : Shape := ⟨1, ![16]⟩
abbrev S16x1 : Shape := ⟨2, ![16, 1]⟩
abbrev S16x1x1024 : Shape := ⟨3, ![16, 1, 1024]⟩
abbrev S16x64x2048 : Shape := ⟨3, ![16, 64, 2048]⟩
abbrev S1024x2048 : Shape := ⟨2, ![1024, 2048]⟩
abbrev S16x1x64 : Shape := ⟨3, ![16, 1, 64]⟩
abbrev S1x48x64 : Shape := ⟨3, ![1, 48, 64]⟩
abbrev S48x64 : Shape := ⟨2, ![48, 64]⟩
abbrev S1x64x1024 : Shape := ⟨3, ![1, 64, 1024]⟩
abbrev S64x1024 : Shape := ⟨2, ![64, 1024]⟩
abbrev S48x1024 : Shape := ⟨2, ![48, 1024]⟩
abbrev S1x48x1024 : Shape := ⟨3, ![1, 48, 1024]⟩

abbrev nBuf : Space → Nat
  | .hbm => 34
  | .vmem => 13
  | .smem => 0
  | _ => 0

abbrev bufTy : (tb : Table) → Fin (tcTables nBuf tb) → BufTy
  | .hbm, ⟨0, _⟩ => ⟨S16x64x1024, .f32⟩
  | .hbm, ⟨1, _⟩ => ⟨S16x64, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S2048, .f32⟩
  | .hbm, ⟨15, _⟩ => ⟨S2048, .f32⟩
  | .hbm, ⟨16, _⟩ => ⟨S2048x1024, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S1024x1024, .bf16⟩
  | .hbm, ⟨25, _⟩ => ⟨S1024x1024, .bf16⟩
  | .hbm, ⟨26, _⟩ => ⟨S2048x1024, .bf16⟩
  | .hbm, ⟨27, _⟩ => ⟨S1024x1024, .bf16⟩
  | .hbm, ⟨28, _⟩ => ⟨S2048x1024, .bf16⟩
  | .hbm, ⟨29, _⟩ => ⟨S1024x1, .bf16⟩
  | .hbm, ⟨30, _⟩ => ⟨S16x1024, .f32⟩
  | .hbm, ⟨31, _⟩ => ⟨S16x64, .f32⟩
  | .hbm, ⟨32, _⟩ => ⟨S16x64, .f32⟩
  | .hbm, ⟨33, _⟩ => ⟨S16x48x1024, .f32⟩
  | .local _ .vmem, ⟨0, _⟩ => ⟨S16x64x1024, .f32⟩
  | .local _ .vmem, ⟨1, _⟩ => ⟨S16x64, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S1024x1024, .bf16⟩
  | .local _ .vmem, ⟨6, _⟩ => ⟨S2048x1024, .bf16⟩
  | .local _ .vmem, ⟨7, _⟩ => ⟨S1024x1, .bf16⟩
  | .local _ .vmem, ⟨8, _⟩ => ⟨S16x1024, .f32⟩
  | .local _ .vmem, ⟨9, _⟩ => ⟨S16x64, .f32⟩
  | .local _ .vmem, ⟨10, _⟩ => ⟨S16x64, .f32⟩
  | .local _ .vmem, ⟨11, _⟩ => ⟨S16x48x1024, .f32⟩
  | .local _ .vmem, ⟨12, _⟩ => ⟨S16x48x64, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_v10_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x48x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelAIdeal.lean ====
variable {F : FTy → Type} [FloatOps F] [Named F]
def κ : String → Option EReal := fun
  | "sqrt2" => some ((Real.sqrt 2 : ℝ) : EReal)
  | _ => none
-- ==== ReferenceAIdeal.lean ====
abbrev S16x64x1024 : Shape := ⟨3, ![16, 64, 1024]⟩
abbrev S16x64 : Shape := ⟨2, ![16, 64]⟩
abbrev S1024 : Shape := ⟨1, ![1024]⟩
abbrev S1024x1024 : Shape := ⟨2, ![1024, 1024]⟩
abbrev S2048 : Shape := ⟨1, ![2048]⟩
abbrev S2048x1024 : Shape := ⟨2, ![2048, 1024]⟩
abbrev S1024x1 : Shape := ⟨2, ![1024, 1]⟩
abbrev S1 : Shape := ⟨1, ![1]⟩
abbrev S_ : Shape := ⟨0, ![]⟩
abbrev S16x1024 : Shape := ⟨2, ![16, 1024]⟩
abbrev S16 : Shape := ⟨1, ![16]⟩
abbrev S16x1 : Shape := ⟨2, ![16, 1]⟩
abbrev S1x1024 : Shape := ⟨2, ![1, 1024]⟩
abbrev S16x1x1024 : Shape := ⟨3, ![16, 1, 1024]⟩
abbrev S16x64x2048 : Shape := ⟨3, ![16, 64, 2048]⟩
abbrev S16x64x1 : Shape := ⟨3, ![16, 64, 1]⟩
abbrev S1x1x2048 : Shape := ⟨3, ![1, 1, 2048]⟩
abbrev S1x1x1024 : Shape := ⟨3, ![1, 1, 1024]⟩
abbrev S1x1x1 : Shape := ⟨3, ![1, 1, 1]⟩
abbrev S16x48 : Shape := ⟨2, ![16, 48]⟩
abbrev S16x48x1 : Shape := ⟨3, ![16, 48, 1]⟩
abbrev S16x48x1024 : Shape := ⟨3, ![16, 48, 1024]⟩

abbrev nBuf : Space → Nat
  | .hbm => 273
  | .vmem => 0
  | .smem => 0
  | _ => 0

abbrev hbmTy0_0 (i : Nat) : BufTy := match i % 128 with
  | 0 => ⟨S16x64x1024, .f32⟩
  | 1 => ⟨S16x64, .f32⟩
  | 2 => ⟨S1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S2048, .f32⟩
  | 9 => ⟨S2048, .f32⟩
  | 10 => ⟨S2048x1024, .f32⟩
  | 11 => ⟨S1024, .f32⟩
  | 12 => ⟨S1024x1, .f32⟩
  | 13 => ⟨S1, .f32⟩
  | 14 => ⟨S2048, .f32⟩
  | 15 => ⟨S2048, .f32⟩
  | 16 => ⟨S2048x1024, .f32⟩
  | 17 => ⟨S1024, .f32⟩
  | 18 => ⟨S1024x1024, .f32⟩
  | 19 => ⟨S1024, .f32⟩
  | 20 => ⟨S_, .f32⟩
  | 21 => ⟨S16x1024, .f32⟩
  | 22 => ⟨S_, .f32⟩
  | 23 => ⟨S16x1024, .f32⟩
  | 24 => ⟨S16x1024, .f32⟩
  | 25 => ⟨S_, .f32⟩
  | 26 => ⟨S16, .f32⟩
  | 27 => ⟨S16x1, .f32⟩
  | 28 => ⟨S_, .f32⟩
  | 29 => ⟨S16x1, .f32⟩
  | 30 => ⟨S16x1, .f32⟩
  | 31 => ⟨S16x1024, .f32⟩
  | 32 => ⟨S16x1024, .f32⟩
  | 33 => ⟨S16x1024, .f32⟩
  | 34 => ⟨S_, .f32⟩
  | 35 => ⟨S16, .f32⟩
  | 36 => ⟨S16x1, .f32⟩
  | 37 => ⟨S_, .f32⟩
  | 38 => ⟨S16x1, .f32⟩
  | 39 => ⟨S16x1, .f32⟩
  | 40 => ⟨S16x1024, .f32⟩
  | 41 => ⟨S16x1024, .f32⟩
  | 42 => ⟨S_, .f32⟩
  | 43 => ⟨S16x1, .f32⟩
  | 44 => ⟨S16x1, .f32⟩
  | 45 => ⟨S16x1, .f32⟩
  | 46 => ⟨S16x1024, .f32⟩
  | 47 => ⟨S16x1024, .f32⟩
  | 48 => ⟨S1x1024, .f32⟩
  | 49 => ⟨S16x1024, .f32⟩
  | 50 => ⟨S16x1024, .f32⟩
  | 51 => ⟨S1x1024, .f32⟩
  | 52 => ⟨S16x1024, .f32⟩
  | 53 => ⟨S16x1024, .f32⟩
  | 54 => ⟨S16x1024, .f32⟩
  | 55 => ⟨S1x1024, .f32⟩
  | 56 => ⟨S16x1024, .f32⟩
  | 57 => ⟨S16x1024, .f32⟩
  | 58 => ⟨S_, .f32⟩
  | 59 => ⟨S16x1024, .f32⟩
  | 60 => ⟨S16x1024, .f32⟩
  | 61 => ⟨S16x1024, .f32⟩
  | 62 => ⟨S_, .f32⟩
  | 63 => ⟨S_, .f32⟩
  | 64 => ⟨S16x1024, .f32⟩
  | 65 => ⟨S16x1024, .f32⟩
  | 66 => ⟨S16x1024, .f32⟩
  | 67 => ⟨S16x1024, .f32⟩
  | 68 => ⟨S16x1024, .f32⟩
  | 69 => ⟨S1x1024, .f32⟩
  | 70 => ⟨S16x1024, .f32⟩
  | 71 => ⟨S16x1024, .f32⟩
  | 72 => ⟨S16x1x1024, .f32⟩
  | 73 => ⟨S16x64x1024, .f32⟩
  | 74 => ⟨S16x64x2048, .f32⟩
  | 75 => ⟨S_, .f32⟩
  | 76 => ⟨S16x64, .f32⟩
  | 77 => ⟨S16x64x1, .f32⟩
  | 78 => ⟨S_, .f32⟩
  | 79 => ⟨S16x64x1, .f32⟩
  | 80 => ⟨S16x64x1, .f32⟩
  | 81 => ⟨S16x64x2048, .f32⟩
  | 82 => ⟨S16x64x2048, .f32⟩
  | 83 => ⟨S16x64x2048, .f32⟩
  | 84 => ⟨S_, .f32⟩
  | 85 => ⟨S16x64, .f32⟩
  | 86 => ⟨S16x64x1, .f32⟩
  | 87 => ⟨S_, .f32⟩
  | 88 => ⟨S16x64x1, .f32⟩
  | 89 => ⟨S16x64x1, .f32⟩
  | 90 => ⟨S16x64x2048, .f32⟩
  | 91 => ⟨S16x64x2048, .f32⟩
  | 92 => ⟨S_, .f32⟩
  | 93 => ⟨S16x64x1, .f32⟩
  | 94 => ⟨S16x64x1, .f32⟩
  | 95 => ⟨S16x64x1, .f32⟩
  | 96 => ⟨S16x64x2048, .f32⟩
  | 97 => ⟨S16x64x2048, .f32⟩
  | 98 => ⟨S1x1x2048, .f32⟩
  | 99 => ⟨S16x64x2048, .f32⟩
  | 100 => ⟨S16x64x2048, .f32⟩
  | 101 => ⟨S1x1x2048, .f32⟩
  | 102 => ⟨S16x64x2048, .f32⟩
  | 103 => ⟨S16x64x2048, .f32⟩
  | 104 => ⟨S16x64x1024, .f32⟩
  | 105 => ⟨S1x1x1024, .f32⟩
  | 106 => ⟨S16x64x1024, .f32⟩
  | 107 => ⟨S16x64x1024, .f32⟩
  | 108 => ⟨S_, .f32⟩
  | 109 => ⟨S16x64x1024, .f32⟩
  | 110 => ⟨S16x64x1024, .f32⟩
  | 111 => ⟨S16x64x1024, .f32⟩
  | 112 => ⟨S_, .f32⟩
  | 113 => ⟨S_, .f32⟩
  | 114 => ⟨S16x64x1024, .f32⟩
  | 115 => ⟨S16x64x1024, .f32⟩
  | 116 => ⟨S16x64x1024, .f32⟩
  | 117 => ⟨S16x64x1024, .f32⟩
  | 118 => ⟨S16x64x1024, .f32⟩
  | 119 => ⟨S1x1x1024, .f32⟩
  | 120 => ⟨S16x64x1024, .f32⟩
  | 121 => ⟨S16x64x1024, .f32⟩
  | 122 => ⟨S16x64x1024, .f32⟩
  | 123 => ⟨S_, .f32⟩
  | 124 => ⟨S16x1024, .f32⟩
  | 125 => ⟨S_, .f32⟩
  | 126 => ⟨S16x1024, .f32⟩
  | 127 => ⟨S16x1024, .f32⟩
  | _ => ⟨S16x64x1024, .f32⟩

abbrev hbmTy0_1 (i : Nat) : BufTy := match i % 128 with
  | 0 => ⟨S_, .f32⟩
  | 1 => ⟨S16, .f32⟩
  | 2 => ⟨S16x1, .f32⟩
  | 3 => ⟨S_, .f32⟩
  | 4 => ⟨S16x1, .f32⟩
  | 5 => ⟨S16x1, .f32⟩
  | 6 => ⟨S16x1024, .f32⟩
  | 7 => ⟨S16x1024, .f32⟩
  | 8 => ⟨S16x1024, .f32⟩
  | 9 => ⟨S_, .f32⟩
  | 10 => ⟨S16, .f32⟩
  | 11 => ⟨S16x1, .f32⟩
  | 12 => ⟨S_, .f32⟩
  | 13 => ⟨S16x1, .f32⟩
  | 14 => ⟨S16x1, .f32⟩
  | 15 => ⟨S16x1024, .f32⟩
  | 16 => ⟨S16x1024, .f32⟩
  | 17 => ⟨S_, .f32⟩
  | 18 => ⟨S16x1, .f32⟩
  | 19 => ⟨S16x1, .f32⟩
  | 20 => ⟨S16x1, .f32⟩
  | 21 => ⟨S16x1024, .f32⟩
  | 22 => ⟨S16x1024, .f32⟩
  | 23 => ⟨S1x1024, .f32⟩
  | 24 => ⟨S16x1024, .f32⟩
  | 25 => ⟨S16x1024, .f32⟩
  | 26 => ⟨S1x1024, .f32⟩
  | 27 => ⟨S16x1024, .f32⟩
  | 28 => ⟨S16x1024, .f32⟩
  | 29 => ⟨S16x1024, .f32⟩
  | 30 => ⟨S1x1024, .f32⟩
  | 31 => ⟨S16x1024, .f32⟩
  | 32 => ⟨S16x1024, .f32⟩
  | 33 => ⟨S_, .f32⟩
  | 34 => ⟨S16x1024, .f32⟩
  | 35 => ⟨S16x1024, .f32⟩
  | 36 => ⟨S16x1024, .f32⟩
  | 37 => ⟨S_, .f32⟩
  | 38 => ⟨S_, .f32⟩
  | 39 => ⟨S16x1024, .f32⟩
  | 40 => ⟨S16x1024, .f32⟩
  | 41 => ⟨S16x1024, .f32⟩
  | 42 => ⟨S16x1024, .f32⟩
  | 43 => ⟨S16x1024, .f32⟩
  | 44 => ⟨S1x1024, .f32⟩
  | 45 => ⟨S16x1024, .f32⟩
  | 46 => ⟨S16x1024, .f32⟩
  | 47 => ⟨S16x1x1024, .f32⟩
  | 48 => ⟨S16x64x1024, .f32⟩
  | 49 => ⟨S16x64x2048, .f32⟩
  | 50 => ⟨S_, .f32⟩
  | 51 => ⟨S16x64, .f32⟩
  | 52 => ⟨S16x64x1, .f32⟩
  | 53 => ⟨S_, .f32⟩
  | 54 => ⟨S16x64x1, .f32⟩
  | 55 => ⟨S16x64x1, .f32⟩
  | 56 => ⟨S16x64x2048, .f32⟩
  | 57 => ⟨S16x64x2048, .f32⟩
  | 58 => ⟨S16x64x2048, .f32⟩
  | 59 => ⟨S_, .f32⟩
  | 60 => ⟨S16x64, .f32⟩
  | 61 => ⟨S16x64x1, .f32⟩
  | 62 => ⟨S_, .f32⟩
  | 63 => ⟨S16x64x1, .f32⟩
  | 64 => ⟨S16x64x1, .f32⟩
  | 65 => ⟨S16x64x2048, .f32⟩
  | 66 => ⟨S16x64x2048, .f32⟩
  | 67 => ⟨S_, .f32⟩
  | 68 => ⟨S16x64x1, .f32⟩
  | 69 => ⟨S16x64x1, .f32⟩
  | 70 => ⟨S16x64x1, .f32⟩
  | 71 => ⟨S16x64x2048, .f32⟩
  | 72 => ⟨S16x64x2048, .f32⟩
  | 73 => ⟨S1x1x2048, .f32⟩
  | 74 => ⟨S16x64x2048, .f32⟩
  | 75 => ⟨S16x64x2048, .f32⟩
  | 76 => ⟨S1x1x2048, .f32⟩
  | 77 => ⟨S16x64x2048, .f32⟩
  | 78 => ⟨S16x64x2048, .f32⟩
  | 79 => ⟨S16x64x1024, .f32⟩
  | 80 => ⟨S1x1x1024, .f32⟩
  | 81 => ⟨S16x64x1024, .f32⟩
  | 82 => ⟨S16x64x1024, .f32⟩
  | 83 => ⟨S_, .f32⟩
  | 84 => ⟨S16x64x1024, .f32⟩
  | 85 => ⟨S16x64x1024, .f32⟩
  | 86 => ⟨S16x64x1024, .f32⟩
  | 87 => ⟨S_, .f32⟩
  | 88 => ⟨S_, .f32⟩
  | 89 => ⟨S16x64x1024, .f32⟩
  | 90 => ⟨S16x64x1024, .f32⟩
  | 91 => ⟨S16x64x1024, .f32⟩
  | 92 => ⟨S16x64x1024, .f32⟩
  | 93 => ⟨S16x64x1, .f32⟩
  | 94 => ⟨S1x1x1, .f32⟩
  | 95 => ⟨S16x64x1, .f32⟩
  | 96 => ⟨S16x64x1, .f32⟩
  | 97 => ⟨S16x64, .f32⟩
  | 98 => ⟨S16x64, .f32⟩
  | 99 => ⟨S16x64, .f32⟩
  | 100 => ⟨S16x64, .f32⟩
  | 101 => ⟨S16x64, .f32⟩
  | 102 => ⟨S16x64, .f32⟩
  | 103 => ⟨S_, .f32⟩
  | 104 => ⟨S16x64, .f32⟩
  | 105 => ⟨S16x64, .f32⟩
  | 106 => ⟨S_, .f32⟩
  | 107 => ⟨S16, .f32⟩
  | 108 => ⟨S_, .f32⟩
  | 109 => ⟨S16, .f32⟩
  | 110 => ⟨S16, .f32⟩
  | 111 => ⟨S16x1, .f32⟩
  | 112 => ⟨S16x64, .f32⟩
  | 113 => ⟨S16x64, .f32⟩
  | 114 => ⟨S16x64, .f32⟩
  | 115 => ⟨S_, .f32⟩
  | 116 => ⟨S16, .f32⟩
  | 117 => ⟨S16x1, .f32⟩
  | 118 => ⟨S16x64, .f32⟩
  | 119 => ⟨S16x64, .f32⟩
  | 120 => ⟨S16x48, .f32⟩
  | 121 => ⟨S16x48, .i32⟩
  | 122 => ⟨S16x48x1, .i32⟩
  | 123 => ⟨S_, .i32⟩
  | 124 => ⟨S16x48x1, .i32⟩
  | 125 => ⟨S16x48x1, .i1⟩
  | 126 => ⟨S_, .i32⟩
  | 127 => ⟨S16x48x1, .i32⟩
  | _ => ⟨S16x64x1024, .f32⟩

abbrev hbmTy0_2 (i : Nat) : BufTy := match i % 128 with
  | 0 => ⟨S16x48x1, .i32⟩
  | 1 => ⟨S16x48x1, .i32⟩
  | 2 => ⟨S1, .i32⟩
  | 3 => ⟨S_, .i32⟩
  | 4 => ⟨S16x48x1, .i32⟩
  | 5 => ⟨S16x48x1, .i1⟩
  | 6 => ⟨S1x1x1, .i32⟩
  | 7 => ⟨S16x48x1, .i32⟩
  | 8 => ⟨S16x48x1, .i1⟩
  | 9 => ⟨S16x48x1, .i1⟩
  | 10 => ⟨S_, .i1⟩
  | 11 => ⟨S16x48, .i1⟩
  | 12 => ⟨S16x48x1024, .f32⟩
  | 13 => ⟨S16x48x1024, .i1⟩
  | 14 => ⟨S_, .f32⟩
  | 15 => ⟨S16x48x1024, .f32⟩
  | 16 => ⟨S16x48x1024, .f32⟩
  | _ => ⟨S16x64x1024, .f32⟩

abbrev hbmTy (i : Nat) : BufTy := match i / 128 with
  | 0 => hbmTy0_0 i
  | 1 => hbmTy0_1 i
  | 2 => hbmTy0_2 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_cst_2 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_3 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_15 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_cst_17 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_21 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_22 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_23 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_24 : Ref sig .tc := ⟨.hbm, 178, rfl⟩
abbrev main_v133 : Ref sig .tc := ⟨.hbm, 179, rfl⟩
abbrev main_v134 : Ref sig .tc := ⟨.hbm, 180, rfl⟩
abbrev main_cst_25 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_26 : Ref sig .tc := ⟨.hbm, 187, rfl⟩
abbrev main_v140 : Ref sig .tc := ⟨.hbm, 188, rfl⟩
abbrev main_v141 : Ref sig .tc := ⟨.hbm, 189, rfl⟩
abbrev main_cst_27 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_28 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_29 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_cst_30 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_31 : Ref sig .tc := ⟨.hbm, 231, rfl⟩
abbrev main_v179 : Ref sig .tc := ⟨.hbm, 232, rfl⟩
abbrev main_v180 : Ref sig .tc := ⟨.hbm, 233, rfl⟩
abbrev main_cst_32 : Ref sig .tc := ⟨.hbm, 234, rfl⟩
abbrev main_v181 : Ref sig .tc := ⟨.hbm, 235, rfl⟩
abbrev main_cst_33 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_34 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_values : Ref sig .tc := ⟨.hbm, 248, rfl⟩
abbrev main_indices : Ref sig .tc := ⟨.hbm, 249, rfl⟩
abbrev main_v192 : Ref sig .tc := ⟨.hbm, 250, rfl⟩
abbrev main_call0_c : Ref sig .tc := ⟨.hbm, 251, rfl⟩
abbrev main_call0_v0 : Ref sig .tc := ⟨.hbm, 252, rfl⟩
abbrev main_call0_v1 : Ref sig .tc := ⟨.hbm, 253, rfl⟩
abbrev main_call0_c_0 : Ref sig .tc := ⟨.hbm, 254, rfl⟩
abbrev main_call0_v2 : Ref sig .tc := ⟨.hbm, 255, rfl⟩
abbrev main_call0_v3 : Ref sig .tc := ⟨.hbm, 256, rfl⟩
abbrev main_call0_v4 : Ref sig .tc := ⟨.hbm, 257, rfl⟩
abbrev main_call0_c_1 : Ref sig .tc := ⟨.hbm, 258, rfl⟩
abbrev main_call0_c_2 : Ref sig .tc := ⟨.hbm, 259, rfl⟩
abbrev main_call0_v5 : Ref sig .tc := ⟨.hbm, 260, rfl⟩
abbrev main_call0_v6 : Ref sig .tc := ⟨.hbm, 261, rfl⟩
abbrev main_call0_v7 : Ref sig .tc := ⟨.hbm, 262, rfl⟩
abbrev main_call0_v8 : Ref sig .tc := ⟨.hbm, 263, rfl⟩
abbrev main_call0_v9 : Ref sig .tc := ⟨.hbm, 264, rfl⟩
abbrev main_call0_v10 : Ref sig .tc := ⟨.hbm, 265, rfl⟩
abbrev main_call0_c_3 : Ref sig .tc := ⟨.hbm, 266, rfl⟩
abbrev main_call0_v11 : Ref sig .tc := ⟨.hbm, 267, rfl⟩
abbrev main_call0_v12 : Ref sig .tc := ⟨.hbm, 268, rfl⟩
abbrev main_call0_v13 : Ref sig .tc := ⟨.hbm, 269, rfl⟩
abbrev main_call0_cst : Ref sig .tc := ⟨.hbm, 270, rfl⟩
abbrev main_call0_v14 : Ref sig .tc := ⟨.hbm, 271, rfl⟩
abbrev main_v193 : Ref sig .tc := ⟨.hbm, 272, rfl⟩

abbrev nD : Nat := 1
abbrev τ : Topo := Topo.v7x

variable {F : FTy → Type} [FloatOps F]
-- ==== KernelBIdeal.lean ====
abbrev S16x4096x1024 : Shape := ⟨3, ![16, 4096, 1024]⟩
abbrev S16x1024 : Shape := ⟨2, ![16, 1024]⟩
abbrev S16x4096 : Shape := ⟨2, ![16, 4096]⟩
abbrev S16x1x1024 : Shape := ⟨3, ![16, 1, 1024]⟩
abbrev S16x1x4096 : Shape := ⟨3, ![16, 1, 4096]⟩
abbrev S16x16x1024 : Shape := ⟨3, ![16, 16, 1024]⟩
abbrev S1x4096x1024 : Shape := ⟨3, ![1, 4096, 1024]⟩
abbrev S1x1x1024 : Shape := ⟨3, ![1, 1, 1024]⟩
abbrev S1x1x4096 : Shape := ⟨3, ![1, 1, 4096]⟩
abbrev S1x16x1024 : Shape := ⟨3, ![1, 16, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S1x1x512 : Shape := ⟨3, ![1, 1, 512]⟩
abbrev S1x4096 : Shape := ⟨2, ![1, 4096]⟩
abbrev S1 : Shape := ⟨1, ![1]⟩
abbrev S1x1x1 : Shape := ⟨3, ![1, 1, 1]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x4096, .f32⟩
  | .hbm, ⟨3, _⟩ => ⟨S16x4096, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x1x1024, .f32⟩
  | .hbm, ⟨9, _⟩ => ⟨S16x1x4096, .f32⟩
  | .hbm, ⟨10, _⟩ => ⟨S16x1x4096, .f32⟩
  | .hbm, ⟨11, _⟩ => ⟨S16x1x4096, .f32⟩
  | .hbm, ⟨12, _⟩ => ⟨S16x1x4096, .f32⟩
  | .hbm, ⟨13, _⟩ => ⟨S16x16x1024, .f32⟩
  | .local _ .vmem, ⟨0, _⟩ => ⟨S1x4096x1024, .f32⟩
  | .local _ .vmem, ⟨1, _⟩ => ⟨S1x4096x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x16x1024, .f32⟩
  | .local _ .vmem, ⟨13, _⟩ => ⟨S1x16x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_off1 (v143 : BitVec 32) : Fin 3 → Nat :=
  let c0_79 : Index := 0#32
  let v144 : Index := Scalar.indexCast v143
  let c0_80 : Index := 0#32
  ![0, v144.toNat, 0]

def k0_chk1 (v143 : BitVec 32) : Prop :=
  (∀ a, (k0_off1 v143) a + S1x1x1024.size a ≤ S1x4096x1024.size a)
theorem k0_off1_inb : ∀ (v143 : BitVec 32) (k0_hw1 : k0_chk1 v143), ∀ a, (k0_off1 v143) a + S1x1x1024.size a ≤ S1x4096x1024.size a := fun v143 k0_hw1 => k0_hw1

def k0_off2 (v166 : BitVec 32) : Fin 3 → Nat :=
  let c0_88 : Index := 0#32
  let v167 : Index := Scalar.indexCast v166
  let c0_89 : Index := 0#32
  ![0, v167.toNat, 0]

def k0_chk2 (v166 : BitVec 32) : Prop :=
  (∀ a, (k0_off2 v166) a + S1x1x1024.size a ≤ S1x4096x1024.size a)
theorem k0_off2_inb : ∀ (v166 : BitVec 32) (k0_hw2 : k0_chk2 v166), ∀ a, (k0_off2 v166) a + S1x1x1024.size a ≤ S1x4096x1024.size a := fun v166 k0_hw2 => k0_hw2

def k0_off3 (v189 : BitVec 32) : Fin 3 → Nat :=
  let c0_96 : Index := 0#32
  let v190 : Index := Scalar.indexCast v189
  let c0_97 : Index := 0#32
  ![0, v190.toNat, 0]

def k0_chk3 (v189 : BitVec 32) : Prop :=
  (∀ a, (k0_off3 v189) a + S1x1x1024.size a ≤ S1x4096x1024.size a)
theorem k0_off3_inb : ∀ (v189 : BitVec 32) (k0_hw3 : k0_chk3 v189), ∀ a, (k0_off3 v189) a + S1x1x1024.size a ≤ S1x4096x1024.size a := fun v189 k0_hw3 => k0_hw3

def k0_off4 (v212 : BitVec 32) : Fin 3 → Nat :=
  let c0_104 : Index := 0#32
  let v213 : Index := Scalar.indexCast v212
  let c0_105 : Index := 0#32
  ![0, v213.toNat, 0]

def k0_chk4 (v212 : BitVec 32) : Prop :=
  (∀ a, (k0_off4 v212) a + S1x1x1024.size a ≤ S1x4096x1024.size a)
theorem k0_off4_inb : ∀ (v212 : BitVec 32) (k0_hw4 : k0_chk4 v212), ∀ a, (k0_off4 v212) a + S1x1x1024.size a ≤ S1x4096x1024.size a := fun v212 k0_hw4 => k0_hw4

def k0_off5 (v235 : BitVec 32) : Fin 3 → Nat :=
  let c0_112 : Index := 0#32
  let v236 : Index := Scalar.indexCast v235
  let c0_113 : Index := 0#32
  ![0, v236.toNat, 0]

def k0_chk5 (v235 : BitVec 32) : Prop :=
  (∀ a, (k0_off5 v235) a + S1x1x1024.size a ≤ S1x4096x1024.size a)
theorem k0_off5_inb : ∀ (v235 : BitVec 32) (k0_hw5 : k0_chk5 v235), ∀ a, (k0_off5 v235) a + S1x1x1024.size a ≤ S1x4096x1024.size a := fun v235 k0_hw5 => k0_hw5

def k0_off6 (v258 : BitVec 32) : Fin 3 → Nat :=
  let c0_120 : Index := 0#32
  let v259 : Index := Scalar.indexCast v258
  let c0_121 : Index := 0#32
  ![0, v259.toNat, 0]

def k0_chk6 (v258 : BitVec 32) : Prop :=
  (∀ a, (k0_off6 v258) a + S1x1x1024.size a ≤ S1x4096x1024.size a)
theorem k0_off6_inb : ∀ (v258 : BitVec 32) (k0_hw6 : k0_chk6 v258), ∀ a, (k0_off6 v258) a + S1x1x1024.size a ≤ S1x4096x1024.size a := fun v258 k0_hw6 => k0_hw6

def k0_off7 (v281 : BitVec 32) : Fin 3 → Nat :=
  let c0_128 : Index := 0#32
  let v282 : Index := Scalar.indexCast v281
  let c0_129 : Index := 0#32
  ![0, v282.toNat, 0]

def k0_chk7 (v281 : BitVec 32) : Prop :=
  (∀ a, (k0_off7 v281) a + S1x1x1024.size a ≤ S1x4096x1024.size a)
theorem k0_off7_inb : ∀ (v281 : BitVec 32) (k0_hw7 : k0_chk7 v281), ∀ a, (k0_off7 v281) a + S1x1x1024.size a ≤ S1x4096x1024.size a := fun v281 k0_hw7 => k0_hw7

def k0_off8 (v304 : BitVec 32) : Fin 3 → Nat :=
  let c0_136 : Index := 0#32
  let v305 : Index := Scalar.indexCast v304
  let c0_137 : Index := 0#32
  ![0, v305.toNat, 0]

def k0_chk8 (v304 : BitVec 32) : Prop :=
  (∀ a, (k0_off8 v304) a + S1x1x1024.size a ≤ S1x4096x1024.size a)
theorem k0_off8_inb : ∀ (v304 : BitVec 32) (k0_hw8 : k0_chk8 v304), ∀ a, (k0_off8 v304) a + S1x1x1024.size a ≤ S1x4096x1024.size a := fun v304 k0_hw8 => k0_hw8

def k0_off9 (v327 : BitVec 32) : Fin 3 → Nat :=
  let c0_144 : Index := 0#32
  let v328 : Index := Scalar.indexCast v327
  let c0_145 : Index := 0#32
  ![0, v328.toNat, 0]

def k0_chk9 (v327 : BitVec 32) : Prop :=
  (∀ a, (k0_off9 v327) a + S1x1x1024.size a ≤ S1x4096x1024.size a)
theorem k0_off9_inb : ∀ (v327 : BitVec 32) (k0_hw9 : k0_chk9 v327), ∀ a, (k0_off9 v327) a + S1x1x1024.size a ≤ S1x4096x1024.size a := fun v327 k0_hw9 => k0_hw9

def k0_off10 (v350 : BitVec 32) : Fin 3 → Nat :=
  let c0_152 : Index := 0#32
  let v351 : Index := Scalar.indexCast v350
  let c0_153 : Index := 0#32
  ![0, v351.toNat, 0]

def k0_chk10 (v350 : BitVec 32) : Prop :=
  (∀ a, (k0_off10 v350) a + S1x1x1024.size a ≤ S1x4096x1024.size a)
theorem k0_off10_inb : ∀ (v350 : BitVec 32) (k0_hw10 : k0_chk10 v350), ∀ a, (k0_off10 v350) a + S1x1x1024.size a ≤ S1x4096x1024.size a := fun v350 k0_hw10 => k0_hw10

def k0_off11 (v373 : BitVec 32) : Fin 3 → Nat :=
  let c0_160 : Index := 0#32
  let v374 : Index := Scalar.indexCast v373
  let c0_161 : Index := 0#32
  ![0, v374.toNat, 0]

def k0_chk11 (v373 : BitVec 32) : Prop :=
  (∀ a, (k0_off11 v373) a + S1x1x1024.size a ≤ S1x4096x1024.size a)
theorem k0_off11_inb : ∀ (v373 : BitVec 32) (k0_hw11 : k0_chk11 v373), ∀ a, (k0_off11 v373) a + S1x1x1024.size a ≤ S1x4096x1024.size a := fun v373 k0_hw11 => k0_hw11

def k0_off12 (v396 : BitVec 32) : Fin 3 → Nat :=
  let c0_168 : Index := 0#32
  let v397 : Index := Scalar.indexCast v396
  let c0_169 : Index := 0#32
  ![0, v397.toNat, 0]

def k0_chk12 (v396 : BitVec 32) : Prop :=
  (∀ a, (k0_off12 v396) a + S1x1x1024.size a ≤ S1x4096x1024.size a)
theorem k0_off12_inb : ∀ (v396 : BitVec 32) (k0_hw12 : k0_chk12 v396), ∀ a, (k0_off12 v396) a + S1x1x1024.size a ≤ S1x4096x1024.size a := fun v396 k0_hw12 => k0_hw12

def k0_off13 (v419 : BitVec 32) : Fin 3 → Nat :=
  let c0_176 : Index := 0#32
  let v420 : Index := Scalar.indexCast v419
  let c0_177 : Index := 0#32
  ![0, v420.toNat, 0]

def k0_chk13 (v419 : BitVec 32) : Prop :=
  (∀ a, (k0_off13 v419) a + S1x1x1024.size a ≤ S1x4096x1024.size a)
theorem k0_off13_inb : ∀ (v419 : BitVec 32) (k0_hw13 : k0_chk13 v419), ∀ a, (k0_off13 v419) a + S1x1x1024.size a ≤ S1x4096x1024.size a := fun v419 k0_hw13 => k0_hw13

def k0_off14 (v442 : BitVec 32) : Fin 3 → Nat :=
  let c0_184 : Index := 0#32
  let v443 : Index := Scalar.indexCast v442
  let c0_185 : Index := 0#32
  ![0, v443.toNat, 0]

def k0_chk14 (v442 : BitVec 32) : Prop :=
  (∀ a, (k0_off14 v442) a + S1x1x1024.size a ≤ S1x4096x1024.size a)
theorem k0_off14_inb : ∀ (v442 : BitVec 32) (k0_hw14 : k0_chk14 v442), ∀ a, (k0_off14 v442) a + S1x1x1024.size a ≤ S1x4096x1024.size a := fun v442 k0_hw14 => k0_hw14

def k0_off15 (v465 : BitVec 32) : Fin 3 → Nat :=
  let c0_192 : Index := 0#32
  let v466 : Index := Scalar.indexCast v465
  let c0_193 : Index := 0#32
  ![0, v466.toNat, 0]

def k0_chk15 (v465 : BitVec 32) : Prop :=
  (∀ a, (k0_off15 v465) a + S1x1x1024.size a ≤ S1x4096x1024.size a)
theorem k0_off15_inb : ∀ (v465 : BitVec 32) (k0_hw15 : k0_chk15 v465), ∀ a, (k0_off15 v465) a + S1x1x1024.size a ≤ S1x4096x1024.size a := fun v465 k0_hw15 => k0_hw15

def k0_off16 (v488 : BitVec 32) : Fin 3 → Nat :=
  let c0_200 : Index := 0#32
  let v489 : Index := Scalar.indexCast v488
  let c0_201 : Index := 0#32
  ![0, v489.toNat, 0]

def k0_chk16 (v488 : BitVec 32) : Prop :=
  (∀ a, (k0_off16 v488) a + S1x1x1024.size a ≤ S1x4096x1024.size a)
theorem k0_off16_inb : ∀ (v488 : BitVec 32) (k0_hw16 : k0_chk16 v488), ∀ a, (k0_off16 v488) a + S1x1x1024.size a ≤ S1x4096x1024.size a := fun v488 k0_hw16 => k0_hw16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceBIdeal.lean ====
abbrev S16x4096x1024 : Shape := ⟨3, ![16, 4096, 1024]⟩
abbrev S16x1024 : Shape := ⟨2, ![16, 1024]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S16x16 : Shape := ⟨2, ![16, 16]⟩
abbrev S16x16x1 : Shape := ⟨3, ![16, 16, 1]⟩
abbrev S1 : Shape := ⟨1, ![1]⟩
abbrev S1x1x1 : Shape := ⟨3, ![1, 1, 1]⟩
abbrev S16x16x1024 : Shape := ⟨3, ![16, 16, 1024]⟩
abbrev S16x1x4096 : Shape := ⟨3, ![16, 1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x4096, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x1, .f32⟩
  | .hbm, ⟨26, _⟩ => ⟨S16x4096, .f32⟩
  | .hbm, ⟨27, _⟩ => ⟨S16x4096, .f32⟩
  | .hbm, ⟨28, _⟩ => ⟨S16x4096, .f32⟩
  | .hbm, ⟨29, _⟩ => ⟨S_, .f32⟩
  | .hbm, ⟨30, _⟩ => ⟨S16, .f32⟩
  | .hbm, ⟨31, _⟩ => ⟨S16x1, .f32⟩
  | .hbm, ⟨32, _⟩ => ⟨S16x4096, .f32⟩
  | .hbm, ⟨33, _⟩ => ⟨S16x4096, .f32⟩
  | .hbm, ⟨34, _⟩ => ⟨S16x16, .f32⟩
  | .hbm, ⟨35, _⟩ => ⟨S16x16, .i32⟩
  | .hbm, ⟨36, _⟩ => ⟨S16x16x1, .i32⟩
  | .hbm, ⟨37, _⟩ => ⟨S_, .i32⟩
  | .hbm, ⟨38, _⟩ => ⟨S16x16x1, .i32⟩
  | .hbm, ⟨39, _⟩ => ⟨S16x16x1, .i1⟩
  | .hbm, ⟨40, _⟩ => ⟨S_, .i32⟩
  | .hbm, ⟨41, _⟩ => ⟨S16x16x1, .i32⟩
  | .hbm, ⟨42, _⟩ => ⟨S16x16x1, .i32⟩
  | .hbm, ⟨43, _⟩ => ⟨S16x16x1, .i32⟩
  | .hbm, ⟨44, _⟩ => ⟨S1, .i32⟩
  | .hbm, ⟨45, _⟩ => ⟨S_, .i32⟩
  | .hbm, ⟨46, _⟩ => ⟨S16x16x1, .i32⟩
  | .hbm, ⟨47, _⟩ => ⟨S16x16x1, .i1⟩
  | .hbm, ⟨48, _⟩ => ⟨S1x1x1, .i32⟩
  | .hbm, ⟨49, _⟩ => ⟨S16x16x1, .i32⟩
  | .hbm, ⟨50, _⟩ => ⟨S16x16x1, .i1⟩
  | .hbm, ⟨51, _⟩ => ⟨S16x16x1, .i1⟩
  | .hbm, ⟨52, _⟩ => ⟨S_, .i1⟩
  | .hbm, ⟨53, _⟩ => ⟨S16x16, .i1⟩
  | .hbm, ⟨54, _⟩ => ⟨S16x16x1024, .f32⟩
  | .hbm, ⟨55, _⟩ => ⟨S16x16x1024, .i1⟩
  | .hbm, ⟨56, _⟩ => ⟨S_, .f32⟩
  | .hbm, ⟨57, _⟩ => ⟨S16x16x1024, .f32⟩
  | .hbm, ⟨58, _⟩ => ⟨S16x16x1024, .f32⟩
  | .hbm, ⟨59, _⟩ => ⟨S16x1x4096, .f32⟩
  | .hbm, ⟨60, _⟩ => ⟨S16x1x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_values : Ref sig .tc := ⟨.hbm, 34, rfl⟩
abbrev main_indices : Ref sig .tc := ⟨.hbm, 35, rfl⟩
abbrev main_v24 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_c_2 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_c_3 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_cst : Ref sig .tc := ⟨.hbm, 56, rfl⟩
abbrev main_call0_v14 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]
-- ==== Proof.Math.Spec.lean ====
/- The mathematics both programs compute, over the extended reals: a row's mean, its normalisation, the exact Gaussian-error activation, the
   two-layer perceptron of a normalised row, and the row softmax. -/
module

public import Idealize.ShloMosaic.PureOps.Ideal.Laws
public import Idealize.ShloMosaic.Lib.ValueIdx

@[expose] public section

noncomputable section

namespace Cert.Spec

open Idealize.ShloMosaic

/-- The words of the constants, read as extended reals. -/
abbrev lit (b : BitVec 32) : EReal := Ideal.ofBits .f32 b

/-- The sum of a row over the number `c`. -/
def mean {n : Nat} (c : EReal) (x : Fin n → EReal) : EReal := Ideal.div (∑ j, x j) c

/-- The variance of a row, the mean of the squared distances from the mean. -/
def variance {n : Nat} (c : EReal) (x : Fin n → EReal) : EReal := mean c fun j => (x j - mean c x) * (x j - mean c x)

/-- Entry `j` of a row after normalisation. -/
def normed {n : Nat} (c : EReal) (x : Fin n → EReal) (j : Fin n) : EReal :=
  Ideal.div (x j - mean c x) (Ideal.sqrt (variance c x + lit 0x3727C5AC#32))

/-- The Gaussian-error linear unit. -/
def gelu (x : EReal) : EReal :=
  lit 0x3F000000#32 * x * (Ideal.erf (Ideal.div x ((Real.sqrt 2 : ℝ) : EReal)) + lit 0x3F800000#32)

/-- Entry `k` of the first layer of a normalised row, after the activation. -/
def hidden {n h : Nat} (c : EReal) (w1 : Fin n → Fin h → EReal) (x : Fin n → EReal) (k : Fin h) : EReal :=
  gelu (∑ i, normed c x i * w1 i k)

/-- Entry `j` of the perceptron of a row. -/
def mlp {n h m : Nat} (c : EReal) (w1 : Fin n → Fin h → EReal) (w2 : Fin h → Fin m → EReal) (x : Fin n → EReal) (j : Fin m) : EReal :=
  ∑ k, hidden c w1 x k * w2 k j

/-- Two rows side by side. -/
def sideBySide {n p : Nat} (a b : Fin n → EReal) (j : Fin p) (h : p ≤ n + n) : EReal :=
  if hj : j.val < n then a ⟨j.val, hj⟩ else b ⟨j.val - n, by have := j.isLt; omega⟩

/-- The greatest entry of a row. -/
def top {n : Nat} (z : Fin n → EReal) : EReal := Finset.univ.fold max (lit 0xFF800000#32) z

/-- Entry `k` of a row's softmax. -/
def softmax {n : Nat} (z : Fin n → EReal) (k : Fin n) : EReal :=
  Ideal.div (Ideal.exp (z k - top z)) (∑ j, Ideal.exp (z j - top z))

/-- The weights of the three perceptrons. -/
structure Weights where
  pool1 : Fin 1024 → Fin 1024 → EReal
  pool2 : Fin 1024 → Fin 1024 → EReal
  shift1 : Fin 2048 → Fin 1024 → EReal
  shift2 : Fin 1024 → Fin 1024 → EReal
  keep1 : Fin 2048 → Fin 1024 → EReal
  keep2 : Fin 1024 → Fin 1 → EReal

/-- The mean over a batch's rows, through the pooling perceptron. -/
def Weights.pooled (w : Weights) (x : Fin 64 → Fin 1024 → EReal) (d : Fin 1024) : EReal :=
  mlp (lit 0x44800000#32) w.pool1 w.pool2 (fun d => mean (lit 0x42800000#32) fun s => x s d) d

/-- A row beside the pooled row. -/
def Weights.beside (w : Weights) (x : Fin 64 → Fin 1024 → EReal) (s : Fin 64) (j : Fin 2048) : EReal :=
  sideBySide (x s) (w.pooled x) j (le_refl _)

/-- The rows after the shift. -/
def Weights.shifted (w : Weights) (x : Fin 64 → Fin 1024 → EReal) (s : Fin 64) (d : Fin 1024) : EReal :=
  x s d + mlp (lit 0x45000000#32) w.shift1 w.shift2 (w.beside x s) d

/-- The query: the shifted rows pooled again. -/
def Weights.query (w : Weights) (x : Fin 64 → Fin 1024 → EReal) (d : Fin 1024) : EReal := w.pooled (w.shifted x) d

/-- Row `s`'s score. -/
def Weights.score (w : Weights) (x : Fin 64 → Fin 1024 → EReal) (s : Fin 64) : EReal :=
  mlp (lit 0x45000000#32) w.keep1 w.keep2 (w.beside (w.shifted x) s) 0

/-- Row `s`'s score with its noise, over the temperature. -/
def Weights.noisy (w : Weights) (x : Fin 64 → Fin 1024 → EReal) (g : Fin 64 → EReal) (s : Fin 64) : EReal :=
  Ideal.div (w.score x s + g s) (lit 0x3F4CCCCD#32)

/-- The noise `-log (-log u)`. -/
def gumbel (u : EReal) : EReal := -Ideal.log (-Ideal.log u)

end Cert.Spec

end
-- ==== Proof.Math.KernelVec.lean ====
/- The kernel's vector operations, a block of rows at a time: each is a function of a block, read at a row and a column as the mathematics of
   that row. -/
module

public import proofs.«01_k».proof.Proof.Math.Spec
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.KernelVec

open Idealize.ShloMosaic Idealize.ShloMosaic.ValueIdx Cert.Spec

/-- `R` rows of `C` columns. -/
abbrev M2 (R C : Nat) : Shape := ⟨2, ![R, C]⟩
/-- `R` entries. -/
abbrev M1 (R : Nat) : Shape := ⟨1, ![R]⟩
/-- `A` matrices of `R` rows and `C` columns. -/
abbrev M3 (A R C : Nat) : Shape := ⟨3, ![A, R, C]⟩

variable {A R C : Nat}

theorem lift_row (h : (M2 R C).Reduces [1] (M1 R)) (r : Fin R) (k : Fin C) : h.lift (ix1 r) k = ix2 r k := by
  funext a
  match a with
  | ⟨0, _⟩ => rfl
  | ⟨1, _⟩ => rfl

theorem lift_mid (h : (M3 A R C).Reduces [1] (M2 A C)) (a : Fin A) (c : Fin C) (k : Fin R) : h.lift (ix2 a c) k = ix3 a k c := by
  funext b
  match b with
  | ⟨0, _⟩ => rfl
  | ⟨1, _⟩ => rfl
  | ⟨2, _⟩ => rfl

/-- A column spread over the columns of a block reads the column's row. -/
theorem spread_apply {α : Type} (v : (M2 R 1).Idx → α) (h : (M2 R 1).Broadcasts (M2 R C)) (r : Fin R) (c : Fin C) :
    broadcastTo (M2 R C) v h (ix2 r c) = v (ix2 r 0) := by
  refine broadcastTo_apply v h _ _ fun a => ?_
  match a with
  | ⟨0, _⟩ =>
    show r.val = if R = 1 then 0 else r.val
    split
    · have := r.isLt; omega
    · rfl
  | ⟨1, _⟩ => rfl

theorem rowSum (x : FVec Ideal (M2 R C) .f32) (hr : (M2 R C).Reduces [1] (M1 R)) (hφ hz) (r : Fin R) :
    multiReduction .add [1] (M1 R) x 0x00000000#32 hr hφ hz (ix1 r) = ∑ k, x (ix2 r k) :=
  (Ideal.multiReduction_add_single x _ hr hφ hz _).trans (Finset.sum_congr rfl fun k _ => congrArg x (lift_row hr r k))

/-- The sum of each row, over `c`. -/
def rowMean (c : BitVec 32) (x : FVec Ideal (M2 R C) .f32) (hr : (M2 R C).Reduces [1] (M1 R)) (hc : (M1 R).ShapeCasts (M2 R 1)) :
    FVec Ideal (M2 R 1) .f32 :=
  divf (shapeCast (M2 R 1) (multiReduction .add [1] (M1 R) x 0x00000000#32 hr (.inl rfl) rfl) hc)
    (broadcast (M2 R 1) (Scalar.ofBits .f32 c))

theorem rowMean_apply (c : BitVec 32) (x : FVec Ideal (M2 R C) .f32) (hr hc) (r : Fin R) :
    rowMean c x hr hc (ix2 r 0) = mean (lit c) fun j => x (ix2 r j) := by
  unfold rowMean mean
  rw [divf_apply, shapeCast_a_a1_apply]
  exact congrArg (Ideal.div · _) (rowSum x hr _ _ r)

/-- Each row normalised. -/
def rowNorm (c : BitVec 32) (x : FVec Ideal (M2 R C) .f32) (hr : (M2 R C).Reduces [1] (M1 R)) (hc : (M1 R).ShapeCasts (M2 R 1))
    (hb : (M2 R 1).Broadcasts (M2 R C)) : FVec Ideal (M2 R C) .f32 :=
  divf (subf x (broadcastTo (M2 R C) (rowMean c x hr hc) hb))
    (broadcastTo (M2 R C) (sqrt (addf (rowMean c (mulf (subf x (broadcastTo (M2 R C) (rowMean c x hr hc) hb))
      (subf x (broadcastTo (M2 R C) (rowMean c x hr hc) hb))) hr hc) (broadcast (M2 R 1) (Scalar.ofBits .f32 0x3727C5AC#32)))) hb)

theorem rowNorm_apply (c : BitVec 32) (x : FVec Ideal (M2 R C) .f32) (hr hc hb) (r : Fin R) (j : Fin C) :
    rowNorm c x hr hc hb (ix2 r j) = normed (lit c) (fun j => x (ix2 r j)) j := by
  unfold rowNorm normed variance
  rw [divf_apply, subf_apply, spread_apply, spread_apply, rowMean_apply]
  congr 1
  show Ideal.sqrt (rowMean c _ hr hc (ix2 r 0) + _) = _
  rw [rowMean_apply]
  simp only [mulf_apply, subf_apply, spread_apply, rowMean_apply]
  rfl

/-- The activation of each entry, the divisor `s` given. -/
def act (s : Ideal .f32) {t : Shape} (x : FVec Ideal t .f32) : FVec Ideal t .f32 :=
  mulf (mulf (broadcast t (Scalar.ofBits .f32 0x3F000000#32)) x)
    (addf (erf (divf x (broadcast t s))) (broadcast t (Scalar.ofBits .f32 0x3F800000#32)))

theorem act_apply (s : Ideal .f32) (hs : s = ((Real.sqrt 2 : ℝ) : EReal)) {t : Shape} (x : FVec Ideal t .f32) (i : t.Idx) :
    act s x i = gelu (x i) := by
  subst hs; rfl

/-- A block of rows times a matrix, both rounded (no change at the extended reals). -/
def times {H : Nat} (d : DotDims (M2 R C) (M2 C H) (M2 R H)) (x : FVec Ideal (M2 R C) .f32) (w : FVec Ideal (M2 C H) .bf16)
    (hw : (M2 C H).ShapeCasts (M2 C H)) (ht : FTy.bits .bf16 < FTy.bits .f32) : FVec Ideal (M2 R H) .f32 :=
  matmul d none (truncf .bf16 x ht) (shapeCast (M2 C H) w hw) (constant (M2 R H) .f32 0x00000000#32)

theorem times_apply {H : Nat} (d : DotDims (M2 R C) (M2 C H) (M2 R H)) (hd : d = DotDims.plain R C H) (x : FVec Ideal (M2 R C) .f32)
    (w : FVec Ideal (M2 C H) .bf16) (hw ht) (r : Fin R) (k : Fin H) :
    times d x w hw ht (ix2 r k) = ∑ i : Fin C, x (ix2 r i) * w (ix2 i k) := by
  subst hd
  unfold times
  refine (Ideal.matmul_plain_apply ..).trans ?_
  rw [constant_apply, Ideal.ofBits_zero_f32, zero_add]
  refine Finset.sum_congr rfl fun i _ => ?_
  rw [truncf_apply, shapeCast_apply w hw (ix2 i k) (ix2 i k) rfl]

/-- The two-layer perceptron of each normalised row. -/
def rowMlp {H N : Nat} (c : BitVec 32) (s : Ideal .f32) (d1 : DotDims (M2 R C) (M2 C H) (M2 R H)) (d2 : DotDims (M2 R H) (M2 H N) (M2 R N))
    (w1 : FVec Ideal (M2 C H) .bf16) (w2 : FVec Ideal (M2 H N) .bf16) (x : FVec Ideal (M2 R C) .f32)
    (hr : (M2 R C).Reduces [1] (M1 R)) (hc : (M1 R).ShapeCasts (M2 R 1)) (hb : (M2 R 1).Broadcasts (M2 R C))
    (hw1 : (M2 C H).ShapeCasts (M2 C H)) (hw2 : (M2 H N).ShapeCasts (M2 H N)) (ht : FTy.bits .bf16 < FTy.bits .f32) :
    FVec Ideal (M2 R N) .f32 :=
  times d2 (act s (times d1 (rowNorm c x hr hc hb) w1 hw1 ht)) w2 hw2 ht

theorem rowMlp_apply {H N : Nat} (c : BitVec 32) (s : Ideal .f32) (hs : s = ((Real.sqrt 2 : ℝ) : EReal)) (d1 d2)
    (hd1 : d1 = DotDims.plain R C H) (hd2 : d2 = DotDims.plain R H N) (w1 : FVec Ideal (M2 C H) .bf16) (w2 : FVec Ideal (M2 H N) .bf16)
    (x : FVec Ideal (M2 R C) .f32) (hr hc hb hw1 hw2 ht) (r : Fin R) (j : Fin N) :
    rowMlp c s d1 d2 w1 w2 x hr hc hb hw1 hw2 ht (ix2 r j)
      = mlp (lit c) (fun i k => w1 (ix2 i k)) (fun k j => w2 (ix2 k j)) (fun i => x (ix2 r i)) j := by
  unfold rowMlp mlp Spec.hidden
  rw [times_apply d2 hd2]
  refine Finset.sum_congr rfl fun k _ => ?_
  rw [act_apply s hs, times_apply d1 hd1]
  simp only [rowNorm_apply]

/-- The mean over the middle axis. -/
def midMean (c : BitVec 32) (x : FVec Ideal (M3 A R C) .f32) (hr : (M3 A R C).Reduces [1] (M2 A C)) : FVec Ideal (M2 A C) .f32 :=
  divf (multiReduction .add [1] (M2 A C) x 0x00000000#32 hr (.inl rfl) rfl) (broadcast (M2 A C) (Scalar.ofBits .f32 c))

theorem midMean_apply (c : BitVec 32) (x : FVec Ideal (M3 A R C) .f32) (hr) (a : Fin A) (j : Fin C) :
    midMean c x hr (ix2 a j) = mean (lit c) fun k => x (ix3 a k j) := by
  unfold midMean mean
  rw [divf_apply]
  exact congrArg (Ideal.div · _) ((Ideal.multiReduction_add_single x _ hr _ _ _).trans
    (Finset.sum_congr rfl fun k _ => congrArg x (lift_mid hr a j k)))

/-- The greatest entry of each row, as a column. -/
def rowTop (x : FVec Ideal (M2 R C) .f32) (hr : (M2 R C).Reduces [1] (M1 R)) (hc : (M1 R).ShapeCasts (M2 R 1)) :
    FVec Ideal (M2 R 1) .f32 :=
  shapeCast (M2 R 1) (multiReduction .maximumf [1] (M1 R) x 0xFF800000#32 hr (.inl rfl) rfl) hc

theorem rowTop_apply (x : FVec Ideal (M2 R C) .f32) (hr hc) (r : Fin R) :
    rowTop x hr hc (ix2 r 0) = top fun j => x (ix2 r j) := by
  unfold rowTop top
  rw [shapeCast_a_a1_apply]
  refine (Ideal.multiReduction_maximumf_single x _ hr _ _ _).trans ?_
  exact Finset.fold_congr fun k _ => congrArg x (lift_row hr r k)

/-- Each row's softmax. -/
def rowSoftmax (x : FVec Ideal (M2 R C) .f32) (hr : (M2 R C).Reduces [1] (M1 R)) (hc : (M1 R).ShapeCasts (M2 R 1))
    (hb : (M2 R 1).Broadcasts (M2 R C)) : FVec Ideal (M2 R C) .f32 :=
  divf (exp (subf x (broadcastTo (M2 R C) (rowTop x hr hc) hb)))
    (broadcastTo (M2 R C) (shapeCast (M2 R 1) (multiReduction .add [1] (M1 R) (exp (subf x (broadcastTo (M2 R C) (rowTop x hr hc) hb)))
      0x00000000#32 hr (.inl rfl) rfl) hc) hb)

theorem rowSoftmax_apply (x : FVec Ideal (M2 R C) .f32) (hr hc hb) (r : Fin R) (j : Fin C) :
    rowSoftmax x hr hc hb (ix2 r j) = softmax (fun j => x (ix2 r j)) j := by
  have e : ∀ j, exp (subf x (broadcastTo (M2 R C) (rowTop x hr hc) hb)) (ix2 r j) = Ideal.exp (x (ix2 r j) - top fun j => x (ix2 r j)) := by
    intro j
    show Ideal.exp (x (ix2 r j) - broadcastTo (M2 R C) (rowTop x hr hc) hb (ix2 r j)) = _
    rw [spread_apply, rowTop_apply]
  unfold rowSoftmax softmax
  rw [divf_apply, e, spread_apply, shapeCast_a_a1_apply]
  exact congrArg (Ideal.div _) ((rowSum _ hr _ _ r).trans (Finset.sum_congr rfl fun k _ => e k))

end Cert.KernelVec

end
-- ==== Proof.Math.HostVec.lean ====
/- The reference's host operations on rows: the mean, the normalisation, the activation and the products of an array whose last axis is the
   row's, each read at a row and a column as the mathematics of that row. The rank of the array is left open: `Rows` says how its reduction
   and its broadcasts meet the rows, and the two arrays of the reference (a row per batch, a row per batch and slot) are its instances. -/
module

public import proofs.«01_k».proof.Proof.Math.Spec
public import proofs.«01_k».proof.Proof.Math.KernelVec
public import proofs.«01_k».proof.Proof.Gen.ReferenceAIdeal.Read
public import Idealize.ShloMosaic.Lib.StackMember

@[expose] public section

noncomputable section

namespace Cert.HostVec

open Idealize.ShloMosaic Idealize.ShloMosaic.ValueIdx Cert.Spec Cert.KernelVec Cert.ReferenceAIdeal Cert.ReferenceAIdeal.Gen

/-- A scalar constant. -/
abbrev word (c : BitVec 32) : FVec Ideal S_ .f32 := constant S_ .f32 c

/-- A scalar spread over an array reads the scalar everywhere. -/
theorem scalar_spread {α : Type} {S : Shape} (b : S_.BroadcastsInDim S ![]) (v : S_.Idx → α) (i : S.Idx) :
    broadcastInDim S ![] b v i = v (Shape.Idx.first h_S_) :=
  broadcastInDim_apply _ b v i _ fun a => a.elim0

/-- How an array `S`, its row means `Sr` and the same as a column `Sc` are indexed by a row and a position in it. -/
structure Rows (S Sc Sr : Shape) (R : Type) (n : Nat) where
  axis : Fin S.rank
  red : S.ReducesTo [axis] Sr
  d1 : Fin Sr.rank → Fin Sc.rank
  b1 : Sr.BroadcastsInDim Sc d1
  d2 : Fin Sc.rank → Fin S.rank
  b2 : Sc.BroadcastsInDim S d2
  b0 : S_.BroadcastsInDim Sc ![]
  place : R → Fin n → S.Idx
  col : R → Sc.Idx
  row : R → Sr.Idx
  sum_place : ∀ (x : S.Idx → EReal) (z : EReal) (r : R), Ideal.hostReduceAdd red x z (row r) = z + ∑ k, x (place r k)
  col_row : ∀ (v : Sr.Idx → EReal) (r : R), broadcastInDim Sc d1 b1 v (col r) = v (row r)
  place_col : ∀ (v : Sc.Idx → EReal) (r : R) (k : Fin n), broadcastInDim S d2 b2 v (place r k) = v (col r)

variable {S Sc Sr : Shape} {R : Type} {n : Nat}

/-- The mean of each row, over `c`, as a column. -/
def hostMean (L : Rows S Sc Sr R n) (c : BitVec 32) (x : FVec Ideal S .f32) : FVec Ideal Sc .f32 :=
  Host.divf (broadcastInDim Sc L.d1 L.b1 (Host.reduceAdd x (word 0x00000000#32) L.red h_S_))
    (broadcastInDim Sc ![] L.b0 (word c))

theorem hostMean_apply (L : Rows S Sc Sr R n) (c : BitVec 32) (x : FVec Ideal S .f32) (r : R) :
    hostMean L c x (L.col r) = mean (lit c) fun k => x (L.place r k) := by
  show Ideal.div (broadcastInDim Sc L.d1 L.b1 (Host.reduceAdd x (word 0x00000000#32) L.red h_S_) (L.col r))
    (broadcastInDim Sc ![] L.b0 (word c : FVec Ideal S_ .f32) (L.col r)) = _
  rw [scalar_spread]
  refine congrArg (Ideal.div · _) ((L.col_row _ r).trans ?_)
  show Ideal.hostReduceAdd L.red x (Ideal.ofBits .f32 0x00000000#32) (L.row r) = _
  rw [L.sum_place, Ideal.ofBits_zero_f32, zero_add]

/-- Each row normalised. -/
def hostNorm (L : Rows S Sc Sr R n) (c : BitVec 32) (x : FVec Ideal S .f32) : FVec Ideal S .f32 :=
  Host.divf (subf x (broadcastInDim S L.d2 L.b2 (hostMean L c x)))
    (broadcastInDim S L.d2 L.b2 (Host.sqrt (addf (hostMean L c (mulf (subf x (broadcastInDim S L.d2 L.b2 (hostMean L c x)))
      (subf x (broadcastInDim S L.d2 L.b2 (hostMean L c x))))) (broadcastInDim Sc ![] L.b0 (word 0x3727C5AC#32)))))

theorem hostNorm_apply (L : Rows S Sc Sr R n) (c : BitVec 32) (x : FVec Ideal S .f32) (r : R) (k : Fin n) :
    hostNorm L c x (L.place r k) = normed (lit c) (fun k => x (L.place r k)) k := by
  have hm : ∀ k, broadcastInDim S L.d2 L.b2 (hostMean L c x) (L.place r k) = mean (lit c) fun k => x (L.place r k) := fun k =>
    (L.place_col _ r k).trans (hostMean_apply L c x r)
  show Ideal.div (x (L.place r k) - broadcastInDim S L.d2 L.b2 (hostMean L c x) (L.place r k)) (broadcastInDim S L.d2 L.b2 _ (L.place r k)) = _
  rw [hm, L.place_col]
  refine congrArg (Ideal.div _) ?_
  show Ideal.sqrt (hostMean L c _ (L.col r) + broadcastInDim Sc ![] L.b0 (word 0x3727C5AC#32) (L.col r)) = _
  rw [hostMean_apply, scalar_spread]
  refine congrArg (fun v => Ideal.sqrt (v + _)) (congrArg (mean (lit c)) (funext fun k => ?_))
  show (x (L.place r k) - broadcastInDim S L.d2 L.b2 (hostMean L c x) (L.place r k))
    * (x (L.place r k) - broadcastInDim S L.d2 L.b2 (hostMean L c x) (L.place r k)) = _
  rw [hm]

/-- The activation of every entry. -/
def hostAct (b : S_.BroadcastsInDim S ![]) (x : FVec Ideal S .f32) : FVec Ideal S .f32 :=
  mulf (mulf (broadcastInDim S ![] b (word 0x3F000000#32)) x)
    (Host.erfc (Host.divf (Host.negf x) (broadcastInDim S ![] b (Host.sqrt (word 0x40000000#32) : FVec Ideal S_ .f32))))

theorem lit_two : lit 0x40000000#32 = ((2 : ℝ) : EReal) := by
  simp [Ideal.ofBits, Ideal.ieee, -EReal.coe_mul]; norm_num

theorem lit_one : lit 0x3F800000#32 = (1 : EReal) := by
  simp [Ideal.ofBits, Ideal.ieee, -EReal.coe_mul]; norm_num

theorem hostAct_apply (b : S_.BroadcastsInDim S ![]) (x : FVec Ideal S .f32) (i : S.Idx) : hostAct b x i = gelu (x i) := by
  show broadcastInDim S ![] b (word 0x3F000000#32) i * x i
    * Ideal.erfc (Ideal.div (-(x i)) (broadcastInDim S ![] b (Host.sqrt (word 0x40000000#32) : FVec Ideal S_ .f32) i)) = _
  rw [scalar_spread, scalar_spread]
  show lit 0x3F000000#32 * x i * Ideal.erfc (Ideal.div (-(x i)) (Ideal.sqrt (lit 0x40000000#32))) = _
  have h0 : Real.sqrt 2 ≠ 0 := by positivity
  unfold gelu
  rw [lit_two, lit_one, Ideal.sqrt_coe, if_neg (by norm_num), Ideal.div_coe h0, Ideal.div_coe h0, EReal.neg_mul, Ideal.erfc_neg,
    add_comm (1 : EReal)]

theorem dot3_apply {A R K N : Nat} (w : DotDims.WF (M3 A R K) (M2 K N) (M3 A R N) [2] [0] [0, 1] [1] [] []) (x : FVec Ideal (M3 A R K) .f32)
    (y : FVec Ideal (M2 K N) .f32) (a : Fin A) (r : Fin R) (c : Fin N) :
    Host.dotGeneral (⟨[2], [0], [0, 1], [1], [], [], w⟩ : DotDims (M3 A R K) (M2 K N) (M3 A R N)) none x y (ix3 a r c)
      = ∑ k : Fin K, x (ix3 a r k) * y (ix2 k c) := by
  show FloatOps.dotGeneral _ none _ x y (ix3 a r c) = _
  generalize hd : (⟨[2], [0], [0, 1], [1], [], [], w⟩ : DotDims (M3 A R K) (M2 K N) (M3 A R N)) = d
  rw [Ideal.dotGeneral_apply]
  subst hd
  rw [← Equiv.sum_comp (contrEquiv1 (⟨[2], [0], [0, 1], [1], [], [], w⟩ : DotDims (M3 A R K) (M2 K N) (M3 A R N)) K rfl rfl).symm]
  refine Finset.sum_congr rfl fun k _ => ?_
  have hk := contrEquiv1_symm_val (⟨[2], [0], [0, 1], [1], [], [], w⟩ : DotDims (M3 A R K) (M2 K N) (M3 A R N)) K rfl rfl k
  refine congrArg₂ (· * ·) (congrArg x ?_) (congrArg y ?_) <;> funext ax <;> apply Fin.ext
  · match ax with
    | ⟨0, _⟩ => rfl
    | ⟨1, _⟩ => rfl
    | ⟨2, _⟩ => exact hk
  · match ax with
    | ⟨0, _⟩ => exact hk
    | ⟨1, _⟩ => rfl

/-- A row per batch. -/
def rows2 : Rows S16x1024 S16x1 S16 (Fin 16) 1024 where
  axis := 1
  red := reducesTo_S16x1024_S16_d1
  d1 := ![0]
  b1 := bcast_S16_S16x1_0
  d2 := ![0, 1]
  b2 := bcast_S16x1_S16x1024_0_1
  b0 := bcast_S_S16x1
  place r k := ix2 r k
  col r := ix2 r 0
  row r := ix1 r
  sum_place x z r := by
    rw [Ideal.hostReduceAdd_single reducesTo_S16x1024_S16_d1 (by decide)]
    exact congrArg (_ + ·) (Finset.sum_congr rfl fun k _ => congrArg x (lift_row _ r k))
  col_row v r := broadcastInDim_apply _ _ v _ _ fun a => by
    match a with
    | ⟨0, _⟩ => rfl
  place_col v r k := broadcastInDim_apply _ _ v _ _ fun a => by
    match a with
    | ⟨0, _⟩ => rfl
    | ⟨1, _⟩ => rfl

/-- A row per batch and slot. -/
def rows3 : Rows S16x64x2048 S16x64x1 S16x64 (Fin 16 × Fin 64) 2048 where
  axis := 2
  red := reducesTo_S16x64x2048_S16x64_d2
  d1 := ![0, 1]
  b1 := bcast_S16x64_S16x64x1_0_1
  d2 := ![0, 1, 2]
  b2 := bcast_S16x64x1_S16x64x2048_0_1_2
  b0 := bcast_S_S16x64x1
  place r k := ix3 r.1 r.2 k
  col r := ix3 r.1 r.2 0
  row r := ix2 r.1 r.2
  sum_place x z r := by
    rw [Ideal.hostReduceAdd_single reducesTo_S16x64x2048_S16x64_d2 (by decide)]
    refine congrArg (_ + ·) (Finset.sum_congr rfl fun k _ => congrArg x ?_)
    funext a
    match a with
    | ⟨0, _⟩ => rfl
    | ⟨1, _⟩ => rfl
    | ⟨2, _⟩ => rfl
  col_row v r := broadcastInDim_apply _ _ v _ _ fun a => by
    match a with
    | ⟨0, _⟩ => rfl
    | ⟨1, _⟩ => rfl
  place_col v r k := broadcastInDim_apply _ _ v _ _ fun a => by
    match a with
    | ⟨0, _⟩ => rfl
    | ⟨1, _⟩ => rfl
    | ⟨2, _⟩ => rfl

end Cert.HostVec

end
-- ==== Proof.Math.StageARef.lean ====
/- What the first reference computes, stage by stage, at unit gains and zero biases: its pooled rows, shifted rows, scores and probabilities are
   those of the mathematics. -/
module

public import proofs.«01_k».proof.Proof.Math.HostVec

@[expose] public section

set_option maxRecDepth 16384

noncomputable section

namespace Cert.StageARef

open Idealize.ShloMosaic
open Idealize.ShloMosaic.ValueIdx Cert.Spec Cert.KernelVec Cert.HostVec Cert.ReferenceAIdeal Cert.ReferenceAIdeal.Gen Cert.ReferenceAIdeal.Read

/-- A vector spread over a row per batch. -/
abbrev vec2 (g : FVec Ideal S1024 .f32) : FVec Ideal S16x1024 .f32 :=
  broadcastInDim S16x1024 ![0, 1] bcast_S1x1024_S16x1024_0_1 (broadcastInDim S1x1024 ![1] bcast_S1024_S1x1024_1 g)

/-- The reference's perceptron of a row per batch. -/
def mlp2 (x : FVec Ideal S16x1024 .f32) (g b : FVec Ideal S1024 .f32) (w1 : FVec Ideal S1024x1024 .f32) (b1 : FVec Ideal S1024 .f32)
    (w2 : FVec Ideal S1024x1024 .f32) (b2 : FVec Ideal S1024 .f32) : FVec Ideal S16x1024 .f32 :=
  addf (Host.dotGeneral dot_S16x1024_S1024x1024_S16x1024_1_0_0_1_n_n none (hostAct bcast_S_S16x1024
    (addf (Host.dotGeneral dot_S16x1024_S1024x1024_S16x1024_1_0_0_1_n_n none
      (addf (mulf (hostNorm rows2 0x44800000#32 x) (vec2 g)) (vec2 b)) w1) (vec2 b1))) w2) (vec2 b2)

theorem mlp2_apply (x : FVec Ideal S16x1024 .f32) (w1 w2 : FVec Ideal S1024x1024 .f32) (r : Fin 16) (d : Fin 1024) :
    mlp2 x (fun _ => (1 : EReal)) (fun _ => (0 : EReal)) w1 (fun _ => (0 : EReal)) w2 (fun _ => (0 : EReal)) (ix2 r d)
      = mlp (lit 0x44800000#32) (fun i k => w1 (ix2 i k)) (fun i k => w2 (ix2 i k)) (fun j => x (ix2 r j)) d := by
  unfold mlp2 mlp Spec.hidden
  show Host.dotGeneral (DotDims.plain 16 1024 1024) none _ w2 (ix2 r d) + 0 = _
  rw [add_zero, StackMember.dotGeneral_plain_apply]
  refine Finset.sum_congr rfl fun k _ => congrArg (· * _) ((hostAct_apply ..).trans (congrArg gelu ?_))
  show Host.dotGeneral (DotDims.plain 16 1024 1024) none _ w1 (ix2 r k) + 0 = _
  rw [add_zero, StackMember.dotGeneral_plain_apply]
  refine Finset.sum_congr rfl fun i _ => congrArg (· * _) ?_
  show hostNorm rows2 0x44800000#32 x (rows2.place r i) * 1 + 0 = _
  rw [add_zero, mul_one, hostNorm_apply]
  rfl

/-- The activated first layer of a row per batch and slot. -/
def layer3 (x : FVec Ideal S16x64x2048 .f32) (g b : FVec Ideal S2048 .f32) (w1 : FVec Ideal S2048x1024 .f32) (b1 : FVec Ideal S1024 .f32) :
    FVec Ideal S16x64x1024 .f32 :=
  hostAct bcast_S_S16x64x1024 (addf (Host.dotGeneral dot_S16x64x2048_S2048x1024_S16x64x1024_2_0_01_1_n_n none
    (addf (mulf (hostNorm rows3 0x45000000#32 x)
        (broadcastInDim S16x64x2048 ![0, 1, 2] bcast_S1x1x2048_S16x64x2048_0_1_2 (broadcastInDim S1x1x2048 ![2] bcast_S2048_S1x1x2048_2 g)))
      (broadcastInDim S16x64x2048 ![0, 1, 2] bcast_S1x1x2048_S16x64x2048_0_1_2 (broadcastInDim S1x1x2048 ![2] bcast_S2048_S1x1x2048_2 b))) w1)
    (broadcastInDim S16x64x1024 ![0, 1, 2] bcast_S1x1x1024_S16x64x1024_0_1_2 (broadcastInDim S1x1x1024 ![2] bcast_S1024_S1x1x1024_2 b1)))

theorem layer3_apply (x : FVec Ideal S16x64x2048 .f32) (w1 : FVec Ideal S2048x1024 .f32) (b : Fin 16) (s : Fin 64) (k : Fin 1024) :
    layer3 x (fun _ => (1 : EReal)) (fun _ => (0 : EReal)) w1 (fun _ => (0 : EReal)) (ix3 b s k)
      = Spec.hidden (lit 0x45000000#32) (fun i k => w1 (ix2 i k)) (fun j => x (ix3 b s j)) k := by
  unfold layer3 Spec.hidden
  refine (hostAct_apply ..).trans (congrArg gelu ?_)
  show Host.dotGeneral dot_S16x64x2048_S2048x1024_S16x64x1024_2_0_01_1_n_n none _ w1 (ix3 b s k) + 0 = _
  rw [add_zero]
  refine (dot3_apply _ _ w1 b s k).trans (Finset.sum_congr rfl fun i _ => congrArg (· * _) ?_)
  show hostNorm rows3 0x45000000#32 x (rows3.place (b, s) i) * 1 + 0 = _
  rw [add_zero, mul_one, hostNorm_apply]
  rfl

/-- The mean over each batch's slots. -/
def slotMean (x : FVec Ideal S16x64x1024 .f32) : FVec Ideal S16x1024 .f32 :=
  Host.divf (Host.reduceAdd x (word 0x00000000#32) reducesTo_S16x64x1024_S16x1024_d1 h_S_)
    (broadcastInDim S16x1024 ![] bcast_S_S16x1024 (word 0x42800000#32))

theorem slotMean_apply (x : FVec Ideal S16x64x1024 .f32) (b : Fin 16) (d : Fin 1024) :
    slotMean x (ix2 b d) = mean (lit 0x42800000#32) fun s => x (ix3 b s d) := by
  show Ideal.div (Ideal.hostReduceAdd reducesTo_S16x64x1024_S16x1024_d1 x (Ideal.ofBits .f32 0x00000000#32) (ix2 b d))
    (broadcastInDim S16x1024 ![] bcast_S_S16x1024 (word 0x42800000#32) (ix2 b d)) = _
  rw [scalar_spread, Ideal.hostReduceAdd_single reducesTo_S16x64x1024_S16x1024_d1 (by decide), Ideal.ofBits_zero_f32, zero_add]
  exact congrArg (Ideal.div · _) (Finset.sum_congr rfl fun s _ => congrArg x (lift_mid _ b d s))

/-- Each slot's row beside its batch's row. -/
def beside (x : FVec Ideal S16x64x1024 .f32) (q : FVec Ideal S16x1024 .f32) : FVec Ideal S16x64x2048 .f32 :=
  concatenate S16x64x2048 2 [⟨S16x64x1024, x⟩, ⟨S16x64x1024, broadcastInDim S16x64x1024 ![0, 1, 2] bcast_S16x1x1024_S16x64x1024_0_1_2
    (broadcastInDim S16x1x1024 ![0, 2] bcast_S16x1024_S16x1x1024_0_2 q)⟩] concatenates_S16x64x1024_S16x64x1024_S16x64x2048_d2

theorem beside_apply (x : FVec Ideal S16x64x1024 .f32) (q : FVec Ideal S16x1024 .f32) (b : Fin 16) (s : Fin 64) (j : Fin 2048) :
    beside x q (ix3 b s j) = sideBySide (fun d => x (ix3 b s d)) (fun d => q (ix2 b d)) j (le_refl _) := by
  unfold beside sideBySide
  by_cases h : j.val < 1024
  · rw [dif_pos h]
    refine concatenate_pair_apply_left (t := S16x64x2048) (s₁ := S16x64x1024) (s₂ := S16x64x1024) 2 x _ _ _ rfl (ix3 b s ⟨j.val, h⟩) fun a => ?_
    match a with
    | ⟨0, _⟩ => rfl
    | ⟨1, _⟩ => rfl
    | ⟨2, _⟩ => rfl
  · rw [dif_neg h]
    refine (concatenate_pair_apply_right (t := S16x64x2048) (s₁ := S16x64x1024) (s₂ := S16x64x1024) 2 x _ _ _ rfl rfl (ix3 b s ⟨j.val - 1024, by omega⟩) (fun a ha => ?_) ?_).trans ?_
    · match a, ha with
      | ⟨0, _⟩, _ => rfl
      | ⟨1, _⟩, _ => rfl
      | ⟨2, _⟩, ha => exact absurd rfl ha
    · show j.val - 1024 + 1024 = j.val
      omega
    · refine (broadcastInDim_apply _ _ _ _ (ix3 b (0 : Fin 1) ⟨j.val - 1024, by omega⟩) fun a => ?_).trans
        (broadcastInDim_apply _ _ _ _ (ix2 b ⟨j.val - 1024, by omega⟩) fun a => ?_)
      · match a with
        | ⟨0, _⟩ => rfl
        | ⟨1, _⟩ => rfl
        | ⟨2, _⟩ => rfl
      · match a with
        | ⟨0, _⟩ => rfl
        | ⟨1, _⟩ => rfl

variable (x0 : FVec Ideal S16x64x1024 .f32) (x1 : FVec Ideal S16x64 .f32) (x4 x6 : FVec Ideal S1024x1024 .f32)
  (x10 : FVec Ideal S2048x1024 .f32) (x12 : FVec Ideal S1024x1 .f32) (x16 : FVec Ideal S2048x1024 .f32) (x18 : FVec Ideal S1024x1024 .f32)

/-- The reference's weights, as functions of row and column. -/
def weights : Weights where
  pool1 i k := x4 (ix2 i k)
  pool2 i k := x6 (ix2 i k)
  shift1 i k := x16 (ix2 i k)
  shift2 i k := x18 (ix2 i k)
  keep1 i k := x10 (ix2 i k)
  keep2 i k := x12 (ix2 i k)

/-- An array's rows, by batch. -/
def rows (x : FVec Ideal S16x64x1024 .f32) (b : Fin 16) (s : Fin 64) (d : Fin 1024) : EReal := x (ix3 b s d)

/-- A vector of ones. -/
abbrev one {S : Shape} : FVec Ideal S .f32 := fun _ => (1 : EReal)
/-- A vector of zeros. -/
abbrev nil {S : Shape} : FVec Ideal S .f32 := fun _ => (0 : EReal)

theorem pool_at (x : FVec Ideal S16x64x1024 .f32) (b : Fin 16) (d : Fin 1024) :
    mlp2 (slotMean x) one nil x4 nil x6 nil (ix2 b d) = (weights x4 x6 x10 x12 x16 x18).pooled (rows x b) d := by
  rw [mlp2_apply]
  simp only [slotMean_apply]
  rfl

theorem pooled_eq : val_main_v42 (F := Ideal) x0 one nil x4 nil x6 nil = mlp2 (slotMean x0) one nil x4 nil x6 nil := rfl

theorem beside_at (x : FVec Ideal S16x64x1024 .f32) (b : Fin 16) (s : Fin 64) :
    (fun j => beside x (mlp2 (slotMean x) one nil x4 nil x6 nil) (ix3 b s j)) = (weights x4 x6 x10 x12 x16 x18).beside (rows x b) s := by
  funext j
  rw [beside_apply]
  simp only [pool_at x4 x6 x10 x12 x16 x18]
  rfl

/-- The reference's shifted rows. -/
abbrev shifted : FVec Ideal S16x64x1024 .f32 := val_main_v86 (F := Ideal) x0 one nil x4 nil x6 nil one nil x16 nil x18 nil

theorem shifted_at (b : Fin 16) : rows (shifted x0 x4 x6 x16 x18) b = (weights x4 x6 x10 x12 x16 x18).shifted (rows x0 b) := by
  funext s d
  show x0 (ix3 b s d) + (Host.dotGeneral dot_S16x64x1024_S1024x1024_S16x64x1024_2_0_01_1_n_n none
    (layer3 (beside x0 (mlp2 (slotMean x0) one nil x4 nil x6 nil)) one nil x16 nil) x18 (ix3 b s d) + 0) = _
  rw [add_zero]
  refine congrArg (x0 (ix3 b s d) + ·) ((dot3_apply _ _ x18 b s d).trans (Finset.sum_congr rfl fun k _ => congrArg (· * _) ?_))
  rw [layer3_apply, beside_at x4 x6 x10 x12 x16 x18]
  rfl

theorem query_at (b : Fin 16) (d : Fin 1024) : val_main_v129 (F := Ideal) x0 one nil x4 nil x6 nil one nil x16 nil x18 nil (ix2 b d)
    = (weights x4 x6 x10 x12 x16 x18).query (rows x0 b) d := by
  show mlp2 (slotMean (shifted x0 x4 x6 x16 x18)) one nil x4 nil x6 nil (ix2 b d) = _
  rw [pool_at x4 x6 x10 x12 x16 x18, shifted_at]
  rfl

theorem score_at (b : Fin 16) (s : Fin 64) :
    val_main_v173 (F := Ideal) x0 one nil x4 nil x6 nil one nil x10 nil x12 nil one nil x16 nil x18 nil (ix2 b s)
      = (weights x4 x6 x10 x12 x16 x18).score (rows x0 b) s := by
  refine (shapeCast_apply _ _ _ (ix3 b s (0 : Fin 1)) ?_).trans ?_
  · rw [Shape.rowMajor_val_two, Shape.rowMajor_val_three]
    show (b.val * 64 + s.val) * 1 + 0 = b.val * 64 + s.val
    omega
  show Host.dotGeneral dot_S16x64x1024_S1024x1_S16x64x1_2_0_01_1_n_n none
    (layer3 (beside (shifted x0 x4 x6 x16 x18) (mlp2 (slotMean (shifted x0 x4 x6 x16 x18)) one nil x4 nil x6 nil)) one nil x10 nil) x12
    (ix3 b s 0) + 0 = _
  rw [add_zero]
  refine (dot3_apply _ _ x12 b s 0).trans (Finset.sum_congr rfl fun k _ => congrArg (· * _) ?_)
  rw [layer3_apply, beside_at x4 x6 x10 x12 x16 x18, shifted_at x0 x4 x6 x10 x12 x16 x18]
  rfl

end Cert.StageARef

end
-- ==== Proof.Math.StageAProb.lean ====
/- The first reference's noisy scores and their softmax are those of the mathematics. -/
module

public import proofs.«01_k».proof.Proof.Math.StageARef

@[expose] public section

set_option maxRecDepth 16384

noncomputable section

namespace Cert.StageARef

open Idealize.ShloMosaic Idealize.ShloMosaic.ValueIdx Cert.Spec Cert.KernelVec Cert.HostVec Cert.ReferenceAIdeal Cert.ReferenceAIdeal.Gen
  Cert.ReferenceAIdeal.Read

theorem reduces_row : S16x64.Reduces [1] S16 := ⟨rfl, Nat.one_pos, reducesTo_S16x64_S16_d1.2⟩

theorem lit_bottom : lit 0xFF800000#32 = ⊥ := by
  unfold lit
  simp [Ideal.ofBits, Ideal.ieee, -EReal.coe_mul]

/-- A row's number, spread over the row. -/
abbrev over (x : FVec Ideal S16 .f32) : FVec Ideal S16x64 .f32 :=
  broadcastInDim S16x64 ![0, 1] bcast_S16x1_S16x64_0_1 (broadcastInDim S16x1 ![0] bcast_S16_S16x1_0 x)

theorem over_apply (x : FVec Ideal S16 .f32) (b : Fin 16) (s : Fin 64) : over x (ix2 b s) = x (ix1 b) := by
  refine (broadcastInDim_apply _ _ _ _ (ix2 b (0 : Fin 1)) fun a => ?_).trans (broadcastInDim_apply _ _ _ _ (ix1 b) fun a => ?_)
  · match a with
    | ⟨0, _⟩ => rfl
    | ⟨1, _⟩ => rfl
  · match a with
    | ⟨0, _⟩ => rfl

/-- Each row's greatest entry. -/
def tops (z : FVec Ideal S16x64 .f32) : FVec Ideal S16 .f32 :=
  maximumf (broadcastInDim S16 ![] bcast_S_S16 (word 0xFF800000#32))
    (Host.reduce FloatOps.maximumf z (word 0xFF800000#32) reducesTo_S16x64_S16_d1 h_S_)

theorem tops_apply (z : FVec Ideal S16x64 .f32) (b : Fin 16) : tops z (ix1 b) = top fun s => z (ix2 b s) := by
  have e : Host.reduce FloatOps.maximumf z (word 0xFF800000#32) reducesTo_S16x64_S16_d1 h_S_ (ix1 b) = top fun s => z (ix2 b s) := by
    refine (congrFun (hostReduce_maximumf_eq_multiReduction z 0xFF800000#32 reducesTo_S16x64_S16_d1 h_S_ reduces_row (.inl rfl) rfl) _).trans ?_
    refine (Ideal.multiReduction_maximumf_single z _ reduces_row _ _ _).trans ?_
    exact Finset.fold_congr fun k _ => congrArg z (lift_row reduces_row b k)
  show max (broadcastInDim S16 ![] bcast_S_S16 (word 0xFF800000#32) (ix1 b)) _ = _
  rw [e, scalar_spread]
  show max (lit 0xFF800000#32) _ = _
  rw [lit_bottom]
  exact max_eq_right bot_le

/-- Each row's softmax, on the host. -/
def probs (z : FVec Ideal S16x64 .f32) : FVec Ideal S16x64 .f32 :=
  Host.divf (Host.exp (subf z (over (tops z))))
    (over (Host.reduceAdd (Host.exp (subf z (over (tops z)))) (word 0x00000000#32) reducesTo_S16x64_S16_d1 h_S_))

theorem probs_apply (z : FVec Ideal S16x64 .f32) (b : Fin 16) (s : Fin 64) : probs z (ix2 b s) = softmax (fun s => z (ix2 b s)) s := by
  have e : ∀ s, Host.exp (subf z (over (tops z))) (ix2 b s) = Ideal.exp (z (ix2 b s) - top fun s => z (ix2 b s)) := by
    intro s
    show Ideal.exp (z (ix2 b s) - over (tops z) (ix2 b s)) = _
    rw [over_apply, tops_apply]
  unfold probs softmax
  show Ideal.div _ (over _ (ix2 b s)) = _
  rw [e, over_apply]
  refine congrArg (Ideal.div _) ?_
  show Ideal.hostReduceAdd reducesTo_S16x64_S16_d1 _ (Ideal.ofBits .f32 0x00000000#32) (ix1 b) = _
  rw [Ideal.hostReduceAdd_single reducesTo_S16x64_S16_d1 (by decide), Ideal.ofBits_zero_f32, zero_add]
  exact Finset.sum_congr rfl fun k _ => (congrArg _ (lift_row _ b k)).trans (e k)

variable (x0 : FVec Ideal S16x64x1024 .f32) (x1 : FVec Ideal S16x64 .f32) (x4 x6 : FVec Ideal S1024x1024 .f32)
  (x10 : FVec Ideal S2048x1024 .f32) (x12 : FVec Ideal S1024x1 .f32) (x16 : FVec Ideal S2048x1024 .f32) (x18 : FVec Ideal S1024x1024 .f32)

/-- The reference's noisy scores. -/
abbrev noisyZ : FVec Ideal S16x64 .f32 :=
  val_main_v180 (F := Ideal) x0 x1 one nil x4 nil x6 nil one nil x10 nil x12 nil one nil x16 nil x18 nil

theorem noisy_at (b : Fin 16) (s : Fin 64) : noisyZ x0 x1 x4 x6 x10 x12 x16 x18 (ix2 b s)
    = (weights x4 x6 x10 x12 x16 x18).noisy (rows x0 b) (fun s => gumbel (x1 (ix2 b s))) s := by
  show Ideal.div (val_main_v173 (F := Ideal) x0 one nil x4 nil x6 nil one nil x10 nil x12 nil one nil x16 nil x18 nil (ix2 b s)
    + gumbel (x1 (ix2 b s))) (broadcastInDim S16x64 ![] bcast_S_S16x64 (word 0x3F4CCCCD#32) (ix2 b s)) = _
  rw [scalar_spread, score_at]
  rfl

theorem probs_eq : val_main_v191 (F := Ideal) x0 x1 one nil x4 nil x6 nil one nil x10 nil x12 nil one nil x16 nil x18 nil
    = probs (noisyZ x0 x1 x4 x6 x10 x12 x16 x18) := rfl

end Cert.StageARef

end
-- ==== Proof.Math.StageAVec.lean ====
/- The first kernel's block values as the mathematics of its rows: the query, the scores, the noisy scores and their softmax, from what the
   kernel loads. -/
module

public import proofs.«01_k».proof.Proof.Math.KernelVec
public import proofs.«01_k».proof.Proof.Gen.KernelAIdeal.Skeleton
public import Idealize.ShloMosaic.Lib.Pointwise.SelectCore

@[expose] public section

set_option maxRecDepth 16384

noncomputable section

namespace Cert.StageA

open Idealize.ShloMosaic hiding ix1 ix2 ix3 ix4 addf_apply subf_apply mulf_apply divf_apply constant_apply truncf_apply
open Idealize.ShloMosaic.ValueIdx Cert.Spec Cert.KernelVec Cert.KernelAIdeal Cert.KernelAIdeal.Gen

/-- The kernel's divisor inside the activation. -/
abbrev s2 : Ideal .f32 := Named.named κ "sqrt2" 0x3FB504F3#32

theorem s2_eq : s2 = ((Real.sqrt 2 : ℝ) : EReal) := rfl

/-- A row of each batch spread over the batch's rows. -/
def spread (q : FVec Ideal S16x1024 .f32) : FVec Ideal S16x64x1024 .f32 :=
  broadcastTo S16x64x1024 (shapeCast S16x1x1024 (shapeCast S16x1x1024 q shapeCasts_S16x1024_S16x1x1024)
    shapeCasts_S16x1x1024_S16x1x1024) broadcasts_S16x1x1024_S16x64x1024

theorem spread_at (q : FVec Ideal S16x1024 .f32) (b : Fin 16) (s : Fin 64) (d : Fin 1024) : spread q (ix3 b s d) = q (ix2 b d) := by
  unfold spread
  rw [broadcastTo_apply _ _ (ix3 b s d) (ix3 b (0 : Fin 1) d) (fun a => match a with | ⟨0, _⟩ => rfl | ⟨1, _⟩ => rfl | ⟨2, _⟩ => rfl),
    shapeCast_apply _ _ _ (ix3 b (0 : Fin 1) d) rfl]
  refine shapeCast_apply _ _ _ (ix2 b d) ?_
  rw [Shape.rowMajor_val_two, Shape.rowMajor_val_three]
  show b.val * 1024 + d.val = (b.val * 1 + 0) * 1024 + d.val
  omega

/-- The rows of `x` beside those of `y`, one row per batch and position. -/
def joined (x y : FVec Ideal S16x64x1024 .f32) : FVec Ideal S1024x2048 .f32 :=
  shapeCast S1024x2048 (concatenate S16x64x2048 2 [⟨S16x64x1024, x⟩, ⟨S16x64x1024, y⟩]
    concatenates_S16x64x1024_S16x64x1024_S16x64x2048_d2) shapeCasts_S16x64x2048_S1024x2048

/-- The row of a block that holds batch `b`'s position `s`. -/
def flat (b : Fin 16) (s : Fin 64) : Fin 1024 := ⟨b.val * 64 + s.val, by omega⟩

theorem joined_at (x y : FVec Ideal S16x64x1024 .f32) (b : Fin 16) (s : Fin 64) (j : Fin 2048) :
    joined x y (ix2 (flat b s) j) = sideBySide (fun d => x (ix3 b s d)) (fun d => y (ix3 b s d)) j (le_refl _) := by
  unfold joined sideBySide
  rw [shapeCast_apply _ _ _ (ix3 b s j) (by
    rw [Shape.rowMajor_val_two, Shape.rowMajor_val_three]
    show (b.val * 64 + s.val) * 2048 + j.val = (b.val * 64 + s.val) * 2048 + j.val
    rfl)]
  by_cases h : j.val < 1024
  · rw [dif_pos h]
    refine concatenate_pair_apply_left (t := S16x64x2048) 2 x y _ _ rfl (ix3 b s ⟨j.val, h⟩) fun a => ?_
    match a with
    | ⟨0, _⟩ => rfl
    | ⟨1, _⟩ => rfl
    | ⟨2, _⟩ => rfl
  · rw [dif_neg h]
    refine concatenate_pair_apply_right (t := S16x64x2048) 2 x y _ _ rfl rfl (ix3 b s ⟨j.val - 1024, by omega⟩) (fun a ha => ?_) ?_
    · match a, ha with
      | ⟨0, _⟩, _ => rfl
      | ⟨1, _⟩, _ => rfl
      | ⟨2, _⟩, ha => exact absurd rfl ha
    · show j.val - 1024 + 1024 = j.val
      omega

variable (x0 : FVec Ideal S16x64x1024 .f32) (x1 : FVec Ideal S16x64 .f32) (x2 x3 : FVec Ideal S1024x1024 .bf16)
  (x4 : FVec Ideal S2048x1024 .bf16) (x5 : FVec Ideal S1024x1024 .bf16) (x6 : FVec Ideal S2048x1024 .bf16) (x7 : FVec Ideal S1024x1 .bf16)

/-- The kernel's weights, as functions of row and column. -/
def weights : Weights where
  pool1 i k := x2 (ix2 i k)
  pool2 i k := x3 (ix2 i k)
  shift1 i k := x4 (ix2 i k)
  shift2 i k := x5 (ix2 i k)
  keep1 i k := x6 (ix2 i k)
  keep2 i k := x7 (ix2 i k)

/-- A block's rows, by batch. -/
def rows (x : FVec Ideal S16x64x1024 .f32) (b : Fin 16) (s : Fin 64) (d : Fin 1024) : EReal := x (ix3 b s d)

/-- The pooling perceptron of each batch. -/
def poolV (x : FVec Ideal S16x64x1024 .f32) : FVec Ideal S16x1024 .f32 :=
  rowMlp 0x44800000#32 s2 dot_S16x1024_S1024x1024_S16x1024_1_0_0_1_n_n dot_S16x1024_S1024x1024_S16x1024_1_0_0_1_n_n x2 x3
    (midMean 0x42800000#32 x reduces_S16x64x1024_S16x1024) reduces_S16x1024_S16 shapeCasts_S16_S16x1 broadcasts_S16x1_S16x1024
    shapeCasts_S1024x1024_S1024x1024 shapeCasts_S1024x1024_S1024x1024 bitsLt_bf16_f32

theorem poolV_at (x : FVec Ideal S16x64x1024 .f32) (b : Fin 16) (d : Fin 1024) :
    poolV x2 x3 x (ix2 b d) = (weights x2 x3 x4 x5 x6 x7).pooled (rows x b) d := by
  unfold poolV Weights.pooled
  rw [rowMlp_apply _ _ s2_eq dot_S16x1024_S1024x1024_S16x1024_1_0_0_1_n_n dot_S16x1024_S1024x1024_S16x1024_1_0_0_1_n_n rfl rfl]
  simp only [midMean_apply]
  rfl

/-- The shifted rows. -/
def shiftV (x : FVec Ideal S16x64x1024 .f32) : FVec Ideal S16x64x1024 .f32 :=
  addf x (shapeCast S16x64x1024 (rowMlp 0x45000000#32 s2 dot_S1024x2048_S2048x1024_S1024x1024_1_0_0_1_n_n
    dot_S1024x1024_S1024x1024_S1024x1024_1_0_0_1_n_n x4 x5 (joined x (spread (poolV x2 x3 x))) reduces_S1024x2048_S1024
    shapeCasts_S1024_S1024x1 broadcasts_S1024x1_S1024x2048 shapeCasts_S2048x1024_S2048x1024 shapeCasts_S1024x1024_S1024x1024
    bitsLt_bf16_f32) shapeCasts_S1024x1024_S16x64x1024)

theorem joined_beside (x : FVec Ideal S16x64x1024 .f32) (b : Fin 16) (s : Fin 64) (j : Fin 2048) :
    joined x (spread (poolV x2 x3 x)) (ix2 (flat b s) j) = (weights x2 x3 x4 x5 x6 x7).beside (rows x b) s j := by
  rw [joined_at]
  simp only [spread_at, poolV_at x2 x3 x4 x5 x6 x7]
  rfl

theorem shiftV_at (x : FVec Ideal S16x64x1024 .f32) (b : Fin 16) (s : Fin 64) (d : Fin 1024) :
    shiftV x2 x3 x4 x5 x (ix3 b s d) = (weights x2 x3 x4 x5 x6 x7).shifted (rows x b) s d := by
  unfold shiftV Weights.shifted
  rw [addf_apply, shapeCast_apply _ _ _ (ix2 (flat b s) d) (by
    rw [Shape.rowMajor_val_two, Shape.rowMajor_val_three]
    rfl), rowMlp_apply _ _ s2_eq dot_S1024x2048_S2048x1024_S1024x1024_1_0_0_1_n_n dot_S1024x1024_S1024x1024_S1024x1024_1_0_0_1_n_n rfl rfl]
  simp only [joined_beside x2 x3 x4 x5 x6 x7]
  rfl

/-- The query of each batch. -/
def queryV (x : FVec Ideal S16x64x1024 .f32) : FVec Ideal S16x1024 .f32 := poolV x2 x3 (shiftV x2 x3 x4 x5 x)

theorem rows_shiftV (x : FVec Ideal S16x64x1024 .f32) (b : Fin 16) :
    rows (shiftV x2 x3 x4 x5 x) b = (weights x2 x3 x4 x5 x6 x7).shifted (rows x b) := by
  funext s d
  exact shiftV_at x2 x3 x4 x5 x6 x7 x b s d

theorem queryV_at (x : FVec Ideal S16x64x1024 .f32) (b : Fin 16) (d : Fin 1024) :
    queryV x2 x3 x4 x5 x (ix2 b d) = (weights x2 x3 x4 x5 x6 x7).query (rows x b) d := by
  unfold queryV Weights.query
  rw [poolV_at x2 x3 x4 x5 x6 x7, rows_shiftV x2 x3 x4 x5 x6 x7]

/-- The score of each row. -/
def scoreV (x : FVec Ideal S16x64x1024 .f32) : FVec Ideal S16x64 .f32 :=
  shapeCast S16x64 (rowMlp 0x45000000#32 s2 dot_S1024x2048_S2048x1024_S1024x1024_1_0_0_1_n_n
    dot_S1024x1024_S1024x1_S1024x1_1_0_0_1_n_n x6 x7
    (joined (shiftV x2 x3 x4 x5 x) (spread (queryV x2 x3 x4 x5 x))) reduces_S1024x2048_S1024
    shapeCasts_S1024_S1024x1 broadcasts_S1024x1_S1024x2048 shapeCasts_S2048x1024_S2048x1024 shapeCasts_S1024x1_S1024x1
    bitsLt_bf16_f32) shapeCasts_S1024x1_S16x64

theorem scoreV_at (x : FVec Ideal S16x64x1024 .f32) (b : Fin 16) (s : Fin 64) :
    scoreV x2 x3 x4 x5 x6 x7 x (ix2 b s) = (weights x2 x3 x4 x5 x6 x7).score (rows x b) s := by
  unfold scoreV queryV Weights.score
  rw [shapeCast_apply _ _ _ (ix2 (flat b s) (0 : Fin 1)) (by
    rw [Shape.rowMajor_val_two, Shape.rowMajor_val_two]
    show (b.val * 64 + s.val) * 1 + 0 = b.val * 64 + s.val
    omega), rowMlp_apply _ _ s2_eq dot_S1024x2048_S2048x1024_S1024x1024_1_0_0_1_n_n dot_S1024x1024_S1024x1_S1024x1_1_0_0_1_n_n rfl rfl]
  simp only [joined_beside x2 x3 x4 x5 x6 x7, rows_shiftV x2 x3 x4 x5 x6 x7]
  rfl

/-- The noisy scores. -/
def noisyV (x : FVec Ideal S16x64x1024 .f32) : FVec Ideal S16x64 .f32 :=
  divf (addf (scoreV x2 x3 x4 x5 x6 x7 x) (shapeCast S16x64 x1 shapeCasts_S16x64_S16x64)) (broadcast S16x64 (Scalar.ofBits .f32 0x3F4CCCCD#32))

theorem noisyV_at (x : FVec Ideal S16x64x1024 .f32) (b : Fin 16) (s : Fin 64) :
    noisyV x1 x2 x3 x4 x5 x6 x7 x (ix2 b s) = (weights x2 x3 x4 x5 x6 x7).noisy (rows x b) (fun s => x1 (ix2 b s)) s := by
  unfold noisyV Weights.noisy
  rw [divf_apply, addf_apply, scoreV_at, shapeCast_apply _ _ _ (ix2 b s) rfl]
  rfl

/-- The softmax of the noisy scores. -/
def probV (z : FVec Ideal S16x64 .f32) : FVec Ideal S16x64 .f32 :=
  rowSoftmax z reduces_S16x64_S16 shapeCasts_S16_S16x1 broadcasts_S16x1_S16x64

theorem probV_at (z : FVec Ideal S16x64 .f32) (b : Fin 16) (s : Fin 64) :
    probV z (ix2 b s) = softmax (fun s => z (ix2 b s)) s := rowSoftmax_apply ..

/-! The run's values are these. -/

theorem pay3_eq : k0_pay3 x0 x2 x3 = spread (poolV x2 x3 x0) := rfl

theorem pay4_eq : k0_pay4 x0 (spread (poolV x2 x3 x0)) x4 x5 = shiftV x2 x3 x4 x5 x0 := rfl

theorem pay7_eq : k0_pay7 (k0_pay5 x0 (spread (poolV x2 x3 x0)) x4 x5) (k0_pay6 x0 (spread (poolV x2 x3 x0)) x4 x5) x2 x3
    = queryV x2 x3 x4 x5 x0 := rfl

theorem pay10_eq (v81 v83) (h : k0_pay7 v81 v83 x2 x3 = queryV x2 x3 x4 x5 x0) :
    k0_pay10 (k0_pay8 (shiftV x2 x3 x4 x5 x0) v81 v83 x2 x3) (k0_pay9 (shiftV x2 x3 x4 x5 x0) v81 v83 x2 x3) x6 x7
      = scoreV x2 x3 x4 x5 x6 x7 x0 := by
  unfold scoreV
  rw [← h]
  rfl

theorem pay11_eq (v121 v125) (h : k0_pay10 v121 v125 x6 x7 = scoreV x2 x3 x4 x5 x6 x7 x0) :
    k0_pay11 v121 v125 x6 x7 x1 = noisyV x1 x2 x3 x4 x5 x6 x7 x0 := by
  unfold noisyV
  rw [← h]
  rfl

theorem pay13_eq (v121 v125) (h : k0_pay11 v121 v125 x6 x7 x1 = noisyV x1 x2 x3 x4 x5 x6 x7 x0) :
    k0_pay13 (k0_pay12 v121 v125 x6 x7 x1) = probV (noisyV x1 x2 x3 x4 x5 x6 x7 x0) := by
  rw [← h]
  rfl

end Cert.StageA

end
-- ==== Proof.Math.StageARun.lean ====
/- What the first kernel's run leaves in its outputs, as block values of its inputs: the query, the scores, the probabilities, and the kept
   rows as the blocks its rounds' one-hot rows pick. -/
module

public import proofs.«01_k».proof.Proof.Math.StageAVec
public import proofs.«01_k».proof.Proof.Gen.KernelAIdeal.Value

@[expose] public section

set_option maxRecDepth 16384

noncomputable section

namespace Cert.StageA

open Idealize.ShloMosaic Idealize.SL.Sem Cert.KernelVec Cert.KernelAIdeal Cert.KernelAIdeal.Gen

/-- A load of a whole buffer from its start reads its contents. -/
theorem load_whole {sig : RefSig} {κ : Kind} {sp : Space} {s : Shape} {e : EltTy} {m : Memref sig κ sp s e} (h : m.IsWhole)
    (X : s.Idx → Elt Ideal e) {off : Fin s.rank → Nat} (ho : ∀ a, off a = 0) (inb : ∀ a, off a + s.size a ≤ s.size a) :
    View.readAt (Elt Ideal) m.view (Rect.unit off s.size inb).toLoadRect (h.unread X) = X := by
  rw [View.readAt_eq_ld, h.read_unread]
  exact View.ld_unit_zero (funext ho) inb X

/-- The scores before round `n`. -/
def state (z : FVec Ideal S16x64 .f32) : Nat → FVec Ideal S16x64 .f32
  | 0 => z
  | n + 1 => k0_pay16 (state z n)

theorem row_inb (n : Nat) : ∀ a, (![0, n % 48, 0] : Fin S16x48x64.rank → Nat) a + S16x1x64.size a ≤ S16x48x64.size a := by
  intro a
  have := Nat.mod_lt n (show 0 < 48 by decide)
  match a with
  | ⟨0, _⟩ => exact le_refl 16
  | ⟨1, _⟩ => exact this
  | ⟨2, _⟩ => exact le_refl 64

/-- The one-hot rows the first `n` rounds store, the last first. -/
def picks (z : FVec Ideal S16x64 .f32) : Nat → List (View.Piece (Elt Ideal) S16x48x64 .f32)
  | 0 => []
  | n + 1 => ⟨Rect.unit ![0, n % 48, 0] S16x1x64.size (row_inb n), k0_pay15 (state z n)⟩ :: picks z n

theorem kept_inb (n : Nat) : ∀ a, (![n % 16, 0, 0] : Fin S16x48x1024.rank → Nat) a + S1x48x1024.size a ≤ S16x48x1024.size a := by
  intro a
  have := Nat.mod_lt n (show 0 < 16 by decide)
  match a with
  | ⟨0, _⟩ => exact this
  | ⟨1, _⟩ => exact le_refl 48
  | ⟨2, _⟩ => exact le_refl 1024

theorem plane_inb (n : Nat) : ∀ a, (![n % 16, 0, 0] : Fin S16x48x64.rank → Nat) a + S1x48x64.size a ≤ S16x48x64.size a := by
  intro a
  have := Nat.mod_lt n (show 0 < 16 by decide)
  match a with
  | ⟨0, _⟩ => exact this
  | ⟨1, _⟩ => exact le_refl 48
  | ⟨2, _⟩ => exact le_refl 64

/-- The planes of one-hot rows of batch `n`. -/
def plane (n : Nat) : Rect S16x48x64 := Rect.unit ![n % 16, 0, 0] S1x48x64.size (plane_inb n)

theorem batch_slices (n : Nat) : S16x64x1024.Slices ![n % 16, 0, 0] S1x64x1024 := by
  refine ⟨rfl, fun a => ?_⟩
  have := Nat.mod_lt n (show 0 < 16 by decide)
  match a with
  | ⟨0, _⟩ => exact this
  | ⟨1, _⟩ => exact le_refl 64
  | ⟨2, _⟩ => exact le_refl 1024

/-- The rows of batch `n` that a block of one-hot rows picks. -/
def keptBlock (x : FVec Ideal S16x64x1024 .f32) (n : Nat) (o : FVec Ideal S1x48x64 .f32) : FVec Ideal S1x48x1024 .f32 :=
  shapeCast S1x48x1024 (matmul dot_S48x64_S64x1024_S48x1024_1_0_0_1_n_n (some .fp32) (shapeCast S48x64 o shapeCasts_S1x48x64_S48x64)
    (shapeCast S64x1024 (extractStridedSlice S1x64x1024 ![n % 16, 0, 0] x (batch_slices n)) shapeCasts_S1x64x1024_S64x1024)
    (constant S48x1024 .f32 0x00000000#32)) shapeCasts_S48x1024_S1x48x1024

/-- The blocks of kept rows the first `n` batches store, the last first, the one-hot rows in `P`. -/
def keptBlocks (v : View sig .tc .vmem S16x48x64 .f32) (P : List (View.Piece (Elt Ideal) S16x48x64 .f32)) (x : FVec Ideal S16x64x1024 .f32) :
    Nat → List (View.Piece (Elt Ideal) S16x48x1024 .f32)
  | 0 => []
  | n + 1 => ⟨Rect.unit ![n % 16, 0, 0] S1x48x1024.size (kept_inb n),
      keptBlock x n (v.readCov P (plane n).toLoadRect)⟩ :: keptBlocks v P x n

variable (c : Dev nD) (arg0 : Memref sig .tc .vmem S16x64x1024 .f32) (harg0 : arg0.IsWhole) (arg1 : Memref sig .tc .vmem S16x64 .f32)
  (harg1 : arg1.IsWhole) (arg2 : Memref sig .tc .vmem S1024x1024 .bf16) (harg2 : arg2.IsWhole) (arg3 : Memref sig .tc .vmem S1024x1024 .bf16)
  (harg3 : arg3.IsWhole) (arg4 : Memref sig .tc .vmem S2048x1024 .bf16) (harg4 : arg4.IsWhole) (arg5 : Memref sig .tc .vmem S1024x1024 .bf16)
  (harg5 : arg5.IsWhole) (arg6 : Memref sig .tc .vmem S2048x1024 .bf16) (harg6 : arg6.IsWhole) (arg7 : Memref sig .tc .vmem S1024x1 .bf16)
  (harg7 : arg7.IsWhole) (arg8 : Memref sig .tc .vmem S16x1024 .f32) (harg8 : arg8.IsWhole) (arg9 : Memref sig .tc .vmem S16x64 .f32)
  (harg9 : arg9.IsWhole) (arg10 : Memref sig .tc .vmem S16x64 .f32) (harg10 : arg10.IsWhole) (arg11 : Memref sig .tc .vmem S16x48x1024 .f32)
  (harg11 : arg11.IsWhole) (arg12 : Memref sig .tc .vmem S16x48x64 .f32) (harg12 : arg12.IsWhole)
  (x0 : FVec Ideal S16x64x1024 .f32) (x1 : FVec Ideal S16x64 .f32) (x2 x3 : FVec Ideal S1024x1024 .bf16)
  (x4 : FVec Ideal S2048x1024 .bf16) (x5 : FVec Ideal S1024x1024 .bf16) (x6 : FVec Ideal S2048x1024 .bf16) (x7 : FVec Ideal S1024x1 .bf16)

theorem load0 : View.readAt (Elt Ideal) arg0.view (Rect.unit ![0, 0, 0] ![16, 64, 1024] inb_S16x64x1024_S16x64x1024_0_0_0).toLoadRect (harg0.unread x0) = x0 :=
  load_whole harg0 x0 (by decide) inb_S16x64x1024_S16x64x1024_0_0_0

theorem load1 : View.readAt (Elt Ideal) arg1.view (Rect.unit ![0, 0] ![16, 64] inb_S16x64_S16x64_0_0).toLoadRect (harg1.unread x1) = x1 :=
  load_whole harg1 x1 (by decide) inb_S16x64_S16x64_0_0

theorem load2 : View.readAt (Elt Ideal) arg2.view (Rect.unit ![0, 0] ![1024, 1024] inb_S1024x1024_S1024x1024_0_0).toLoadRect (harg2.unread x2) = x2 :=
  load_whole harg2 x2 (by decide) inb_S1024x1024_S1024x1024_0_0

theorem load3 : View.readAt (Elt Ideal) arg3.view (Rect.unit ![0, 0] ![1024, 1024] inb_S1024x1024_S1024x1024_0_0).toLoadRect (harg3.unread x3) = x3 :=
  load_whole harg3 x3 (by decide) inb_S1024x1024_S1024x1024_0_0

theorem load4 : View.readAt (Elt Ideal) arg4.view (Rect.unit ![0, 0] ![2048, 1024] inb_S2048x1024_S2048x1024_0_0).toLoadRect (harg4.unread x4) = x4 :=
  load_whole harg4 x4 (by decide) inb_S2048x1024_S2048x1024_0_0

theorem load5 : View.readAt (Elt Ideal) arg5.view (Rect.unit ![0, 0] ![1024, 1024] inb_S1024x1024_S1024x1024_0_0).toLoadRect (harg5.unread x5) = x5 :=
  load_whole harg5 x5 (by decide) inb_S1024x1024_S1024x1024_0_0

theorem load6 : View.readAt (Elt Ideal) arg6.view (Rect.unit ![0, 0] ![2048, 1024] inb_S2048x1024_S2048x1024_0_0).toLoadRect (harg6.unread x6) = x6 :=
  load_whole harg6 x6 (by decide) inb_S2048x1024_S2048x1024_0_0

theorem load7 : View.readAt (Elt Ideal) arg7.view (Rect.unit ![0, 0] ![1024, 1] inb_S1024x1_S1024x1_0_0).toLoadRect (harg7.unread x7) = x7 :=
  load_whole harg7 x7 (by decide) inb_S1024x1_S1024x1_0_0

theorem out8_eq : out0_A_8 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = queryV x2 x3 x4 x5 x0 := by
  unfold out0_A_8 kernelRun0_A
  dsimp only
  rw [View.read_writes_junk_eq_canon, View.canon_unit_zero (S := S16x1024) (off := ![0, 0]) (by funext a; revert a; decide)]
  simp only [kernelRun0_A.sl.r_3, kernelRun0_A.sl.r_4, kernelRun0_A.sl.r_2, kernelRun0_A.sl.r_1, kernelRun0_A.sl.r, load0, load1, load2, load3, load4, load5, load6, load7]
  rw [pay3_eq]
  exact pay7_eq ..

theorem out9_eq : out0_A_9 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = scoreV x2 x3 x4 x5 x6 x7 x0 := by
  unfold out0_A_9 kernelRun0_A
  dsimp only
  rw [View.read_writes_junk_eq_canon, View.canon_unit_zero (S := S16x64) (off := ![0, 0]) (by funext a; revert a; decide)]
  simp only [kernelRun0_A.sl.r_5, kernelRun0_A.sl.r_6, kernelRun0_A.sl.r_3, kernelRun0_A.sl.r_4, kernelRun0_A.sl.r_2, kernelRun0_A.sl.r_1, kernelRun0_A.sl.r, load0, load1, load2, load3, load4, load5, load6, load7]
  rw [pay3_eq, pay4_eq]
  exact pay10_eq _ _ _ _ _ _ _ _ _ (pay7_eq ..)

theorem out10_eq : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = probV (noisyV x1 x2 x3 x4 x5 x6 x7 x0) := by
  unfold out0_A_10 kernelRun0_A
  dsimp only
  rw [View.read_writes_junk_eq_canon, View.canon_unit_zero (S := S16x64) (off := ![0, 0]) (by funext a; revert a; decide)]
  simp only [kernelRun0_A.sl.r_8, kernelRun0_A.sl.r_5, kernelRun0_A.sl.r_6, kernelRun0_A.sl.r_3, kernelRun0_A.sl.r_4, kernelRun0_A.sl.r_2, kernelRun0_A.sl.r_1, kernelRun0_A.sl.r, load0, load1, load2, load3, load4, load5, load6, load7]
  rw [pay3_eq, pay4_eq]
  exact pay13_eq _ _ _ _ _ _ _ _ _ _ (pay11_eq _ _ _ _ _ _ _ _ _ _ (pay10_eq _ _ _ _ _ _ _ _ _ (pay7_eq ..)))

theorem noisy_eq : kernelRun0_A.sl.r_7 (F := Ideal) c arg0 harg0 arg1 harg1 arg2 harg2 arg3 harg3 arg4 harg4 arg5 harg5 arg6 harg6 arg7 harg7 x0 x1 x2 x3 x4 x5 x6 x7
    = noisyV x1 x2 x3 x4 x5 x6 x7 x0 := by
  simp only [kernelRun0_A.sl.r_7, kernelRun0_A.sl.r_5, kernelRun0_A.sl.r_6, kernelRun0_A.sl.r_3, kernelRun0_A.sl.r_4, kernelRun0_A.sl.r_2, kernelRun0_A.sl.r_1, kernelRun0_A.sl.r, load0, load1, load2, load3, load4, load5, load6, load7]
  rw [pay3_eq, pay4_eq]
  exact pay11_eq _ _ _ _ _ _ _ _ _ _ (pay10_eq _ _ _ _ _ _ _ _ _ (pay7_eq ..))

theorem block_eq : kernelRun0_A.sl.r (F := Ideal) c arg0 harg0 x0 = x0 := load0 ..

theorem rounds_eq : kernelRun0_A.sl.HS0_48 (F := Ideal) c arg0 harg0 arg1 harg1 arg2 harg2 arg3 harg3 arg4 harg4 arg5 harg5 arg6 harg6 arg7 harg7 x0 x1 x2 x3 x4 x5 x6 x7
    = picks (kernelRun0_A.sl.r_7 (F := Ideal) c arg0 harg0 arg1 harg1 arg2 harg2 arg3 harg3 arg4 harg4 arg5 harg5 arg6 harg6 arg7 harg7 x0 x1 x2 x3 x4 x5 x6 x7) 48 := rfl

theorem pieces11_eq : (kernelRun0_A (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7).2.2.2.1
    = keptBlocks arg12.view (kernelRun0_A.sl.HS0_48 (F := Ideal) c arg0 harg0 arg1 harg1 arg2 harg2 arg3 harg3 arg4 harg4 arg5 harg5 arg6 harg6 arg7 harg7 x0 x1 x2 x3 x4 x5 x6 x7)
      (kernelRun0_A.sl.r (F := Ideal) c arg0 harg0 x0) 16 := by
  rfl

theorem out11_eq : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7
    = View.canon (keptBlocks arg12.view (picks (noisyV x1 x2 x3 x4 x5 x6 x7 x0) 48) x0 16) := by
  unfold out0_A_11
  rw [View.read_writes_junk_eq_canon, pieces11_eq, rounds_eq, noisy_eq, block_eq]

end Cert.StageA

end
-- ==== Proof.Math.StageAOut.lean ====
/- The first kernel's output arrays after the run, as functions of the arguments: at the one grid point each window's block is its whole
   array, so an output array is what the run left in its staging buffer, at the arrays the region finds. -/
module

public import proofs.«01_k».proof.Proof.Math.StageARun

@[expose] public section

set_option maxRecDepth 16384

noncomputable section

namespace Cert.StageA

open Idealize.ShloMosaic Idealize.ShloMosaic.TcCoe Idealize.SL.Sem Cert.KernelVec Cert.KernelAIdeal Cert.KernelAIdeal.Gen

variable (m : (ℓ : Loc nD τ sig) → Buf (Elt Ideal) ℓ)

/-- The noise the host makes of the draws. -/
abbrev noise (u : FVec Ideal S16x64 .f32) : FVec Ideal S16x64 .f32 := Host.negf (Host.log (Host.negf (Host.log u)))

/-- A weight in the narrow format the kernel takes. -/
abbrev narrow {s : Shape} (x : FVec Ideal s .f32) : FVec Ideal s .bf16 := truncf .bf16 x bitsLt_bf16_f32

theorem entered_noise (c : Dev nD) : V m c main_v3 = noise (m ((c : Thread nD τ).loc main_arg1)) := by
  show StableHlo.after hostOps0 _ (Proc.devRef .tc main_v3) = _
  after_results

theorem entered4 (c : Dev nD) : V m c main_v4 = narrow (s := S1024x1024) (m ((c : Thread nD τ).loc main_arg4)) := by
  show StableHlo.after hostOps0 _ (Proc.devRef .tc main_v4) = _
  after_results

theorem entered5 (c : Dev nD) : V m c main_v5 = narrow (s := S1024x1024) (m ((c : Thread nD τ).loc main_arg6)) := by
  show StableHlo.after hostOps0 _ (Proc.devRef .tc main_v5) = _
  after_results

theorem entered6 (c : Dev nD) : V m c main_v6 = narrow (s := S2048x1024) (m ((c : Thread nD τ).loc main_arg16)) := by
  show StableHlo.after hostOps0 _ (Proc.devRef .tc main_v6) = _
  after_results

theorem entered7 (c : Dev nD) : V m c main_v7 = narrow (s := S1024x1024) (m ((c : Thread nD τ).loc main_arg18)) := by
  show StableHlo.after hostOps0 _ (Proc.devRef .tc main_v7) = _
  after_results

theorem entered8 (c : Dev nD) : V m c main_v8 = narrow (s := S2048x1024) (m ((c : Thread nD τ).loc main_arg10)) := by
  show StableHlo.after hostOps0 _ (Proc.devRef .tc main_v8) = _
  after_results

theorem entered9 (c : Dev nD) : V m c main_v9 = narrow (s := S1024x1) (m ((c : Thread nD τ).loc main_arg12)) := by
  show StableHlo.after hostOps0 _ (Proc.devRef .tc main_v9) = _
  after_results

theorem emb0 (t : Fin cfg0.N) (j : S16x64x1024.Idx) : ((cfg0.win 0).blk t).view.emb j = j := by
  funext a
  apply Fin.ext
  show 0 * _ + 1 * (j a).val = (j a).val
  omega

theorem emb1 (t : Fin cfg0.N) (j : S16x64.Idx) : ((cfg0.win 1).blk t).view.emb j = j := by
  funext a
  apply Fin.ext
  show 0 * _ + 1 * (j a).val = (j a).val
  omega

theorem emb2 (t : Fin cfg0.N) (j : S1024x1024.Idx) : ((cfg0.win 2).blk t).view.emb j = j := by
  funext a
  apply Fin.ext
  show 0 * _ + 1 * (j a).val = (j a).val
  omega

theorem emb3 (t : Fin cfg0.N) (j : S1024x1024.Idx) : ((cfg0.win 3).blk t).view.emb j = j := by
  funext a
  apply Fin.ext
  show 0 * _ + 1 * (j a).val = (j a).val
  omega

theorem emb4 (t : Fin cfg0.N) (j : S2048x1024.Idx) : ((cfg0.win 4).blk t).view.emb j = j := by
  funext a
  apply Fin.ext
  show 0 * _ + 1 * (j a).val = (j a).val
  omega

theorem emb5 (t : Fin cfg0.N) (j : S1024x1024.Idx) : ((cfg0.win 5).blk t).view.emb j = j := by
  funext a
  apply Fin.ext
  show 0 * _ + 1 * (j a).val = (j a).val
  omega

theorem emb6 (t : Fin cfg0.N) (j : S2048x1024.Idx) : ((cfg0.win 6).blk t).view.emb j = j := by
  funext a
  apply Fin.ext
  show 0 * _ + 1 * (j a).val = (j a).val
  omega

theorem emb7 (t : Fin cfg0.N) (j : S1024x1.Idx) : ((cfg0.win 7).blk t).view.emb j = j := by
  funext a
  apply Fin.ext
  show 0 * _ + 1 * (j a).val = (j a).val
  omega

theorem emb8 (t : Fin cfg0.N) (j : S16x1024.Idx) : ((cfg0.win 8).blk t).view.emb j = j := by
  funext a
  apply Fin.ext
  show 0 * _ + 1 * (j a).val = (j a).val
  omega

theorem emb9 (t : Fin cfg0.N) (j : S16x64.Idx) : ((cfg0.win 9).blk t).view.emb j = j := by
  funext a
  apply Fin.ext
  show 0 * _ + 1 * (j a).val = (j a).val
  omega

theorem emb10 (t : Fin cfg0.N) (j : S16x64.Idx) : ((cfg0.win 10).blk t).view.emb j = j := by
  funext a
  apply Fin.ext
  show 0 * _ + 1 * (j a).val = (j a).val
  omega

theorem emb11 (t : Fin cfg0.N) (j : S16x48x1024.Idx) : ((cfg0.win 11).blk t).view.emb j = j := by
  funext a
  apply Fin.ext
  show 0 * _ + 1 * (j a).val = (j a).val
  omega

theorem iblk0_eq (c : Dev nD) (t : Fin cfg0.N) : iblk m c 0 t = V m c main_arg0 := by
  funext j
  show V m c main_arg0 (((cfg0.win 0).blk t).view.emb j) = V m c main_arg0 j
  rw [emb0]

theorem iblk1_eq (c : Dev nD) (t : Fin cfg0.N) : iblk m c 1 t = V m c main_v3 := by
  funext j
  show V m c main_v3 (((cfg0.win 1).blk t).view.emb j) = V m c main_v3 j
  rw [emb1]

theorem iblk2_eq (c : Dev nD) (t : Fin cfg0.N) : iblk m c 2 t = V m c main_v4 := by
  funext j
  show V m c main_v4 (((cfg0.win 2).blk t).view.emb j) = V m c main_v4 j
  rw [emb2]

theorem iblk3_eq (c : Dev nD) (t : Fin cfg0.N) : iblk m c 3 t = V m c main_v5 := by
  funext j
  show V m c main_v5 (((cfg0.win 3).blk t).view.emb j) = V m c main_v5 j
  rw [emb3]

theorem iblk4_eq (c : Dev nD) (t : Fin cfg0.N) : iblk m c 4 t = V m c main_v6 := by
  funext j
  show V m c main_v6 (((cfg0.win 4).blk t).view.emb j) = V m c main_v6 j
  rw [emb4]

theorem iblk5_eq (c : Dev nD) (t : Fin cfg0.N) : iblk m c 5 t = V m c main_v7 := by
  funext j
  show V m c main_v7 (((cfg0.win 5).blk t).view.emb j) = V m c main_v7 j
  rw [emb5]

theorem iblk6_eq (c : Dev nD) (t : Fin cfg0.N) : iblk m c 6 t = V m c main_v8 := by
  funext j
  show V m c main_v8 (((cfg0.win 6).blk t).view.emb j) = V m c main_v8 j
  rw [emb6]

theorem iblk7_eq (c : Dev nD) (t : Fin cfg0.N) : iblk m c 7 t = V m c main_v9 := by
  funext j
  show V m c main_v9 (((cfg0.win 7).blk t).view.emb j) = V m c main_v9 j
  rw [emb7]

theorem cut8 (t : Fin cfg0.N) (X : FVec Ideal S16x1024 .f32) :
    (cfg0.win 8).cut (grid0.coords t) X = ((cfg0.win 8).blk t).view.read (Elt Ideal) X := by
  funext j
  show X j = X (((cfg0.win 8).blk t).view.emb j)
  rw [emb8]

theorem final8 (c : Dev nD) : (dats m 0 c).arrAt 8 cfg0.N = queryV (narrow (m ((c : Thread nD τ).loc main_arg4))) (narrow (m ((c : Thread nD τ).loc main_arg6))) (narrow (m ((c : Thread nD τ).loc main_arg16))) (narrow (m ((c : Thread nD τ).loc main_arg18))) (m ((c : Thread nD τ).loc main_arg0)) := by
  refine (dats m 0 c).arrAt_eq_of_cover 8 _ (fun t _ => ?_) (fun i => ⟨(⟨0, by decide⟩ : Fin cfg0.N), flush0_8 _, ?_⟩)
  · rw [Value.flushed8_A, out8_eq]
    simp only [iblk0_eq, iblk1_eq, iblk2_eq, iblk3_eq, iblk4_eq, iblk5_eq, iblk6_eq, iblk7_eq, V_main_arg0, entered_noise, entered4, entered5, entered6,
      entered7, entered8, entered9]
    exact cut8 t _
  · have h := ((cfg0.win 8).blk (⟨0, by decide⟩ : Fin cfg0.N)).view.emb_mem_set i
    rwa [emb8] at h

theorem cut9 (t : Fin cfg0.N) (X : FVec Ideal S16x64 .f32) :
    (cfg0.win 9).cut (grid0.coords t) X = ((cfg0.win 9).blk t).view.read (Elt Ideal) X := by
  funext j
  show X j = X (((cfg0.win 9).blk t).view.emb j)
  rw [emb9]

theorem final9 (c : Dev nD) : (dats m 0 c).arrAt 9 cfg0.N = scoreV (narrow (m ((c : Thread nD τ).loc main_arg4))) (narrow (m ((c : Thread nD τ).loc main_arg6))) (narrow (m ((c : Thread nD τ).loc main_arg16))) (narrow (m ((c : Thread nD τ).loc main_arg18))) (narrow (m ((c : Thread nD τ).loc main_arg10))) (narrow (m ((c : Thread nD τ).loc main_arg12))) (m ((c : Thread nD τ).loc main_arg0)) := by
  refine (dats m 0 c).arrAt_eq_of_cover 9 _ (fun t _ => ?_) (fun i => ⟨(⟨0, by decide⟩ : Fin cfg0.N), flush0_9 _, ?_⟩)
  · rw [Value.flushed9_A, out9_eq]
    simp only [iblk0_eq, iblk1_eq, iblk2_eq, iblk3_eq, iblk4_eq, iblk5_eq, iblk6_eq, iblk7_eq, V_main_arg0, entered_noise, entered4, entered5, entered6,
      entered7, entered8, entered9]
    exact cut9 t _
  · have h := ((cfg0.win 9).blk (⟨0, by decide⟩ : Fin cfg0.N)).view.emb_mem_set i
    rwa [emb9] at h

theorem cut10 (t : Fin cfg0.N) (X : FVec Ideal S16x64 .f32) :
    (cfg0.win 10).cut (grid0.coords t) X = ((cfg0.win 10).blk t).view.read (Elt Ideal) X := by
  funext j
  show X j = X (((cfg0.win 10).blk t).view.emb j)
  rw [emb10]

theorem final10 (c : Dev nD) : (dats m 0 c).arrAt 10 cfg0.N = probV (noisyV (noise (m ((c : Thread nD τ).loc main_arg1))) (narrow (m ((c : Thread nD τ).loc main_arg4))) (narrow (m ((c : Thread nD τ).loc main_arg6))) (narrow (m ((c : Thread nD τ).loc main_arg16))) (narrow (m ((c : Thread nD τ).loc main_arg18))) (narrow (m ((c : Thread nD τ).loc main_arg10))) (narrow (m ((c : Thread nD τ).loc main_arg12))) (m ((c : Thread nD τ).loc main_arg0))) := by
  refine (dats m 0 c).arrAt_eq_of_cover 10 _ (fun t _ => ?_) (fun i => ⟨(⟨0, by decide⟩ : Fin cfg0.N), flush0_10 _, ?_⟩)
  · rw [Value.flushed10_A, out10_eq]
    simp only [iblk0_eq, iblk1_eq, iblk2_eq, iblk3_eq, iblk4_eq, iblk5_eq, iblk6_eq, iblk7_eq, V_main_arg0, entered_noise, entered4, entered5, entered6,
      entered7, entered8, entered9]
    exact cut10 t _
  · have h := ((cfg0.win 10).blk (⟨0, by decide⟩ : Fin cfg0.N)).view.emb_mem_set i
    rwa [emb10] at h

theorem cut11 (t : Fin cfg0.N) (X : FVec Ideal S16x48x1024 .f32) :
    (cfg0.win 11).cut (grid0.coords t) X = ((cfg0.win 11).blk t).view.read (Elt Ideal) X := by
  funext j
  show X j = X (((cfg0.win 11).blk t).view.emb j)
  rw [emb11]

theorem final11 (c : Dev nD) : (dats m 0 c).arrAt 11 cfg0.N = View.canon (keptBlocks scM0_0.view (picks (noisyV (noise (m ((c : Thread nD τ).loc main_arg1))) (narrow (m ((c : Thread nD τ).loc main_arg4))) (narrow (m ((c : Thread nD τ).loc main_arg6))) (narrow (m ((c : Thread nD τ).loc main_arg16))) (narrow (m ((c : Thread nD τ).loc main_arg18))) (narrow (m ((c : Thread nD τ).loc main_arg10))) (narrow (m ((c : Thread nD τ).loc main_arg12))) (m ((c : Thread nD τ).loc main_arg0))) 48) (m ((c : Thread nD τ).loc main_arg0)) 16) := by
  refine (dats m 0 c).arrAt_eq_of_cover 11 _ (fun t _ => ?_) (fun i => ⟨(⟨0, by decide⟩ : Fin cfg0.N), flush0_11 _, ?_⟩)
  · rw [Value.flushed11_A, out11_eq]
    simp only [iblk0_eq, iblk1_eq, iblk2_eq, iblk3_eq, iblk4_eq, iblk5_eq, iblk6_eq, iblk7_eq, V_main_arg0, entered_noise, entered4, entered5, entered6,
      entered7, entered8, entered9]
    exact cut11 t _
  · have h := ((cfg0.win 11).blk (⟨0, by decide⟩ : Fin cfg0.N)).view.emb_mem_set i
    rwa [emb11] at h

end Cert.StageA

end
-- ==== Proof.Math.StageAEq.lean ====
/- Stage A's kernel and reference compute the same query, scores and probabilities: both are those of the mathematics. -/
module

public import proofs.«01_k».proof.Proof.Math.StageAProb
public import proofs.«01_k».proof.Proof.Math.StageAOut

@[expose] public section

noncomputable section

namespace Cert.StageAEq

open Idealize.ShloMosaic Idealize.ShloMosaic.ValueIdx Cert.Spec Cert.StageA Cert.StageARef Cert.KernelVec Cert.ReferenceAIdeal.Read

variable (x0 : FVec Ideal Cert.ReferenceAIdeal.S16x64x1024 .f32) (x1 : FVec Ideal Cert.ReferenceAIdeal.S16x64 .f32)
  (x4 x6 : FVec Ideal Cert.ReferenceAIdeal.S1024x1024 .f32) (x10 : FVec Ideal Cert.ReferenceAIdeal.S2048x1024 .f32)
  (x12 : FVec Ideal Cert.ReferenceAIdeal.S1024x1 .f32) (x16 : FVec Ideal Cert.ReferenceAIdeal.S2048x1024 .f32)
  (x18 : FVec Ideal Cert.ReferenceAIdeal.S1024x1024 .f32)

include x10 x12 in
theorem query_eq : queryV (narrow x4) (narrow x6) (narrow x16) (narrow x18) x0
    = val_main_v129 (F := Ideal) x0 one nil x4 nil x6 nil one nil x16 nil x18 nil := by
  funext i
  rw [ValueIdx.eq_ix2 i]
  exact (queryV_at _ _ _ _ (narrow x10) (narrow x12) x0 _ _).trans (query_at x0 x4 x6 x10 x12 x16 x18 _ _).symm

theorem score_eq : scoreV (narrow x4) (narrow x6) (narrow x16) (narrow x18) (narrow x10) (narrow x12) x0
    = val_main_v173 (F := Ideal) x0 one nil x4 nil x6 nil one nil x10 nil x12 nil one nil x16 nil x18 nil := by
  funext i
  rw [ValueIdx.eq_ix2 i]
  exact (scoreV_at _ _ _ _ _ _ x0 _ _).trans (score_at x0 x4 x6 x10 x12 x16 x18 _ _).symm

theorem noisy_eq : noisyV (noise x1) (narrow x4) (narrow x6) (narrow x16) (narrow x18) (narrow x10) (narrow x12) x0
    = noisyZ x0 x1 x4 x6 x10 x12 x16 x18 := by
  funext i
  rw [ValueIdx.eq_ix2 i]
  exact (noisyV_at _ _ _ _ _ _ _ x0 _ _).trans (noisy_at x0 x1 x4 x6 x10 x12 x16 x18 _ _).symm

theorem prob_eq : probV (noisyV (noise x1) (narrow x4) (narrow x6) (narrow x16) (narrow x18) (narrow x10) (narrow x12) x0)
    = val_main_v191 (F := Ideal) x0 x1 one nil x4 nil x6 nil one nil x10 nil x12 nil one nil x16 nil x18 nil := by
  rw [probs_eq, noisy_eq]
  funext i
  rw [ValueIdx.eq_ix2 i]
  exact (probV_at _ _ _).trans (probs_apply _ _ _).symm

/-! The same for arrays known to equal these. -/

include x10 x12 in
theorem query_of {y0 : FVec Ideal Cert.ReferenceAIdeal.S16x64x1024 .f32} {y2 : FVec Ideal Cert.ReferenceAIdeal.S1024 .f32} {y3 : FVec Ideal Cert.ReferenceAIdeal.S1024 .f32} {y4 : FVec Ideal Cert.ReferenceAIdeal.S1024x1024 .f32} {y5 : FVec Ideal Cert.ReferenceAIdeal.S1024 .f32} {y6 : FVec Ideal Cert.ReferenceAIdeal.S1024x1024 .f32} {y7 : FVec Ideal Cert.ReferenceAIdeal.S1024 .f32} {y14 : FVec Ideal Cert.ReferenceAIdeal.S2048 .f32} {y15 : FVec Ideal Cert.ReferenceAIdeal.S2048 .f32} {y16 : FVec Ideal Cert.ReferenceAIdeal.S2048x1024 .f32} {y17 : FVec Ideal Cert.ReferenceAIdeal.S1024 .f32} {y18 : FVec Ideal Cert.ReferenceAIdeal.S1024x1024 .f32} {y19 : FVec Ideal Cert.ReferenceAIdeal.S1024 .f32}
    (h0 : y0 = x0) (h2 : y2 = one) (h3 : y3 = nil) (h4 : y4 = x4) (h5 : y5 = nil) (h6 : y6 = x6) (h7 : y7 = nil) (h14 : y14 = one) (h15 : y15 = nil) (h16 : y16 = x16) (h17 : y17 = nil) (h18 : y18 = x18) (h19 : y19 = nil) :
    val_main_v129 (F := Ideal) y0 y2 y3 y4 y5 y6 y7 y14 y15 y16 y17 y18 y19
      = queryV (narrow x4) (narrow x6) (narrow x16) (narrow x18) x0 := by
  subst h2 h3 h5 h7 h14 h15 h17 h19 h0 h4 h6 h16 h18
  exact (query_eq _ _ _ x10 x12 _ _).symm

theorem score_of {y0 : FVec Ideal Cert.ReferenceAIdeal.S16x64x1024 .f32} {y2 : FVec Ideal Cert.ReferenceAIdeal.S1024 .f32} {y3 : FVec Ideal Cert.ReferenceAIdeal.S1024 .f32} {y4 : FVec Ideal Cert.ReferenceAIdeal.S1024x1024 .f32} {y5 : FVec Ideal Cert.ReferenceAIdeal.S1024 .f32} {y6 : FVec Ideal Cert.ReferenceAIdeal.S1024x1024 .f32} {y7 : FVec Ideal Cert.ReferenceAIdeal.S1024 .f32} {y8 : FVec Ideal Cert.ReferenceAIdeal.S2048 .f32} {y9 : FVec Ideal Cert.ReferenceAIdeal.S2048 .f32} {y10 : FVec Ideal Cert.ReferenceAIdeal.S2048x1024 .f32} {y11 : FVec Ideal Cert.ReferenceAIdeal.S1024 .f32} {y12 : FVec Ideal Cert.ReferenceAIdeal.S1024x1 .f32} {y13 : FVec Ideal Cert.ReferenceAIdeal.S1 .f32} {y14 : FVec Ideal Cert.ReferenceAIdeal.S2048 .f32} {y15 : FVec Ideal Cert.ReferenceAIdeal.S2048 .f32} {y16 : FVec Ideal Cert.ReferenceAIdeal.S2048x1024 .f32} {y17 : FVec Ideal Cert.ReferenceAIdeal.S1024 .f32} {y18 : FVec Ideal Cert.ReferenceAIdeal.S1024x1024 .f32} {y19 : FVec Ideal Cert.ReferenceAIdeal.S1024 .f32}
    (h0 : y0 = x0) (h2 : y2 = one) (h3 : y3 = nil) (h4 : y4 = x4) (h5 : y5 = nil) (h6 : y6 = x6) (h7 : y7 = nil) (h8 : y8 = one) (h9 : y9 = nil) (h10 : y10 = x10) (h11 : y11 = nil) (h12 : y12 = x12) (h13 : y13 = nil) (h14 : y14 = one) (h15 : y15 = nil) (h16 : y16 = x16) (h17 : y17 = nil) (h18 : y18 = x18) (h19 : y19 = nil) :
    val_main_v173 (F := Ideal) y0 y2 y3 y4 y5 y6 y7 y8 y9 y10 y11 y12 y13 y14 y15 y16 y17 y18 y19
      = scoreV (narrow x4) (narrow x6) (narrow x16) (narrow x18) (narrow x10) (narrow x12) x0 := by
  subst h2 h3 h5 h7 h8 h9 h11 h13 h14 h15 h17 h19 h0 h4 h6 h10 h12 h16 h18
  exact (score_eq _ _ _ _ _ _ _).symm

theorem prob_of {y0 : FVec Ideal Cert.ReferenceAIdeal.S16x64x1024 .f32} {y1 : FVec Ideal Cert.ReferenceAIdeal.S16x64 .f32} {y2 : FVec Ideal Cert.ReferenceAIdeal.S1024 .f32} {y3 : FVec Ideal Cert.ReferenceAIdeal.S1024 .f32} {y4 : FVec Ideal Cert.ReferenceAIdeal.S1024x1024 .f32} {y5 : FVec Ideal Cert.ReferenceAIdeal.S1024 .f32} {y6 : FVec Ideal Cert.ReferenceAIdeal.S1024x1024 .f32} {y7 : FVec Ideal Cert.ReferenceAIdeal.S1024 .f32} {y8 : FVec Ideal Cert.ReferenceAIdeal.S2048 .f32} {y9 : FVec Ideal Cert.ReferenceAIdeal.S2048 .f32} {y10 : FVec Ideal Cert.ReferenceAIdeal.S2048x1024 .f32} {y11 : FVec Ideal Cert.ReferenceAIdeal.S1024 .f32} {y12 : FVec Ideal Cert.ReferenceAIdeal.S1024x1 .f32} {y13 : FVec Ideal Cert.ReferenceAIdeal.S1 .f32} {y14 : FVec Ideal Cert.ReferenceAIdeal.S2048 .f32} {y15 : FVec Ideal Cert.ReferenceAIdeal.S2048 .f32} {y16 : FVec Ideal Cert.ReferenceAIdeal.S2048x1024 .f32} {y17 : FVec Ideal Cert.ReferenceAIdeal.S1024 .f32} {y18 : FVec Ideal Cert.ReferenceAIdeal.S1024x1024 .f32} {y19 : FVec Ideal Cert.ReferenceAIdeal.S1024 .f32}
    (h0 : y0 = x0) (h1 : y1 = x1) (h2 : y2 = one) (h3 : y3 = nil) (h4 : y4 = x4) (h5 : y5 = nil) (h6 : y6 = x6) (h7 : y7 = nil) (h8 : y8 = one) (h9 : y9 = nil) (h10 : y10 = x10) (h11 : y11 = nil) (h12 : y12 = x12) (h13 : y13 = nil) (h14 : y14 = one) (h15 : y15 = nil) (h16 : y16 = x16) (h17 : y17 = nil) (h18 : y18 = x18) (h19 : y19 = nil) :
    val_main_v191 (F := Ideal) y0 y1 y2 y3 y4 y5 y6 y7 y8 y9 y10 y11 y12 y13 y14 y15 y16 y17 y18 y19
      = probV (noisyV (noise x1) (narrow x4) (narrow x6) (narrow x16) (narrow x18) (narrow x10) (narrow x12) x0) := by
  subst h2 h3 h5 h7 h8 h9 h11 h13 h14 h15 h17 h19 h0 h1 h4 h6 h10 h12 h16 h18
  exact (prob_eq _ _ _ _ _ _ _ _).symm

end Cert.StageAEq

end
-- ==== Proof.Math.StageAPre.lean ====
/- What the stated precondition says of an array, entry by entry: equal to a constant, a finite number, above or below a constant. -/
module

public import proofs.«01_k».proof.Proof.Math.HostVec

@[expose] public section

noncomputable section

namespace Cert.Inputs

open Idealize.ShloMosaic Cert.Spec Cert.HostVec

variable {S : Shape}

theorem eq_of_test {x : FVec Ideal S .f32} {c : BitVec 32} {h} (e : cmpf .oeq x (broadcastInDim S ![] h (word c)) = fun _ => 1#1) :
    x = fun _ => lit c := by
  funext i
  have := congrFun e i
  change Ideal.cmp .oeq (x i) (broadcastInDim S ![] h (word c) i) = 1#1 at this
  rw [scalar_spread] at this
  change Ideal.cmp .oeq (x i) (lit c) = 1#1 at this
  by_contra hne
  simp [Ideal.cmp, hne] at this

theorem ones_of_test {x : FVec Ideal S .f32} {h} (e : cmpf .oeq x (broadcastInDim S ![] h (word 0x3F800000#32)) = fun _ => 1#1) :
    x = fun _ => (1 : EReal) := (eq_of_test e).trans (funext fun _ => lit_one)

theorem zeros_of_test {x : FVec Ideal S .f32} {h} (e : cmpf .oeq x (broadcastInDim S ![] h (word 0x00000000#32)) = fun _ => 1#1) :
    x = fun _ => (0 : EReal) := (eq_of_test e).trans (funext fun _ => Ideal.ofBits_zero_f32)

theorem gt_of_test {x : FVec Ideal S .f32} {c : BitVec 32} {h} (e : cmpf .ogt x (broadcastInDim S ![] h (word c)) = fun _ => 1#1) (i : S.Idx) :
    lit c < x i := by
  have := congrFun e i
  change Ideal.cmp .ogt (x i) (broadcastInDim S ![] h (word c) i) = 1#1 at this
  rw [scalar_spread] at this
  change Ideal.cmp .ogt (x i) (lit c) = 1#1 at this
  by_contra hne
  simp [Ideal.cmp, hne] at this

theorem lt_of_test {x : FVec Ideal S .f32} {c : BitVec 32} {h} (e : cmpf .olt x (broadcastInDim S ![] h (word c)) = fun _ => 1#1) (i : S.Idx) :
    x i < lit c := by
  have := congrFun e i
  change Ideal.cmp .olt (x i) (broadcastInDim S ![] h (word c) i) = 1#1 at this
  rw [scalar_spread] at this
  change Ideal.cmp .olt (x i) (lit c) = 1#1 at this
  by_contra hne
  simp [Ideal.cmp, hne] at this

theorem lit_infinity : lit 0x7F800000#32 = ⊤ := by
  unfold lit
  simp [Ideal.ofBits, Ideal.ieee, -EReal.coe_mul]

theorem finite_of_test {x : FVec Ideal S .f32} {h} (e : cmpf .olt (Host.absf x) (broadcastInDim S ![] h (word 0x7F800000#32)) = fun _ => 1#1)
    (i : S.Idx) : ∃ r : ℝ, x i = (r : EReal) := by
  have lt := lt_of_test e i
  rw [lit_infinity] at lt
  change max (x i) (-x i) < ⊤ at lt
  refine ⟨(x i).toReal, (EReal.coe_toReal (fun h => ?_) fun h => ?_).symm⟩
  · rw [h] at lt
    simp at lt
  · rw [h] at lt
    simp at lt

end Cert.Inputs

end
-- ==== Proof.Math.Picks.lean ====
/- Choosing the greatest entry of a row again and again, the first among equals, and striking it out each time, names the positions in
   the order a stable sort by greater entry puts them. -/
module

public import Idealize.ShloMosaic.Lib.SortFacts
public import proofs.«01_k».proof.Proof.Math.Spec

@[expose] public section

noncomputable section

namespace Cert.Picks

open Idealize.ShloMosaic

variable {n : Nat} (z : Fin n → EReal)

/-- Greater entries come before. -/
def before (i j : Fin n) : Bool := decide (z j < z i)

/-- Position `i` comes before position `j`: its entry is greater, or equal and earlier. -/
def First (i j : Fin n) : Prop := z j < z i ∨ (z i = z j ∧ i < j)

/-- The position of rank `r`. -/
def rank (r : Fin n) : Fin n := sortedFrom (before z) r

theorem first_insert (a : Fin n) (l : List (Fin n)) (ha : ∀ b ∈ l, a < b) (hl : l.Pairwise (First z)) :
    (insertBefore (before z) a l).Pairwise (First z) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore (before z) a l).mem_iff.mp hc) with rfl | hc'
      · exact .inl (of_decide_eq_true h)
      · exact hl.1 c hc'
    · rename_i h
      have hb : z b ≤ z a := not_lt.mp fun lt => h (decide_eq_true lt)
      refine List.pairwise_cons.mpr ⟨fun c hc => ?_, List.pairwise_cons.mpr hl⟩
      have hc' : z c ≤ z a := by
        rcases List.mem_cons.mp hc with rfl | hc'
        · exact hb
        · rcases hl.1 c hc' with h | h
          · exact h.le.trans hb
          · exact h.1.symm.le.trans hb
      rcases hc'.lt_or_eq with lt | eq
      · exact .inl lt
      · exact .inr ⟨eq.symm, ha c hc⟩

theorem first_sort (l : List (Fin n)) (hl : l.Pairwise (· < ·)) : (stableSort (before z) l).Pairwise (First z) := by
  induction l with
  | nil => exact List.Pairwise.nil
  | cons a l ih =>
    rw [List.pairwise_cons] at hl
    unfold stableSort
    exact first_insert z a _ (fun b hb => hl.1 b ((perm_stableSort (before z) l).mem_iff.mp hb)) (ih hl.2)

theorem rank_first (i j : Fin n) (hij : i < j) : First z (rank z i) (rank z j) := by
  have hp : ∀ a b : Fin (sortPositions n (before z)).length, a < b →
      First z ((sortPositions n (before z)).get a) ((sortPositions n (before z)).get b) :=
    List.pairwise_iff_get.mp (first_sort z _ (List.pairwise_lt_finRange n))
  exact hp _ _ hij

theorem rank_injective : Function.Injective (rank z) := sortedFrom_injective _

/-- `p` is the first of the greatest entries of `w`. -/
def Best {n : Nat} (w : Fin n → EReal) (p : Fin n) : Prop := ∀ s, w s < w p ∨ (w s = w p ∧ p ≤ s)

/-- The row after the `r` best are struck out. -/
def struck (r : Nat) (s : Fin n) : EReal := if ∃ k : Fin n, k.val < r ∧ rank z k = s then ⊥ else z s

theorem struck_zero : struck z 0 = z := by
  funext s
  exact if_neg fun ⟨k, hk, _⟩ => absurd hk (Nat.not_lt_zero _)

theorem struck_succ (r : Fin n) (s : Fin n) : struck z (r.val + 1) s = if s = rank z r then ⊥ else struck z r s := by
  unfold struck
  by_cases hs : s = rank z r
  · rw [if_pos hs, if_pos ⟨r, Nat.lt_succ_self _, hs.symm⟩]
  · rw [if_neg hs]
    refine if_congr ⟨fun ⟨k, hk, e⟩ => ⟨k, ?_, e⟩, fun ⟨k, hk, e⟩ => ⟨k, Nat.lt_succ_of_lt hk, e⟩⟩ rfl rfl
    rcases Nat.lt_succ_iff_lt_or_eq.mp hk with lt | eq
    · exact lt
    · exact absurd (e.symm.trans (congrArg (rank z) (Fin.ext eq))) hs

/-- With no entry at minus infinity, the best of the row after `r` strikes is the position of rank `r`. -/
theorem struck_best (hz : ∀ s, z s ≠ ⊥) (r : Fin n) : Best (struck z r) (rank z r) := by
  intro s
  have hr : struck z r (rank z r) = z (rank z r) :=
    if_neg fun ⟨k, hk, e⟩ => absurd (congrArg Fin.val (rank_injective z e)) (ne_of_lt hk)
  rw [hr]
  by_cases h : ∃ k : Fin n, k.val < r.val ∧ rank z k = s
  · rw [struck, if_pos h]
    exact .inl (bot_lt_iff_ne_bot.mpr (hz _))
  · rw [struck, if_neg h]
    obtain ⟨k, rfl⟩ := sortedFrom_surjective (before z) s
    change ¬ ∃ k' : Fin n, k'.val < r.val ∧ rank z k' = rank z k at h
    rcases lt_trichotomy k r with lt | eq | gt
    · exact absurd ⟨k, lt, rfl⟩ h
    · exact .inr ⟨by rw [← eq]; rfl, by rw [← eq]; rfl⟩
    · rcases rank_first z r k gt with h' | h'
      · exact .inl h'
      · exact .inr ⟨h'.1.symm, h'.2.le⟩

theorem rank_congr (w : Fin n → EReal) (h : ∀ i j, z j < z i ↔ w j < w i) : rank z = rank w := by
  unfold rank
  rw [show before z = before w from funext fun i => funext fun j => decide_eq_decide.mpr (h i j)]

end Cert.Picks

end
-- ==== Proof.Math.Finite.lean ====
/- On finite inputs every score is a finite number, and a row's softmax keeps the order of the row. -/
module

public import proofs.«01_k».proof.Proof.Math.Spec

@[expose] public section

noncomputable section

namespace Cert.Spec

open Idealize.ShloMosaic

/-- A finite number. -/
def Fin' (x : EReal) : Prop := ∃ r : ℝ, x = (r : EReal)

/-- A finite number above zero. -/
def Pos (x : EReal) : Prop := ∃ r : ℝ, 0 < r ∧ x = (r : EReal)

/-- A finite number not below zero. -/
def NonNeg (x : EReal) : Prop := ∃ r : ℝ, 0 ≤ r ∧ x = (r : EReal)

theorem Pos.fin {x : EReal} : Pos x → Fin' x := fun ⟨r, _, h⟩ => ⟨r, h⟩
theorem Fin'.add {x y : EReal} : Fin' x → Fin' y → Fin' (x + y) := fun ⟨a, ha⟩ ⟨b, hb⟩ => ⟨a + b, by rw [ha, hb, EReal.coe_add]⟩
theorem Fin'.sub {x y : EReal} : Fin' x → Fin' y → Fin' (x - y) := fun ⟨a, ha⟩ ⟨b, hb⟩ => ⟨a - b, by rw [ha, hb, EReal.coe_sub]⟩
theorem Fin'.mul {x y : EReal} : Fin' x → Fin' y → Fin' (x * y) := fun ⟨a, ha⟩ ⟨b, hb⟩ => ⟨a * b, by rw [ha, hb, EReal.coe_mul]⟩
theorem Fin'.square {x : EReal} : Fin' x → NonNeg (x * x) := fun ⟨a, ha⟩ => ⟨a * a, mul_self_nonneg a, by rw [ha, EReal.coe_mul]⟩

theorem coe_sum {ι : Type} (s : Finset ι) (g : ι → ℝ) : (∑ i ∈ s, (g i : EReal)) = ((∑ i ∈ s, g i : ℝ) : EReal) := by
  classical
  induction s using Finset.induction_on with
  | empty => simp
  | insert a s h ih => rw [Finset.sum_insert h, Finset.sum_insert h, ih, EReal.coe_add]

theorem Fin'.sum {ι : Type} (s : Finset ι) {f : ι → EReal} (h : ∀ i, Fin' (f i)) : Fin' (∑ i ∈ s, f i) := by
  choose g hg using h
  refine ⟨∑ i ∈ s, g i, ?_⟩
  rw [Finset.sum_congr rfl fun i _ => hg i]
  exact coe_sum _ g

theorem NonNeg.sum {ι : Type} (s : Finset ι) {f : ι → EReal} (h : ∀ i, NonNeg (f i)) : NonNeg (∑ i ∈ s, f i) := by
  choose g hg using h
  refine ⟨∑ i ∈ s, g i, Finset.sum_nonneg fun i _ => (hg i).1, ?_⟩
  rw [Finset.sum_congr rfl fun i _ => (hg i).2]
  exact coe_sum _ g

theorem Pos.sum {ι : Type} [Fintype ι] [Nonempty ι] {f : ι → EReal} (h : ∀ i, Pos (f i)) : Pos (∑ i, f i) := by
  choose g hg using h
  refine ⟨∑ i, g i, Finset.sum_pos (fun i _ => (hg i).1) Finset.univ_nonempty, ?_⟩
  rw [Finset.sum_congr rfl fun i _ => (hg i).2]
  exact coe_sum _ g

theorem Fin'.div {x y : EReal} : Fin' x → Pos y → Fin' (Ideal.div x y) := fun ⟨a, ha⟩ ⟨b, h, hb⟩ =>
  ⟨a * (1 / b), by rw [ha, hb, Ideal.div_coe h.ne', EReal.coe_mul]⟩

theorem NonNeg.div {x y : EReal} : NonNeg x → Pos y → NonNeg (Ideal.div x y) := fun ⟨a, h0, ha⟩ ⟨b, h, hb⟩ =>
  ⟨a * (1 / b), by positivity, by rw [ha, hb, Ideal.div_coe h.ne', EReal.coe_mul]⟩

theorem NonNeg.add {x y : EReal} : NonNeg x → Pos y → Pos (x + y) := fun ⟨a, h0, ha⟩ ⟨b, h, hb⟩ =>
  ⟨a + b, by positivity, by rw [ha, hb, EReal.coe_add]⟩

theorem Pos.sqrt {x : EReal} : Pos x → Pos (Ideal.sqrt x) := fun ⟨a, h, ha⟩ =>
  ⟨Real.sqrt a, Real.sqrt_pos.mpr h, by rw [ha, Ideal.sqrt_coe, if_neg (not_lt.mpr h.le)]⟩

theorem Fin'.erf {x : EReal} : Fin' x → Fin' (Ideal.erf x) := fun ⟨_, ha⟩ => ⟨_, by rw [ha, Ideal.erf_coe]⟩
theorem Fin'.exp {x : EReal} : Fin' x → Pos (Ideal.exp x) := fun ⟨a, ha⟩ => ⟨_, Real.exp_pos a, by rw [ha, Ideal.exp_coe]⟩

/-! The constants. -/

theorem pos_half : Pos (lit 0x3F000000#32) := ⟨1 / 2, by norm_num, by simp [Ideal.ofBits, Ideal.ieee, -EReal.coe_mul]; norm_num⟩
theorem pos_unit : Pos (lit 0x3F800000#32) := ⟨1, by norm_num, by simp [Ideal.ofBits, Ideal.ieee, -EReal.coe_mul]; norm_num⟩
theorem pos_slots : Pos (lit 0x42800000#32) := ⟨64, by norm_num, by simp [Ideal.ofBits, Ideal.ieee, -EReal.coe_mul]; norm_num⟩
theorem pos_width : Pos (lit 0x44800000#32) := ⟨1024, by norm_num, by simp [Ideal.ofBits, Ideal.ieee, -EReal.coe_mul]; norm_num⟩
theorem pos_twice : Pos (lit 0x45000000#32) := ⟨2048, by norm_num, by simp [Ideal.ofBits, Ideal.ieee, -EReal.coe_mul]; norm_num⟩
theorem pos_small : Pos (lit 0x3727C5AC#32) :=
  ⟨2748779 / 274877906944, by norm_num, by simp [Ideal.ofBits, Ideal.ieee, -EReal.coe_mul]; norm_num⟩
theorem pos_warmth : Pos (lit 0x3F4CCCCD#32) := ⟨13421773 / 2 ^ 24, by norm_num, by simp [Ideal.ofBits, Ideal.ieee, -EReal.coe_mul]; norm_num⟩

/-! The stages. -/

variable {n h m : Nat} {c : EReal}

theorem mean_fin (hc : Pos c) {x : Fin n → EReal} (hx : ∀ j, Fin' (x j)) : Fin' (mean c x) := (Fin'.sum _ hx).div hc

theorem normed_fin (hc : Pos c) {x : Fin n → EReal} (hx : ∀ j, Fin' (x j)) (j : Fin n) : Fin' (normed c x j) :=
  ((hx j).sub (mean_fin hc hx)).div
    (((NonNeg.sum _ fun j => ((hx j).sub (mean_fin hc hx)).square).div hc).add pos_small).sqrt

theorem gelu_fin {x : EReal} (hx : Fin' x) : Fin' (gelu x) :=
  (pos_half.fin.mul hx).mul ((hx.div ⟨Real.sqrt 2, by positivity, rfl⟩).erf.add pos_unit.fin)

theorem mlp_fin (hc : Pos c) {w1 : Fin n → Fin h → EReal} {w2 : Fin h → Fin m → EReal} {x : Fin n → EReal}
    (h1 : ∀ i k, Fin' (w1 i k)) (h2 : ∀ i k, Fin' (w2 i k)) (hx : ∀ j, Fin' (x j)) (j : Fin m) : Fin' (mlp c w1 w2 x j) :=
  Fin'.sum _ fun k => (gelu_fin (Fin'.sum _ fun i => (normed_fin hc hx i).mul (h1 i k))).mul (h2 k j)

/-- All weights are finite. -/
structure Weights.Finite (w : Weights) : Prop where
  pool1 : ∀ i k, Fin' (w.pool1 i k)
  pool2 : ∀ i k, Fin' (w.pool2 i k)
  shift1 : ∀ i k, Fin' (w.shift1 i k)
  shift2 : ∀ i k, Fin' (w.shift2 i k)
  keep1 : ∀ i k, Fin' (w.keep1 i k)
  keep2 : ∀ i k, Fin' (w.keep2 i k)

variable {w : Weights} (hw : w.Finite) {x : Fin 64 → Fin 1024 → EReal} (hx : ∀ s d, Fin' (x s d))

include hw hx

theorem pooled_fin (d : Fin 1024) : Fin' (w.pooled x d) := mlp_fin pos_width hw.pool1 hw.pool2 (fun d => mean_fin pos_slots fun s => hx s d) d

theorem beside_fin (s : Fin 64) (j : Fin 2048) : Fin' (w.beside x s j) := by
  unfold Weights.beside sideBySide
  split
  · exact hx _ _
  · exact pooled_fin hw hx _

theorem shifted_fin (s : Fin 64) (d : Fin 1024) : Fin' (w.shifted x s d) :=
  (hx s d).add (mlp_fin pos_twice hw.shift1 hw.shift2 (beside_fin hw hx s) d)

theorem score_fin (s : Fin 64) : Fin' (w.score x s) :=
  mlp_fin pos_twice hw.keep1 hw.keep2 (beside_fin hw (shifted_fin hw hx) s) 0

theorem noisy_fin {g : Fin 64 → EReal} (hg : ∀ s, Fin' (g s)) (s : Fin 64) : Fin' (w.noisy x g s) :=
  ((score_fin hw hx s).add (hg s)).div pos_warmth

omit hw hx

theorem gumbel_fin {u : EReal} (h0 : 0 < u) (h1 : u < 1) : Fin' (gumbel u) := by
  obtain ⟨r, rfl⟩ : Fin' u := ⟨u.toReal, (EReal.coe_toReal (ne_top_of_lt h1) (ne_bot_of_gt h0)).symm⟩
  have r0 : 0 < r := by exact_mod_cast h0
  have r1 : r < 1 := by exact_mod_cast h1
  have l : 0 < -Real.log r := neg_pos.mpr (Real.log_neg r0 r1)
  refine ⟨-Real.log (-Real.log r), ?_⟩
  unfold gumbel
  rw [Ideal.log_coe, if_neg (not_le.mpr r0), ← EReal.coe_neg, Ideal.log_coe, if_neg (not_le.mpr l), ← EReal.coe_neg]

theorem top_fin [NeZero n] {z : Fin n → EReal} (hz : ∀ s, Fin' (z s)) : Fin' (top z) := by
  have e : top z = Finset.univ.sup z := by
    unfold top
    rw [show lit 0xFF800000#32 = (⊥ : EReal) by simp [Ideal.ofBits, Ideal.ieee, -EReal.coe_mul]]
    rfl
  obtain ⟨i, _, hi⟩ := Finset.exists_mem_eq_sup Finset.univ ⟨(0 : Fin n), Finset.mem_univ _⟩ z
  rw [e, hi]
  exact hz i

/-- A finite row's softmax has the order of the row. -/
theorem softmax_lt [NeZero n] {z : Fin n → EReal} (hz : ∀ s, Fin' (z s)) (i j : Fin n) : softmax z j < softmax z i ↔ z j < z i := by
  obtain ⟨t, ht⟩ := top_fin hz
  obtain ⟨S, S0, hS⟩ : Pos (∑ j, Ideal.exp (z j - top z)) := Pos.sum fun j => ((hz j).sub ⟨t, ht⟩).exp
  obtain ⟨a, ha⟩ := hz i
  obtain ⟨b, hb⟩ := hz j
  unfold softmax
  rw [hS, ht, ha, hb, Ideal.div_coe S0.ne', Ideal.div_coe S0.ne', ← EReal.coe_sub, ← EReal.coe_sub, Ideal.exp_coe, Ideal.exp_coe,
    ← EReal.coe_mul, ← EReal.coe_mul, EReal.coe_lt_coe_iff, EReal.coe_lt_coe_iff, mul_lt_mul_iff_left₀ (by positivity), Real.exp_lt_exp]
  constructor <;> intro h <;> linarith

end Cert.Spec

end
-- ==== Proof.Math.KernelPick.lean ====
/- One round of the kernel's choice: when `p` is the first of the greatest scores of row `b`, the round marks column `p` of the row. -/
module

public import proofs.«01_k».proof.Proof.Math.StageARun
public import proofs.«01_k».proof.Proof.Math.Picks
public import proofs.«01_k».proof.Proof.Math.Finite

@[expose] public section

noncomputable section

namespace Cert.StageA

open Idealize.ShloMosaic hiding ix1 ix2 ix3 ix4 addf_apply subf_apply mulf_apply divf_apply constant_apply truncf_apply
open Idealize.ShloMosaic.ValueIdx Cert.Spec Cert.KernelVec Cert.KernelAIdeal Cert.KernelAIdeal.Gen Cert.Picks

theorem minsi_toInt (x y : BitVec 32) : (IntOp.minsi x y).toInt = min x.toInt y.toInt := by
  unfold IntOp.minsi
  rw [min_def]
  by_cases h : x.slt y
  · rw [if_pos h]
    rw [BitVec.slt_iff_toInt_lt] at h
    rw [if_pos h.le]
  · rw [if_neg h]
    rw [BitVec.slt_iff_toInt_lt] at h
    split
    · rename_i h'; exact le_antisymm (not_lt.mp h) h'
    · rfl

/-- The least of finitely many words, one of which is below all. -/
theorem fold_minsi {ι : Type} (g : ι → BitVec 32) (s : Finset ι) (c v : BitVec 32) (hc : v.toInt ≤ c.toInt)
    (hs : ∀ i ∈ s, v.toInt ≤ (g i).toInt) : v.toInt ≤ (s.fold IntOp.minsi c g).toInt ∧ ∀ i ∈ s, (s.fold IntOp.minsi c g).toInt ≤ (g i).toInt := by
  classical
  induction s using Finset.induction_on with
  | empty => exact ⟨hc, fun i hi => absurd hi (Finset.notMem_empty i)⟩
  | insert a s ha ih =>
    obtain ⟨h1, h2⟩ := ih fun i hi => hs i (Finset.mem_insert_of_mem hi)
    rw [Finset.fold_insert ha, minsi_toInt]
    refine ⟨le_min (hs a (Finset.mem_insert_self a s)) h1, fun i hi => ?_⟩
    rcases Finset.mem_insert.mp hi with rfl | hi
    · exact min_le_left _ _
    · exact (min_le_right _ _).trans (h2 i hi)

theorem top_best {n : Nat} {z : Fin n → EReal} {p : Fin n} (hp : Best z p) : top z = z p := by
  have hb : lit 0xFF800000#32 = (⊥ : EReal) := by simp [Ideal.ofBits, Ideal.ieee, -EReal.coe_mul]
  have e : top z = Finset.univ.sup z := by
    unfold top
    rw [hb]
    rfl
  rw [e]
  refine le_antisymm (Finset.sup_le fun s _ => ?_) (Finset.le_sup (Finset.mem_univ p))
  rcases hp s with h | h
  · exact h.le
  · exact h.1.le

theorem word_toInt (s : Fin 64) : (BitVec.ofNat 32 s.val).toInt = s.val := by
  have := s.isLt
  have e : (BitVec.ofNat 32 s.val).toNat = s.val := by
    rw [BitVec.toNat_ofNat]
    exact Nat.mod_eq_of_lt (by omega)
  rw [BitVec.toInt_eq_toNat_of_lt (by rw [e]; omega), e]

theorem column_at (b : Fin 16) (s : Fin 64) : iota .tc S16x64 32 [1] iota_S16x64_d1_w32 (ix2 b s) = BitVec.ofNat 32 s.val := by
  show BitVec.ofNat 32 (0 * 64 + s.val) = _
  rw [Nat.zero_mul, Nat.zero_add]

theorem word_inj (s p : Fin 64) (h : BitVec.ofNat 32 s.val = BitVec.ofNat 32 p.val) : s = p := by
  have := congrArg BitVec.toInt h
  rw [word_toInt, word_toInt] at this
  exact Fin.ext (by exact_mod_cast this)

theorem mask_at (z : FVec Ideal S16x64 .f32) (b : Fin 16) (s p : Fin 64) (hp : Best (fun s => z (ix2 b s)) p) :
    k0_pay14 z (ix2 b s) = BitVec.ofBool (decide (s = p)) := by
  have e : k0_pay14 z = cmpi .eq (iota .tc S16x64 32 [1] iota_S16x64_d1_w32) (broadcastTo S16x64 (shapeCast S16x1 (multiReductionI .minsi [1] S16
      (select (cmpf .oeq z (broadcastTo S16x64 (rowTop z reduces_S16x64_S16 shapeCasts_S16_S16x1) broadcasts_S16x1_S16x64))
        (iota .tc S16x64 32 [1] iota_S16x64_d1_w32) (broadcast S16x64 64#32)) 2147483647#32 reduces_S16x64_S16 rfl) shapeCasts_S16_S16x1)
      broadcasts_S16x1_S16x64) := rfl
  rw [e]
  have low : ∀ s : Fin 64, select (cmpf .oeq z (broadcastTo S16x64 (rowTop z reduces_S16x64_S16 shapeCasts_S16_S16x1) broadcasts_S16x1_S16x64))
        (iota .tc S16x64 32 [1] iota_S16x64_d1_w32) (broadcast S16x64 64#32) (ix2 b s)
      = if z (ix2 b s) = z (ix2 b p) then BitVec.ofNat 32 s.val else 64#32 := by
    intro s
    show (if Ideal.cmp .oeq (z (ix2 b s)) (broadcastTo S16x64 _ _ (ix2 b s)) = 1#1 then iota .tc S16x64 32 [1] iota_S16x64_d1_w32 (ix2 b s) else _) = _
    rw [column_at, spread_apply, rowTop_apply, top_best hp]
    unfold Ideal.cmp
    by_cases h : z (ix2 b s) = z (ix2 b p)
    · rw [if_pos h, if_pos (by simp [h])]
    · rw [if_neg h, if_neg (by simp [h])]
      rfl
  have key : multiReductionI .minsi [1] S16
      (select (cmpf .oeq z (broadcastTo S16x64 (rowTop z reduces_S16x64_S16 shapeCasts_S16_S16x1) broadcasts_S16x1_S16x64))
        (iota .tc S16x64 32 [1] iota_S16x64_d1_w32) (broadcast S16x64 64#32)) 2147483647#32 reduces_S16x64_S16 rfl (ix1 b) = BitVec.ofNat 32 p.val := by
    refine (multiReductionI_eq_fold .minsi _ _ _ rfl _).trans ?_
    have hm := fold_minsi (select (cmpf .oeq z (broadcastTo S16x64 (rowTop z reduces_S16x64_S16 shapeCasts_S16_S16x1) broadcasts_S16x1_S16x64))
        (iota .tc S16x64 32 [1] iota_S16x64_d1_w32) (broadcast S16x64 64#32)) (Finset.univ.filter fun i => (reduces_S16x64_S16).drop i = ix1 b)
        2147483647#32 (BitVec.ofNat 32 p.val) (by rw [word_toInt]; have := p.isLt; have e : (2147483647#32 : BitVec 32).toInt = 2147483647 := by decide
                                                  rw [e]; omega) (fun i hi => by
          obtain ⟨b', s', rfl⟩ : ∃ b' s', i = ix2 b' s' := ⟨i 0, i 1, ValueIdx.eq_ix2 i⟩
          have hb : b' = b := congrFun (Finset.mem_filter.mp hi).2 0
          subst hb
          rw [low, word_toInt]
          split
          · rename_i h
            rw [word_toInt]
            rcases hp s' with h' | h'
            · exact absurd h (ne_of_lt h')
            · exact_mod_cast h'.2
          · have := p.isLt
            have e : (64#32 : BitVec 32).toInt = 64 := by decide
            rw [e]; omega)
    refine BitVec.eq_of_toInt_eq (le_antisymm ?_ hm.1)
    refine (hm.2 (ix2 b p) (Finset.mem_filter.mpr ⟨Finset.mem_univ _, ?_⟩)).trans ?_
    · rw [← lift_row reduces_S16x64_S16 b p]
      exact Shape.Reduces.drop_lift _ _ _
    · rw [low, if_pos rfl]
  show IntOp.cmpi .eq (iota .tc S16x64 32 [1] iota_S16x64_d1_w32 (ix2 b s)) (broadcastTo S16x64 _ _ (ix2 b s)) = _
  rw [column_at, spread_apply, shapeCast_a_a1_apply, key]
  show BitVec.ofBool (decide (BitVec.ofNat 32 s.val = BitVec.ofNat 32 p.val)) = _
  congr 1
  exact decide_eq_decide.mpr ⟨word_inj s p, fun h => by rw [h]⟩

theorem struck_at (z : FVec Ideal S16x64 .f32) (b : Fin 16) (s p : Fin 64) (hp : Best (fun s => z (ix2 b s)) p) :
    k0_pay16 z (ix2 b s) = if s = p then ⊥ else z (ix2 b s) := by
  show (if k0_pay14 z (ix2 b s) = 1#1 then lit 0xFF800000#32 else z (ix2 b s)) = _
  rw [mask_at z b s p hp]
  by_cases h : s = p
  · rw [if_pos h, if_pos (by simp [h])]
    simp [Ideal.ofBits, Ideal.ieee, -EReal.coe_mul]
  · rw [if_neg h, if_neg (by simp [h])]

theorem onehot_at (z : FVec Ideal S16x64 .f32) (b : Fin 16) (s p : Fin 64) (hp : Best (fun s => z (ix2 b s)) p) :
    k0_pay15 z (ix3 b 0 s) = if s = p then 1 else 0 := by
  unfold k0_pay15
  rw [shapeCast_apply _ _ (ix3 b 0 s) (ix2 b s) (by
    rw [Shape.rowMajor_val_two, Shape.rowMajor_val_three]
    show b.val * 64 + s.val = (b.val * 1 + 0) * 64 + s.val
    omega)]
  show ((((k0_pay14 z (ix2 b s)).setWidth 32).toInt : ℝ) : EReal) = _
  rw [mask_at z b s p hp]
  by_cases h : s = p
  · rw [if_pos h, decide_eq_true h, show ((BitVec.ofBool true).setWidth 32).toInt = 1 by decide]; norm_num
  · rw [if_neg h, decide_eq_false h, show ((BitVec.ofBool false).setWidth 32).toInt = 0 by decide]; norm_num

/-- Before round `n` the best `n` of each row are struck out. -/
theorem state_at (z : FVec Ideal S16x64 .f32) (b : Fin 16) (hz : ∀ s, z (ix2 b s) ≠ ⊥) (n : Nat) (hn : n ≤ 64) :
    (fun s => state z n (ix2 b s)) = struck (fun s => z (ix2 b s)) n := by
  induction n with
  | zero => exact (struck_zero _).symm
  | succ n ih =>
    have ih := ih (Nat.le_of_succ_le hn)
    have hb : Best (fun s => state z n (ix2 b s)) (rank (fun s => z (ix2 b s)) ⟨n, hn⟩) := by
      rw [ih]
      exact struck_best _ hz ⟨n, hn⟩
    funext s
    refine (struck_at (state z n) b s _ hb).trans ?_
    rw [show state z n (ix2 b s) = struck (fun s => z (ix2 b s)) n s from congrFun ih s]
    exact (struck_succ (fun s => z (ix2 b s)) ⟨n, hn⟩ s).symm

theorem pick_at (z : FVec Ideal S16x64 .f32) (b : Fin 16) (hz : ∀ s, z (ix2 b s) ≠ ⊥) (n : Nat) (hn : n < 64) (s : Fin 64) :
    k0_pay15 (state z n) (ix3 b 0 s) = if s = rank (fun s => z (ix2 b s)) ⟨n, hn⟩ then 1 else 0 := by
  refine onehot_at (state z n) b s _ ?_
  rw [state_at z b hz n hn.le]
  exact struck_best _ hz ⟨n, hn⟩

end Cert.StageA

end
-- ==== Proof.Math.KernelKept.lean ====
/- The kernel's kept rows: row `r` of batch `b` is the row of the input at the position of rank `r` among the scores of the batch. -/
module

public import proofs.«01_k».proof.Proof.Math.KernelPick

@[expose] public section

noncomputable section

namespace Cert.StageA

open Idealize.ShloMosaic hiding ix1 ix2 ix3 ix4 addf_apply subf_apply mulf_apply divf_apply constant_apply truncf_apply
open Idealize.ShloMosaic.ValueIdx Cert.Spec Cert.KernelVec Cert.KernelAIdeal Cert.KernelAIdeal.Gen Cert.Picks

/-- The position of rank `r` in row `b`. -/
def chosen (z : FVec Ideal S16x64 .f32) (b : Fin 16) (r : Fin 48) : Fin 64 := rank (fun s => z (ix2 b s)) ⟨r.val, by omega⟩

/-- The one-hot rows of the chosen positions. -/
def mark (z : FVec Ideal S16x64 .f32) (b : Fin 16) (r : Fin 48) (s : Fin 64) : EReal := if s = chosen z b r then 1 else 0

/-- The same as an array. -/
def onehot (z : FVec Ideal S16x64 .f32) (i : S16x48x64.Idx) : EReal := mark z (i 0) (i 1) (i 2)

variable (z : FVec Ideal S16x64 .f32) (hz : ∀ b s, z (ix2 b s) ≠ ⊥)

include hz

theorem picks_onehot (n : Nat) (hn : n ≤ 48) : ∀ p ∈ picks z n, ∀ x : p.1.shape.Idx, p.2 x = onehot z (p.1.emb x) := by
  induction n with
  | zero => exact fun p hp => absurd hp List.not_mem_nil
  | succ n ih =>
    intro p hp
    rcases List.mem_cons.mp hp with rfl | hp
    · intro x
      obtain ⟨b, k, s, rfl⟩ : ∃ (b : Fin 16) (k : Fin 1) (s : Fin 64), x = ix3 b k s := ⟨x 0, x 1, x 2, ValueIdx.eq_ix3 x⟩
      obtain rfl : k = 0 := Subsingleton.elim _ _
      have hm : n % 48 = n := Nat.mod_eq_of_lt hn
      have e : (Rect.unit (s := S16x48x64) ![0, n % 48, 0] S16x1x64.size (row_inb n)).emb (ix3 b 0 s) = ix3 b ⟨n, hn⟩ s := by
        funext a
        refine Fin.ext ?_
        match a with
        | ⟨0, _⟩ => show 0 + 1 * b.val = b.val; omega
        | ⟨1, _⟩ => show n % 48 + 1 * 0 = n; omega
        | ⟨2, _⟩ => show 0 + 1 * s.val = s.val; omega
      refine (pick_at z b (hz b) n (by omega) s).trans ?_
      show _ = onehot z ((Rect.unit (s := S16x48x64) ![0, n % 48, 0] S16x1x64.size (row_inb n)).emb (ix3 b 0 s))
      rw [e]
      rfl
    · exact ih (Nat.le_of_succ_le hn) p hp

omit hz in
theorem mem_picks (n k : Nat) (hk : k < n) : (⟨Rect.unit ![0, k % 48, 0] S16x1x64.size (row_inb k), k0_pay15 (state z k)⟩ :
    View.Piece (Elt Ideal) S16x48x64 .f32) ∈ picks z n := by
  induction n with
  | zero => exact absurd hk (Nat.not_lt_zero _)
  | succ n ih =>
    rcases Nat.lt_succ_iff_lt_or_eq.mp hk with lt | rfl
    · exact List.mem_cons_of_mem _ (ih lt)
    · exact List.mem_cons_self

theorem rounds_at (i : S16x48x64.Idx) : View.canon (picks z 48) i = onehot z i := by
  refine View.canon_apply_of_pieces (onehot z) _ (picks_onehot z hz 48 le_rfl) i ⟨_, mem_picks z 48 (i 1).val (i 1).isLt, ?_⟩
  refine (Rect.mem_set_unit (inb := row_inb (i 1).val)).mpr fun a => ?_
  have h1 : (i 1).val < 48 := (i 1).isLt
  have hm : (i 1).val % 48 = (i 1).val := Nat.mod_eq_of_lt h1
  match a with
  | ⟨0, _⟩ => exact ⟨Nat.zero_le _, by show (i 0).val < 0 + 16; have : (i 0).val < 16 := (i 0).isLt; omega⟩
  | ⟨1, _⟩ => exact ⟨by show (i 1).val % 48 ≤ (i 1).val; omega, by show (i 1).val < (i 1).val % 48 + 1; omega⟩
  | ⟨2, _⟩ => exact ⟨Nat.zero_le _, by show (i 2).val < 0 + 64; have : (i 2).val < 64 := (i 2).isLt; omega⟩

omit hz in
theorem dot_plain : dot_S48x64_S64x1024_S48x1024_1_0_0_1_n_n = DotDims.plain 48 64 1024 := rfl

omit hz in
theorem keptBlock_of (x : FVec Ideal S16x64x1024 .f32) (b : Fin 16) (r : Fin 48) (d : Fin 1024) (o : FVec Ideal S1x48x64 .f32) (p : Fin 64)
    (ho : ∀ s : Fin 64, o (ix3 0 r s) = if s = p then (1 : EReal) else 0) : keptBlock x b.val o (ix3 0 r d) = x (ix3 b p d) := by
  have hm : b.val % 16 = b.val := Nat.mod_eq_of_lt b.isLt
  unfold keptBlock
  rw [shapeCast_apply _ _ (ix3 0 r d) (ix2 r d) (by
    rw [Shape.rowMajor_val_two, Shape.rowMajor_val_three]
    show r.val * 1024 + d.val = (0 * 48 + r.val) * 1024 + d.val
    omega), dot_plain]
  refine (Ideal.matmul_plain_apply ..).trans ?_
  rw [constant_apply, Ideal.ofBits_zero_f32, zero_add]
  have e : ∀ s : Fin 64, shapeCast S48x64 o shapeCasts_S1x48x64_S48x64 (ix2 r s) = if s = p then (1 : EReal) else 0 := by
    intro s
    rw [shapeCast_apply _ shapeCasts_S1x48x64_S48x64 (ix2 r s) (ix3 0 r s) (by
      rw [Shape.rowMajor_val_two, Shape.rowMajor_val_three]
      show (0 * 48 + r.val) * 64 + s.val = r.val * 64 + s.val
      omega)]
    exact ho s
  have f : ∀ s : Fin 64, shapeCast S64x1024 (extractStridedSlice S1x64x1024 ![b.val % 16, 0, 0] x (batch_slices b.val)) shapeCasts_S1x64x1024_S64x1024
      (ix2 s d) = x (ix3 b s d) := by
    intro s
    rw [shapeCast_apply _ shapeCasts_S1x64x1024_S64x1024 (ix2 s d) (ix3 0 s d) (by
      rw [Shape.rowMajor_val_two, Shape.rowMajor_val_three]
      show (0 * 64 + s.val) * 1024 + d.val = s.val * 1024 + d.val
      omega)]
    refine extractStridedSlice_apply _ _ _ _ _ fun a => ?_
    match a with
    | ⟨0, _⟩ => show b.val = b.val % 16 + 0; omega
    | ⟨1, _⟩ => show s.val = 0 + s.val; omega
    | ⟨2, _⟩ => show d.val = 0 + d.val; omega
  refine (Finset.sum_congr rfl fun s _ => (congrArg₂ (· * ·) (e s) (f s))).trans ?_
  simp only [ite_mul, one_mul, zero_mul, Finset.sum_ite_eq', Finset.mem_univ, if_true]

theorem keptBlock_at (v : View sig .tc .vmem S16x48x64 .f32) (x : FVec Ideal S16x64x1024 .f32) (b : Fin 16) (r : Fin 48) (d : Fin 1024) :
    keptBlock x b.val (v.readCov (picks z 48) (plane b.val).toLoadRect) (ix3 0 r d) = x (ix3 b (chosen z b r) d) := by
  have hm : b.val % 16 = b.val := Nat.mod_eq_of_lt b.isLt
  refine keptBlock_of x b r d _ (chosen z b r) fun s => ?_
  have e : (plane b.val).toLoadRect.idx (ix3 0 r s) = ix3 b r s := by
    funext a
    refine Fin.ext ?_
    match a with
    | ⟨0, _⟩ => show b.val % 16 + 1 * 0 = b.val; omega
    | ⟨1, _⟩ => show 0 + 1 * r.val = r.val; omega
    | ⟨2, _⟩ => show 0 + 1 * s.val = s.val; omega
  rw [View.readCov_eq_canon']
  show View.canon (picks z 48) ((plane b.val).toLoadRect.idx (ix3 0 r s)) = _
  rw [e]
  exact rounds_at z hz _

/-- The kept rows. -/
def keptV (z : FVec Ideal S16x64 .f32) (x : FVec Ideal S16x64x1024 .f32) : FVec Ideal S16x48x1024 .f32 :=
  fun i => x (ix3 (i 0) (chosen z (i 0) (i 1)) (i 2))

theorem blocks_kept (v : View sig .tc .vmem S16x48x64 .f32) (x : FVec Ideal S16x64x1024 .f32) (n : Nat) (hn : n ≤ 16) :
    ∀ p ∈ keptBlocks v (picks z 48) x n, ∀ j : p.1.shape.Idx, p.2 j = keptV z x (p.1.emb j) := by
  induction n with
  | zero => exact fun p hp => absurd hp List.not_mem_nil
  | succ n ih =>
    intro p hp
    rcases List.mem_cons.mp hp with rfl | hp
    · intro j
      obtain ⟨k, r, d, rfl⟩ : ∃ (k : Fin 1) (r : Fin 48) (d : Fin 1024), j = ix3 k r d := ⟨j 0, j 1, j 2, ValueIdx.eq_ix3 j⟩
      obtain rfl : k = 0 := Subsingleton.elim _ _
      have hm : n % 16 = n := Nat.mod_eq_of_lt hn
      have e : (Rect.unit (s := S16x48x1024) ![n % 16, 0, 0] S1x48x1024.size (kept_inb n)).emb (ix3 0 r d) = ix3 ⟨n, hn⟩ r d := by
        funext a
        refine Fin.ext ?_
        match a with
        | ⟨0, _⟩ => show n % 16 + 1 * 0 = n; omega
        | ⟨1, _⟩ => show 0 + 1 * r.val = r.val; omega
        | ⟨2, _⟩ => show 0 + 1 * d.val = d.val; omega
      refine (keptBlock_at z hz v x ⟨n, hn⟩ r d).trans ?_
      show _ = keptV z x ((Rect.unit (s := S16x48x1024) ![n % 16, 0, 0] S1x48x1024.size (kept_inb n)).emb (ix3 0 r d))
      rw [e]
      rfl
    · exact ih (Nat.le_of_succ_le hn) p hp

omit hz in
theorem mem_blocks (v : View sig .tc .vmem S16x48x64 .f32) (P) (x : FVec Ideal S16x64x1024 .f32) (n k : Nat) (hk : k < n) :
    ∃ w, (⟨Rect.unit ![k % 16, 0, 0] S1x48x1024.size (kept_inb k), w⟩ : View.Piece (Elt Ideal) S16x48x1024 .f32) ∈ keptBlocks v P x n := by
  induction n with
  | zero => exact absurd hk (Nat.not_lt_zero _)
  | succ n ih =>
    rcases Nat.lt_succ_iff_lt_or_eq.mp hk with lt | rfl
    · exact (ih lt).imp fun w => List.mem_cons_of_mem _
    · exact ⟨_, List.mem_cons_self⟩

theorem kept_at (v : View sig .tc .vmem S16x48x64 .f32) (x : FVec Ideal S16x64x1024 .f32) :
    View.canon (keptBlocks v (picks z 48) x 16) = keptV z x := by
  funext i
  obtain ⟨w, hw⟩ := mem_blocks v (picks z 48) x 16 (i 0).val (i 0).isLt
  refine View.canon_apply_of_pieces (keptV z x) _ (blocks_kept z hz v x 16 le_rfl) i ⟨_, hw, ?_⟩
  refine (Rect.mem_set_unit (inb := kept_inb (i 0).val)).mpr fun a => ?_
  have h0 : (i 0).val < 16 := (i 0).isLt
  have hm : (i 0).val % 16 = (i 0).val := Nat.mod_eq_of_lt h0
  match a with
  | ⟨0, _⟩ => exact ⟨by show (i 0).val % 16 ≤ (i 0).val; omega, by show (i 0).val < (i 0).val % 16 + 1; omega⟩
  | ⟨1, _⟩ => exact ⟨Nat.zero_le _, by show (i 1).val < 0 + 48; have : (i 1).val < 48 := (i 1).isLt; omega⟩
  | ⟨2, _⟩ => exact ⟨Nat.zero_le _, by show (i 2).val < 0 + 1024; have : (i 2).val < 1024 := (i 2).isLt; omega⟩

end Cert.StageA

end
-- ==== Proof.Math.HostTake.lean ====
/- Taking rows at chosen positions on the host: the positions of the greatest entries of a row, and the rows of an array at such positions. -/
module

public import proofs.«01_k».proof.Proof.Math.KernelVec
public import proofs.«01_k».proof.Proof.Math.Picks

@[expose] public section

noncomputable section

namespace Cert.HostTake

open Idealize.ShloMosaic Idealize.ShloMosaic.ValueIdx Cert.KernelVec Cert.Picks

variable {B N K D : Nat}

/-- The positions of the greatest entries are the positions by rank. -/
theorem top_at (x : FVec Ideal (M2 B N) .f32) (h : (M2 B N).Slices (fun _ => 0) (M2 B K)) (b : Fin B) (r : Fin K) (hr : r.val < N) :
    (Host.topK (M2 B K) 1 (FloatOps.cmpfTotal .gt) x h).2 (ix2 b r) = BitVec.ofNat 32 (rank (fun s => x (ix2 b s)) ⟨r.val, hr⟩).val := by
  have e : ∀ (i : (M2 B N).Idx) (k : Fin N), i 0 = b → i.along 1 k = ix2 b k := by
    intro i k hi
    funext a
    match a with
    | ⟨0, _⟩ => exact hi
    | ⟨1, _⟩ => rfl
  unfold Host.topK
  dsimp only
  refine (extractStridedSlice_apply _ _ h (ix2 b r) (ix2 b ⟨r.val, hr⟩) fun a => ?_).trans ?_
  · match a with
    | ⟨0, _⟩ => exact (Nat.zero_add _).symm
    | ⟨1, _⟩ => exact (Nat.zero_add _).symm
  · show BitVec.ofNat 32 (sortedFrom (fun k k' => Ideal.cmp .ogt (x ((ix2 b (⟨r.val, hr⟩ : Fin N)).along 1 k)) (x ((ix2 b (⟨r.val, hr⟩ : Fin N)).along 1 k')) == 1#1)
      (⟨r.val, hr⟩ : Fin N)).val = _
    have c : (fun k k' : Fin N => Ideal.cmp .ogt (x ((ix2 b (⟨r.val, hr⟩ : Fin N)).along 1 k)) (x ((ix2 b (⟨r.val, hr⟩ : Fin N)).along 1 k')) == 1#1)
        = before fun s => x (ix2 b s) := by
      funext k k'
      rw [e _ k rfl, e _ k' rfl]
      show (BitVec.ofBool (decide (x (ix2 b k') < x (ix2 b k))) == 1#1) = decide (x (ix2 b k') < x (ix2 b k))
      cases decide (x (ix2 b k') < x (ix2 b k)) <;> rfl
    exact congrArg (fun q : Fin N → Fin N → Bool => BitVec.ofNat 32 (sortedFrom q (⟨r.val, hr⟩ : Fin N)).val) c

/-- Batch `b`'s row at the position the start index of row `r` names. -/
theorem gather_at {α : Type} (wf) (x : (M3 B N D).Idx → α) (idx : IVec (M3 B K 1) 32) (b : Fin B) (r : Fin K) (e : Fin D) (p : Fin N)
    (hp : (idx (ix3 b r 0)).toInt = p.val) :
    Host.gather (⟨[2], [1], [0], [0], [1], 2, ![1, 1, D], wf⟩ : GatherDims (M3 B N D) (M3 B K 1) (M3 B K D)) x idx (ix3 b r e) = x (ix3 b p e) := by
  refine congrArg x (funext fun a => Fin.ext ?_)
  match a with
  | ⟨0, _⟩ => exact (Nat.zero_add _)
  | ⟨1, _⟩ =>
    show min (idx _).toInt.toNat (N - 1) + 0 + 0 = p.val
    have hi : ∀ i : (M3 B K 1).Idx, i = ix3 b r 0 → min (idx i).toInt.toNat (N - 1) = p.val := by
      rintro _ rfl
      have := p.isLt
      rw [hp, Int.toNat_natCast]
      omega
    rw [Nat.add_zero]
    refine hi _ (funext fun c => Fin.ext ?_)
    match c with
    | ⟨0, _⟩ => rfl
    | ⟨1, _⟩ => rfl
    | ⟨2, _⟩ => rfl
  | ⟨2, _⟩ => exact (Nat.zero_add _)

/-- The empty shape. -/
abbrev S0 : Shape := ⟨0, ![]⟩

/-- A position counted from the end when negative. -/
def wrapped (n : BitVec 32) (hb : S0.BroadcastsInDim (M3 B K 1) ![]) (v : IVec (M3 B K 1) 32) : IVec (M3 B K 1) 32 :=
  select (cmpi .slt v (broadcastInDim (M3 B K 1) ![] hb (constantI S0 32 0#32))) (addi v (broadcastInDim (M3 B K 1) ![] hb (constantI S0 32 n))) v

theorem wrapped_at (n : BitVec 32) (hb) (v : IVec (M3 B K 1) 32) (i : (M3 B K 1).Idx) (h : 0 ≤ (v i).toInt) : wrapped n hb v i = v i := by
  show (if BitVec.ofBool ((v i).slt 0#32) = 1#1 then _ else v i) = v i
  refine if_neg fun e => ?_
  have s : ((v i).slt 0#32) = true := by
    cases hs : (v i).slt 0#32
    · rw [hs] at e; exact absurd e (by decide)
    · rfl
  have := BitVec.slt_iff_toInt_lt.mp s
  rw [show (0#32 : BitVec 32).toInt = 0 by decide] at this
  omega

/-- Whether a position lies in the array. -/
def within (m : BitVec 32) (hb : S0.BroadcastsInDim (M3 B K 1) ![]) (h1 : (M1 1).BroadcastsInDim (M3 1 1 1) ![2])
    (h3 : (M3 1 1 1).BroadcastsInDim (M3 B K 1) ![0, 1, 2]) (hr : (M3 B K 1).ReducesTo [2] (M2 B K)) (hu : 0 < S0.numel)
    (w : IVec (M3 B K 1) 32) : IVec (M2 B K) 1 :=
  Host.reduce IntOp.andi (andi (cmpi .sge w (broadcastInDim (M3 B K 1) ![] hb (constantI S0 32 0#32)))
    (cmpi .sle w (broadcastInDim (M3 B K 1) ![0, 1, 2] h3 (broadcastInDim (M3 1 1 1) ![2] h1 (constantI (M1 1) 32 m))))) (constantI S0 1 1#1) hr hu

theorem within_at (m : BitVec 32) (hb h1 h3 hr hu) (w : IVec (M3 B K 1) 32) (h : ∀ i, 0 ≤ (w i).toInt ∧ (w i).toInt ≤ m.toInt) (j : (M2 B K).Idx) :
    within m hb h1 h3 hr hu w j = 1#1 := by
  have e : ∀ i, andi (cmpi .sge w (broadcastInDim (M3 B K 1) ![] hb (constantI S0 32 0#32)))
      (cmpi .sle w (broadcastInDim (M3 B K 1) ![0, 1, 2] h3 (broadcastInDim (M3 1 1 1) ![2] h1 (constantI (M1 1) 32 m)))) i = 1#1 := by
    intro i
    show BitVec.ofBool (BitVec.sle 0#32 (w i)) &&& BitVec.ofBool ((w i).sle m) = 1#1
    rw [BitVec.sle_iff_toInt_le.mpr (by rw [show (0#32 : BitVec 32).toInt = 0 by decide]; exact (h i).1),
      BitVec.sle_iff_toInt_le.mpr (h i).2]
    rfl
  unfold within
  rw [Host.reduce_eq_fold]
  generalize (Finset.univ.filter fun i => hr.drop i = j) = s
  classical
  induction s using Finset.induction_on with
  | empty => rfl
  | insert a s ha ih => rw [Finset.fold_insert ha, ih, e]; rfl

/-- The rows of `x` at the positions `v`. -/
def taken (n m q : BitVec 32) (hb : S0.BroadcastsInDim (M3 B K 1) ![]) (h1 : (M1 1).BroadcastsInDim (M3 1 1 1) ![2])
    (h3 : (M3 1 1 1).BroadcastsInDim (M3 B K 1) ![0, 1, 2]) (hr : (M3 B K 1).ReducesTo [2] (M2 B K)) (hu : 0 < S0.numel)
    (d : GatherDims (M3 B N D) (M3 B K 1) (M3 B K D)) (hx : (M2 B K).BroadcastsInDim (M3 B K D) ![0, 1]) (hy : S0.BroadcastsInDim (M3 B K D) ![])
    (x : FVec Ideal (M3 B N D) .f32) (v : IVec (M3 B K 1) 32) : FVec Ideal (M3 B K D) .f32 :=
  select (broadcastInDim (M3 B K D) ![0, 1] hx (within m hb h1 h3 hr hu (wrapped n hb v))) (Host.gather d x (wrapped n hb v))
    (broadcastInDim (M3 B K D) ![] hy (constant S0 .f32 q))

theorem taken_at (n m q : BitVec 32) (hb h1 h3 hr hu) (wf) (hx hy) (x : FVec Ideal (M3 B N D) .f32) (v : IVec (M3 B K 1) 32)
    (p : Fin B → Fin K → Fin N) (hp : ∀ b r, (v (ix3 b r 0)).toInt = (p b r).val) (hm : m.toInt = ((N - 1 : Nat) : Int)) (b : Fin B) (r : Fin K) (e : Fin D) :
    taken n m q hb h1 h3 hr hu ⟨[2], [1], [0], [0], [1], 2, ![1, 1, D], wf⟩ hx hy x v (ix3 b r e) = x (ix3 b (p b r) e) := by
  have hv : ∀ i : (M3 B K 1).Idx, (v i).toInt = (p (i 0) (i 1)).val := by
    intro i
    obtain ⟨b, r, k, rfl⟩ : ∃ (b : Fin B) (r : Fin K) (k : Fin 1), i = ix3 b r k := ⟨i 0, i 1, i 2, ValueIdx.eq_ix3 i⟩
    obtain rfl : k = 0 := Subsingleton.elim _ _
    exact hp b r
  have hw : wrapped n hb v = v := funext fun i => wrapped_at n hb v i (by rw [hv]; exact Int.natCast_nonneg _)
  unfold taken
  rw [hw]
  show (if within m hb h1 h3 hr hu v _ = 1#1 then _ else _) = _
  rw [if_pos (within_at m hb h1 h3 hr hu v (fun i => ⟨by rw [hv]; exact Int.natCast_nonneg _, by
    rw [hv, hm]
    have := (p (i 0) (i 1)).isLt
    exact_mod_cast (by omega : (p (i 0) (i 1)).val ≤ N - 1)⟩) _)]
  exact gather_at wf x v b r e _ (hp b r)

end Cert.HostTake

end
-- ==== Proof.Math.StageAKept.lean ====
/- Stage A's kept rows: on finite inputs the kernel and the reference keep the same rows of the input, in the same order. -/
module

public import proofs.«01_k».proof.Proof.Math.StageAEq
public import proofs.«01_k».proof.Proof.Math.KernelKept
public import proofs.«01_k».proof.Proof.Math.HostTake

@[expose] public section

set_option maxRecDepth 16384

noncomputable section

namespace Cert.StageAEq

open Idealize.ShloMosaic hiding ix1 ix2 ix3 ix4
open Idealize.ShloMosaic.ValueIdx Cert.Spec Cert.StageA Cert.StageARef Cert.KernelVec Cert.HostVec Cert.HostTake Cert.Picks
  Cert.ReferenceAIdeal Cert.ReferenceAIdeal.Gen Cert.ReferenceAIdeal.Read

/-- The inputs the choice of rows depends on are finite, the noise strictly between zero and one. -/
structure Finite (x0 : FVec Ideal S16x64x1024 .f32) (x1 : FVec Ideal S16x64 .f32)
    (x4 x6 : FVec Ideal S1024x1024 .f32) (x10 : FVec Ideal S2048x1024 .f32) (x12 : FVec Ideal S1024x1 .f32)
    (x16 : FVec Ideal S2048x1024 .f32) (x18 : FVec Ideal S1024x1024 .f32) : Prop where
  input : ∀ i, Fin' (x0 i)
  above : ∀ i, 0 < x1 i
  below : ∀ i, x1 i < 1
  pool1 : ∀ i, Fin' (x4 i)
  pool2 : ∀ i, Fin' (x6 i)
  keep1 : ∀ i, Fin' (x10 i)
  keep2 : ∀ i, Fin' (x12 i)
  shift1 : ∀ i, Fin' (x16 i)
  shift2 : ∀ i, Fin' (x18 i)

variable (x0 : FVec Ideal S16x64x1024 .f32) (x1 : FVec Ideal S16x64 .f32)
  (x4 x6 : FVec Ideal S1024x1024 .f32) (x10 : FVec Ideal S2048x1024 .f32)
  (x12 : FVec Ideal S1024x1 .f32) (x16 : FVec Ideal S2048x1024 .f32)
  (x18 : FVec Ideal S1024x1024 .f32) (fin : Finite x0 x1 x4 x6 x10 x12 x16 x18)

include fin in
theorem noisyZ_fin (b : Fin 16) (s : Fin 64) : Fin' (noisyZ x0 x1 x4 x6 x10 x12 x16 x18 (ix2 b s)) := by
  rw [noisy_at]
  refine noisy_fin (w := Cert.StageARef.weights x4 x6 x10 x12 x16 x18) ⟨fun i k => fin.pool1 _, fun i k => fin.pool2 _, fun i k => fin.shift1 _, fun i k => fin.shift2 _, fun i k => fin.keep1 _,
    fun i k => fin.keep2 _⟩ (fun s d => fin.input _) (fun s => gumbel_fin (fin.above _) (fin.below _)) s

/-- The rows of `x` at the greatest entries of the softmax of `z`, as the host takes them. -/
def hostKept (z : FVec Ideal S16x64 .f32) (x : FVec Ideal S16x64x1024 .f32) : FVec Ideal S16x48x1024 .f32 :=
  taken (B := 16) (N := 64) (K := 48) (D := 1024) 64#32 63#32 0x7FC00000#32 bcast_S_S16x48x1 bcast_S1_S1x1x1_2 bcast_S1x1x1_S16x48x1_0_1_2
    reducesTo_S16x48x1_S16x48_d2 h_S_ gather_S16x64x1024_S16x48x1_S16x48x1024_2_1_0_0_1_2_111024 bcast_S16x48_S16x48x1024_0_1 bcast_S_S16x48x1024 x
    (broadcastInDim S16x48x1 ![0, 1] bcast_S16x48_S16x48x1_0_1
      (Host.topK S16x48 1 (FloatOps.cmpfTotal .gt) (probs z) sliceFits_S16x64_S16x48).2)

theorem rank_probs (z : FVec Ideal S16x64 .f32) (b : Fin 16) (hz : ∀ s, Fin' (z (ix2 b s))) :
    rank (fun s => probs z (ix2 b s)) = rank fun s => z (ix2 b s) := by
  refine rank_congr _ _ fun i j => ?_
  rw [probs_apply, probs_apply]
  exact softmax_lt hz i j

theorem place_at (z : FVec Ideal S16x64 .f32) (hz : ∀ b s, Fin' (z (ix2 b s))) (b : Fin 16) (r : Fin 48) :
    (broadcastInDim S16x48x1 ![0, 1] bcast_S16x48_S16x48x1_0_1
      (Host.topK S16x48 1 (FloatOps.cmpfTotal .gt) (probs z) sliceFits_S16x64_S16x48).2 (ix3 b r 0)).toInt = (chosen z b r).val := by
  rw [broadcastInDim_apply _ _ _ (ix3 b r 0) (ix2 b r) fun a => by
    match a with
    | ⟨0, _⟩ => rfl
    | ⟨1, _⟩ => rfl]
  refine (congrArg BitVec.toInt (top_at (B := 16) (N := 64) (K := 48) (probs z) sliceFits_S16x64_S16x48 b r (by omega))).trans ?_
  rw [rank_probs z b (hz b)]
  exact word_toInt _

theorem hostKept_eq (z : FVec Ideal S16x64 .f32) (hz : ∀ b s, Fin' (z (ix2 b s))) (x : FVec Ideal S16x64x1024 .f32) : hostKept z x = keptV z x := by
  funext i
  rw [ValueIdx.eq_ix3 i]
  exact taken_at _ _ _ _ _ _ _ _ _ _ _ x _ (chosen z) (place_at z hz) (by decide) _ _ _

theorem take_eq : val_main_v193 (F := Ideal) x0 x1 one nil x4 nil x6 nil one nil x10 nil x12 nil one nil x16 nil x18 nil
    = hostKept (noisyZ x0 x1 x4 x6 x10 x12 x16 x18) x0 := by
  unfold hostKept
  rw [← probs_eq]
  rfl

include fin in
theorem kept_eq : View.canon (keptBlocks Cert.KernelAIdeal.Gen.scM0_0.view (picks (noisyV (noise x1) (narrow x4) (narrow x6) (narrow x16) (narrow x18)
      (narrow x10) (narrow x12) x0) 48) x0 16)
    = val_main_v193 (F := Ideal) x0 x1 one nil x4 nil x6 nil one nil x10 nil x12 nil one nil x16 nil x18 nil := by
  have hf := noisyZ_fin x0 x1 x4 x6 x10 x12 x16 x18 fin
  rw [take_eq, noisy_eq, hostKept_eq _ hf]
  refine kept_at _ (fun b s => ?_) _ x0
  obtain ⟨r, hr⟩ := hf b s
  intro h
  exact EReal.coe_ne_bot r (hr.symm.trans h)

/-- The same for arrays known to equal these. -/
theorem kept_of {y0 : FVec Ideal Cert.ReferenceAIdeal.S16x64x1024 .f32} {y1 : FVec Ideal Cert.ReferenceAIdeal.S16x64 .f32} {y2 : FVec Ideal Cert.ReferenceAIdeal.S1024 .f32} {y3 : FVec Ideal Cert.ReferenceAIdeal.S1024 .f32} {y4 : FVec Ideal Cert.ReferenceAIdeal.S1024x1024 .f32} {y5 : FVec Ideal Cert.ReferenceAIdeal.S1024 .f32} {y6 : FVec Ideal Cert.ReferenceAIdeal.S1024x1024 .f32} {y7 : FVec Ideal Cert.ReferenceAIdeal.S1024 .f32} {y8 : FVec Ideal Cert.ReferenceAIdeal.S2048 .f32} {y9 : FVec Ideal Cert.ReferenceAIdeal.S2048 .f32} {y10 : FVec Ideal Cert.ReferenceAIdeal.S2048x1024 .f32} {y11 : FVec Ideal Cert.ReferenceAIdeal.S1024 .f32} {y12 : FVec Ideal Cert.ReferenceAIdeal.S1024x1 .f32} {y13 : FVec Ideal Cert.ReferenceAIdeal.S1 .f32} {y14 : FVec Ideal Cert.ReferenceAIdeal.S2048 .f32} {y15 : FVec Ideal Cert.ReferenceAIdeal.S2048 .f32} {y16 : FVec Ideal Cert.ReferenceAIdeal.S2048x1024 .f32} {y17 : FVec Ideal Cert.ReferenceAIdeal.S1024 .f32} {y18 : FVec Ideal Cert.ReferenceAIdeal.S1024x1024 .f32} {y19 : FVec Ideal Cert.ReferenceAIdeal.S1024 .f32}
    (h0 : y0 = x0) (h1 : y1 = x1) (h2 : y2 = one) (h3 : y3 = nil) (h4 : y4 = x4) (h5 : y5 = nil) (h6 : y6 = x6) (h7 : y7 = nil) (h8 : y8 = one) (h9 : y9 = nil) (h10 : y10 = x10) (h11 : y11 = nil) (h12 : y12 = x12) (h13 : y13 = nil) (h14 : y14 = one) (h15 : y15 = nil) (h16 : y16 = x16) (h17 : y17 = nil) (h18 : y18 = x18) (h19 : y19 = nil) (fin : Finite x0 x1 x4 x6 x10 x12 x16 x18) :
    val_main_v193 (F := Ideal) y0 y1 y2 y3 y4 y5 y6 y7 y8 y9 y10 y11 y12 y13 y14 y15 y16 y17 y18 y19
      = View.canon (keptBlocks Cert.KernelAIdeal.Gen.scM0_0.view (picks (noisyV (noise x1) (narrow x4) (narrow x6) (narrow x16) (narrow x18) (narrow x10) (narrow x12) x0) 48) x0 16) := by
  subst h2 h3 h5 h7 h8 h9 h11 h13 h14 h15 h17 h19 h0 h1 h4 h6 h10 h12 h16 h18
  exact (kept_eq _ _ _ _ _ _ _ _ fin).symm

end Cert.StageAEq

end
-- ==== Proof.Math.StageAClaim.lean ====
/- Stage A's claim: on the stated inputs the kernel ends at the reference's results, whatever the rest of memory held. -/
module

public import proofs.«01_k».proof.Defs
public import proofs.«01_k».proof.Proof.Gen.KernelAIdeal.Value
public import proofs.«01_k».proof.Proof.Gen.ReferenceAIdeal.Run
public import proofs.«01_k».proof.Proof.Math.StageAEq
public import proofs.«01_k».proof.Proof.Math.StageAPre
public import proofs.«01_k».proof.Proof.Math.StageAKept

@[expose] public section

noncomputable section

namespace Cert.StageAEq

open Idealize.ShloMosaic Idealize.SL.Sem Cert.StageA Cert.StageARef Cert.Inputs Cert.ReferenceAIdeal.Read

variable [Cert.Pre_stage_a_inputs.Facts]

/-- The kernel's argument arrays on device `c`. -/
abbrev Mem := (ℓ : Loc Cert.KernelAIdeal.nD Cert.KernelAIdeal.τ Cert.KernelAIdeal.sig) → Buf (Elt Ideal) ℓ

/-- The stated inputs have unit gains and zero biases. -/
theorem plain (m : Mem) (pre : Pre_KernelAIdeal_stage_a_inputs m) (c : Dev Cert.KernelAIdeal.nD) :
    m ((c.tc : Thread Cert.KernelAIdeal.nD Cert.KernelAIdeal.τ).loc Cert.KernelAIdeal.main_arg2) = one
    ∧ m ((c.tc : Thread Cert.KernelAIdeal.nD Cert.KernelAIdeal.τ).loc Cert.KernelAIdeal.main_arg3) = nil
    ∧ m ((c.tc : Thread Cert.KernelAIdeal.nD Cert.KernelAIdeal.τ).loc Cert.KernelAIdeal.main_arg5) = nil
    ∧ m ((c.tc : Thread Cert.KernelAIdeal.nD Cert.KernelAIdeal.τ).loc Cert.KernelAIdeal.main_arg7) = nil
    ∧ m ((c.tc : Thread Cert.KernelAIdeal.nD Cert.KernelAIdeal.τ).loc Cert.KernelAIdeal.main_arg8) = one
    ∧ m ((c.tc : Thread Cert.KernelAIdeal.nD Cert.KernelAIdeal.τ).loc Cert.KernelAIdeal.main_arg9) = nil
    ∧ m ((c.tc : Thread Cert.KernelAIdeal.nD Cert.KernelAIdeal.τ).loc Cert.KernelAIdeal.main_arg11) = nil
    ∧ m ((c.tc : Thread Cert.KernelAIdeal.nD Cert.KernelAIdeal.τ).loc Cert.KernelAIdeal.main_arg13) = nil
    ∧ m ((c.tc : Thread Cert.KernelAIdeal.nD Cert.KernelAIdeal.τ).loc Cert.KernelAIdeal.main_arg14) = one
    ∧ m ((c.tc : Thread Cert.KernelAIdeal.nD Cert.KernelAIdeal.τ).loc Cert.KernelAIdeal.main_arg15) = nil
    ∧ m ((c.tc : Thread Cert.KernelAIdeal.nD Cert.KernelAIdeal.τ).loc Cert.KernelAIdeal.main_arg17) = nil
    ∧ m ((c.tc : Thread Cert.KernelAIdeal.nD Cert.KernelAIdeal.τ).loc Cert.KernelAIdeal.main_arg19) = nil := by
  have p := pre c
  exact ⟨ones_of_test p.2.2.2.1,
    zeros_of_test p.2.2.2.2.1,
    zeros_of_test p.2.2.2.2.2.2.1,
    zeros_of_test p.2.2.2.2.2.2.2.2.1,
    ones_of_test p.2.2.2.2.2.2.2.2.2.1,
    zeros_of_test p.2.2.2.2.2.2.2.2.2.2.1,
    zeros_of_test p.2.2.2.2.2.2.2.2.2.2.2.2.1,
    zeros_of_test p.2.2.2.2.2.2.2.2.2.2.2.2.2.2.1,
    ones_of_test p.2.2.2.2.2.2.2.2.2.2.2.2.2.2.2.1,
    zeros_of_test p.2.2.2.2.2.2.2.2.2.2.2.2.2.2.2.2.1,
    zeros_of_test p.2.2.2.2.2.2.2.2.2.2.2.2.2.2.2.2.2.2.1,
    zeros_of_test p.2.2.2.2.2.2.2.2.2.2.2.2.2.2.2.2.2.2.2.2⟩

/-- The stated inputs are finite, the noise strictly between zero and one. -/
theorem finite (m : Mem) (pre : Pre_KernelAIdeal_stage_a_inputs m) (c : Dev Cert.KernelAIdeal.nD) :
    Finite (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg12)) (m ((c.tc : Thread Cert.KernelAIdeal.nD Cert.KernelAIdeal.τ).loc Cert.KernelAIdeal.main_arg16)) (m ((c.tc : Thread Cert.KernelAIdeal.nD Cert.KernelAIdeal.τ).loc Cert.KernelAIdeal.main_arg18)) := by
  have p := pre c
  exact ⟨finite_of_test p.2.2.1, fun i => (Ideal.ofBits_zero_f32 ▸ gt_of_test p.1 i), fun i => (Cert.HostVec.lit_one ▸ lt_of_test p.2.1 i),
    finite_of_test p.2.2.2.2.2.1, finite_of_test p.2.2.2.2.2.2.2.1, finite_of_test p.2.2.2.2.2.2.2.2.2.2.2.1, finite_of_test p.2.2.2.2.2.2.2.2.2.2.2.2.2.1, finite_of_test p.2.2.2.2.2.2.2.2.2.2.2.2.2.2.2.2.2.1, finite_of_test p.2.2.2.2.2.2.2.2.2.2.2.2.2.2.2.2.2.2.2.1⟩

theorem algebraic : Cert.algebraic_KernelAIdeal_ReferenceAIdeal_pre_stage_a_inputs := by
  intro m ρ m' ρ' pre agree
  refine ⟨_, _, _, _, Cert.KernelAIdeal.Value.run_blocks (F := Ideal) m ρ, ?_⟩
  refine (θ_run Cert.ReferenceAIdeal.defs _ _).mono (fun _ h c => ?_) (Cert.ReferenceAIdeal.Value.run (F := Ideal) m' ρ')
  obtain ⟨b2, b3, b5, b7, b8, b9, b11, b13, b14, b15, b17, b19⟩ := plain m pre c
  obtain ⟨a0, a1, a2, a3, a4, a5, a6, a7, a8, a9, a10, a11, a12, a13, a14, a15, a16, a17, a18, a19⟩ := agree c
  obtain ⟨h129, h173, h191, h193, rest⟩ := h c
  refine ⟨h129.trans ?_, h173.trans ?_, h191.trans ?_, h193.trans ?_, rest⟩
  · refine (val_main_v129_eq _).trans (Eq.trans ?_ (Cert.StageA.final8 m c).symm)
    exact query_of _ _ _ (m ((c.tc : Thread Cert.KernelAIdeal.nD Cert.KernelAIdeal.τ).loc Cert.KernelAIdeal.main_arg10)) (m ((c.tc : Thread Cert.KernelAIdeal.nD Cert.KernelAIdeal.τ).loc Cert.KernelAIdeal.main_arg12)) _ _ a0 (a2.trans b2) (a3.trans b3) a4 (a5.trans b5) a6 (a7.trans b7) (a14.trans b14) (a15.trans b15) a16 (a17.trans b17) a18 (a19.trans b19)
  · refine (val_main_v173_eq _).trans (Eq.trans ?_ (Cert.StageA.final9 m c).symm)
    exact score_of _ _ _ _ _ _ _ a0 (a2.trans b2) (a3.trans b3) a4 (a5.trans b5) a6 (a7.trans b7) (a8.trans b8) (a9.trans b9) a10 (a11.trans b11) a12 (a13.trans b13) (a14.trans b14) (a15.trans b15) a16 (a17.trans b17) a18 (a19.trans b19)
  · refine (val_main_v191_eq _).trans (Eq.trans ?_ (Cert.StageA.final10 m c).symm)
    exact prob_of _ _ _ _ _ _ _ _ a0 a1 (a2.trans b2) (a3.trans b3) a4 (a5.trans b5) a6 (a7.trans b7) (a8.trans b8) (a9.trans b9) a10 (a11.trans b11) a12 (a13.trans b13) (a14.trans b14) (a15.trans b15) a16 (a17.trans b17) a18 (a19.trans b19)
  · refine (val_main_v193_eq _).trans (Eq.trans ?_ (Cert.StageA.final11 m c).symm)
    exact kept_of _ _ _ _ _ _ _ _ a0 a1 (a2.trans b2) (a3.trans b3) a4 (a5.trans b5) a6 (a7.trans b7) (a8.trans b8) (a9.trans b9) a10 (a11.trans b11) a12 (a13.trans b13) (a14.trans b14) (a15.trans b15) a16 (a17.trans b17) a18 (a19.trans b19) (finite m pre c)

end Cert.StageAEq

end
-- ==== Proof.Math.StageBVec.lean ====
/- The choice of stage B: a round takes the first of the greatest scores of the row and strikes it out. -/
module

public import proofs.«01_k».proof.Proof.Math.KernelPick
public import proofs.«01_k».proof.Proof.Gen.KernelBIdeal.Skeleton

@[expose] public section

noncomputable section

namespace Cert.StageB

open Idealize.ShloMosaic hiding ix1 ix2 ix3 ix4 addf_apply subf_apply mulf_apply divf_apply constant_apply truncf_apply
open Idealize.ShloMosaic.ValueIdx Cert.Spec Cert.KernelVec Cert.Picks Cert.StageA
open Cert.KernelBIdeal Cert.KernelBIdeal.Gen

/-! ## Reductions of a row over both of its axes -/

variable {N : Nat}

/-- The positions of a row. -/
def col (s : Fin N) : (M3 1 1 N).Idx := ix3 0 0 s

theorem col_surj (i : (M3 1 1 N).Idx) : ∃ s, i = col s := by
  refine ⟨i 2, ?_⟩
  funext a
  match a with
  | ⟨0, _⟩ => exact Subsingleton.elim (α := Fin 1) _ _
  | ⟨1, _⟩ => exact Subsingleton.elim (α := Fin 1) _ _
  | ⟨2, _⟩ => rfl

def colEmb : Fin N ↪ (M3 1 1 N).Idx := ⟨col, fun s t h => congrFun h 2⟩

theorem col_univ : (Finset.univ : Finset (M3 1 1 N).Idx) = Finset.univ.map colEmb := by
  refine (Finset.eq_univ_iff_forall.mpr fun i => ?_).symm
  obtain ⟨s, rfl⟩ := col_surj i
  exact Finset.mem_map_of_mem colEmb (Finset.mem_univ s)

theorem one_idx (i j : (M1 1).Idx) : i = j := by
  funext a
  match a with
  | ⟨0, _⟩ => exact Subsingleton.elim (α := Fin 1) _ _

theorem fiber_univ (h : (M3 1 1 N).Reduces [1, 2] (M1 1)) (j : (M1 1).Idx) :
    (Finset.univ.filter fun i => h.drop i = j) = Finset.univ.map colEmb :=
  (Finset.filter_true_of_mem fun i _ => one_idx _ _).trans col_univ

theorem total_top (x : FVec Ideal (M3 1 1 N) .f32) (h hφ hz) (j : (M1 1).Idx) :
    multiReduction .maximumf [1, 2] (M1 1) x 0xFF800000#32 h hφ hz j = top fun s => x (col s) := by
  refine (multiReduction_maximumf_eq_fold x _ h hφ hz j).trans ?_
  rw [fiber_univ, Finset.fold_map]
  rfl

theorem total_sum (x : FVec Ideal (M3 1 1 N) .f32) (h hφ hz) (j : (M1 1).Idx) :
    multiReduction .add [1, 2] (M1 1) x 0x00000000#32 h hφ hz j = ∑ s, x (col s) := by
  refine (Ideal.multiReduction_add_total x _ h (fun b => ?_) hφ hz j).trans ?_
  · match b with
    | ⟨0, _⟩ => rfl
  · rw [col_univ, Finset.sum_map]
    rfl

theorem sel_cmpf {t : Shape} {α : Type} (z : FVec Ideal t .f32) (v : Ideal .f32) (x y : t.Idx → α) (i : t.Idx) :
    select (cmpf .oeq z (broadcast t v)) x y i = if z i = v then x i else y i := by
  show (if Ideal.cmp .oeq (z i) v = 1#1 then x i else y i) = _
  unfold Ideal.cmp
  by_cases h : z i = v
  · rw [if_pos h, if_pos (by simp [h])]
  · rw [if_neg h, if_neg (by simp [h])]

theorem sel_cmpi {t : Shape} {α : Type} (u : IVec t 32) (v : BitVec 32) (x y : t.Idx → α) (i : t.Idx) :
    select (cmpi .eq u (broadcast t v)) x y i = if u i = v then x i else y i := by
  show (if BitVec.ofBool (decide (u i = v)) = 1#1 then x i else y i) = _
  by_cases h : u i = v
  · rw [if_pos h, if_pos (by simp [h])]
  · rw [if_neg h, if_neg (by rw [decide_eq_false h]; decide)]

theorem out_apply {α : Type} (x : (M1 1).Idx → α) (h : (M1 1).ShapeCasts (M3 1 1 1)) (p : ∀ a, (![0, 0, 0] : Fin 3 → Nat) a < (M3 1 1 1).size a) :
    extractAt ![0, 0, 0] (shapeCast (M3 1 1 1) x h) p = x (ix1 0) := by
  show shapeCast (M3 1 1 1) x h _ = _
  refine shapeCast_apply _ _ _ (ix1 0) ?_
  rw [Shape.rowMajor_val_three]
  rfl

theorem wide_apply {α : Type} (x : (M2 1 N).Idx → α) (h : (M2 1 N).ShapeCasts (M3 1 1 N)) (s : Fin N) :
    shapeCast (M3 1 1 N) x h (col s) = x (ix2 0 s) := by
  refine shapeCast_apply _ _ _ (ix2 0 s) ?_
  rw [Shape.rowMajor_val_two, Shape.rowMajor_val_three]
  show 0 * N + s.val = (0 * 1 + 0) * N + s.val
  omega

theorem flat_apply {α : Type} (x : (M3 1 1 N).Idx → α) (h : (M3 1 1 N).ShapeCasts (M2 1 N)) (s : Fin N) :
    shapeCast (M2 1 N) x h (ix2 0 s) = x (col s) := by
  refine shapeCast_apply _ _ _ (col s) ?_
  rw [Shape.rowMajor_val_two, Shape.rowMajor_val_three]
  show (0 * 1 + 0) * N + s.val = 0 * N + s.val
  omega

/-! ## One round -/

/-- The greatest score of the row. -/
def rowMax (z : FVec Ideal S1x4096 .f32) : Ideal .f32 :=
  extractAt ![0, 0, 0] (shapeCast S1x1x1 (multiReduction .maximumf [1, 2] S1 (shapeCast S1x1x4096 z shapeCasts_S1x4096_S1x1x4096)
    0xFF800000#32 reduces_S1x1x4096_S1 (.inl rfl) rfl) shapeCasts_S1_S1x1x1) inpos_S1x1x1_p0_0_0

/-- The columns that reach the greatest score. -/
def reach (z : FVec Ideal S1x4096 .f32) : IVec S1x4096 32 :=
  select (cmpf .oeq z (broadcast S1x4096 (rowMax z))) (iota .tc S1x4096 32 [1] iota_S1x4096_d1_w32) (broadcast S1x4096 4096#32)

/-- The column a round takes. -/
def word (z : FVec Ideal S1x4096 .f32) : BitVec 32 :=
  extractAt ![0, 0, 0] (shapeCast S1x1x1 (multiReductionI .minsi [1, 2] S1 (shapeCast S1x1x4096 (reach z) shapeCasts_S1x4096_S1x1x4096)
    2147483647#32 reduces_S1x1x4096_S1 rfl) shapeCasts_S1_S1x1x1) inpos_S1x1x1_p0_0_0

/-- The scores with the column taken struck out. -/
def strike (z : FVec Ideal S1x4096 .f32) : FVec Ideal S1x4096 .f32 :=
  select (cmpi .eq (iota .tc S1x4096 32 [1] iota_S1x4096_d1_w32) (broadcast S1x4096 (word z))) (broadcast S1x4096 (lit 0xFF800000#32)) z

/-- The scores before round `n`. -/
def state (z : FVec Ideal S1x4096 .f32) : Nat → FVec Ideal S1x4096 .f32
  | 0 => z
  | n + 1 => strike (state z n)

theorem rowMax_eq (z : FVec Ideal S1x4096 .f32) : rowMax z = top fun s : Fin 4096 => z (ix2 0 s) := by
  refine (out_apply _ _ _).trans ?_
  exact (total_top _ _ _ _ _).trans (congrArg top (funext fun s => wide_apply z _ s))

theorem word4_toInt (s : Fin 4096) : (BitVec.ofNat 32 s.val).toInt = s.val := by
  have := s.isLt
  have e : (BitVec.ofNat 32 s.val).toNat = s.val := by
    rw [BitVec.toNat_ofNat]
    exact Nat.mod_eq_of_lt (by omega)
  rw [BitVec.toInt_eq_toNat_of_lt (by rw [e]; omega), e]

theorem column4_at (s : Fin 4096) : iota .tc S1x4096 32 [1] iota_S1x4096_d1_w32 (ix2 0 s) = BitVec.ofNat 32 s.val := by
  show BitVec.ofNat 32 (0 * 4096 + s.val) = _
  rw [Nat.zero_mul, Nat.zero_add]

theorem reach_at (z : FVec Ideal S1x4096 .f32) (s p : Fin 4096) (hp : Best (fun s : Fin 4096 => z (ix2 0 s)) p) :
    reach z (ix2 0 s) = if z (ix2 0 s) = z (ix2 0 p) then BitVec.ofNat 32 s.val else 4096#32 := by
  refine (sel_cmpf z _ _ _ _).trans ?_
  rw [column4_at, rowMax_eq, top_best hp]
  rfl

theorem fold_low (x : IVec (M3 1 1 N) 32) (h : (M3 1 1 N).Reduces [1, 2] (M1 1)) (hz) (j : (M1 1).Idx) :
    multiReductionI .minsi [1, 2] (M1 1) x 2147483647#32 h hz j = (Finset.univ : Finset (Fin N)).fold IntOp.minsi 2147483647#32 fun s => x (col s) := by
  refine (multiReductionI_eq_fold .minsi x _ h hz j).trans ?_
  rw [fiber_univ, Finset.fold_map]
  rfl

theorem word_eq (z : FVec Ideal S1x4096 .f32) (p : Fin 4096) (hp : Best (fun s : Fin 4096 => z (ix2 0 s)) p) :
    word z = BitVec.ofNat 32 p.val := by
  refine (out_apply _ _ _).trans ((fold_low _ _ _ _).trans ?_)
  rw [show (fun s : Fin 4096 => shapeCast S1x1x4096 (reach z) shapeCasts_S1x4096_S1x1x4096 (col s))
      = fun s => if z (ix2 0 s) = z (ix2 0 p) then BitVec.ofNat 32 s.val else 4096#32 from
    funext fun s => (wide_apply _ _ s).trans (reach_at z s p hp)]
  have hm := fold_minsi (fun s : Fin 4096 => if z (ix2 0 s) = z (ix2 0 p) then BitVec.ofNat 32 s.val else 4096#32) Finset.univ
    2147483647#32 (BitVec.ofNat 32 p.val)
    (by rw [word4_toInt]; have := p.isLt; have e : (2147483647#32 : BitVec 32).toInt = 2147483647 := by decide
        rw [e]; omega)
    (fun s _ => by
      rw [word4_toInt]
      split
      · rename_i h
        rw [word4_toInt]
        rcases hp s with h' | h'
        · exact absurd h (ne_of_lt h')
        · exact_mod_cast h'.2
      · have := p.isLt
        have e : (4096#32 : BitVec 32).toInt = 4096 := by decide
        rw [e]; omega)
  refine BitVec.eq_of_toInt_eq (le_antisymm ?_ hm.1)
  refine (hm.2 p (Finset.mem_univ p)).trans ?_
  rw [if_pos rfl]

theorem exists_best {n : Nat} [NeZero n] (w : Fin n → EReal) : ∃ p, Best w p := by
  obtain ⟨m, -, hm⟩ := Finset.exists_max_image Finset.univ w ⟨0, Finset.mem_univ _⟩
  obtain ⟨p, hp, hl⟩ := Finset.exists_min_image (Finset.univ.filter fun s => w s = w m) id ⟨m, Finset.mem_filter.mpr ⟨Finset.mem_univ _, rfl⟩⟩
  have e := (Finset.mem_filter.mp hp).2
  refine ⟨p, fun s => ?_⟩
  rw [e]
  rcases lt_or_eq_of_le (hm s (Finset.mem_univ s)) with h | h
  · exact .inl h
  · exact .inr ⟨h, hl s (Finset.mem_filter.mpr ⟨Finset.mem_univ s, h⟩)⟩

theorem word_lt (z : FVec Ideal S1x4096 .f32) : (word z).toNat < 4096 := by
  obtain ⟨p, hp⟩ := exists_best fun s : Fin 4096 => z (ix2 0 s)
  rw [word_eq z p hp, BitVec.toNat_ofNat]
  have := p.isLt
  exact (Nat.mod_le _ _).trans_lt this

theorem row_of_word (w : BitVec 32) (h : w.toNat < 4096) : (Scalar.indexCast w).toNat = w.toNat := by
  rfl

/-- The row a round takes lies in the block. -/
theorem chk_of (z : FVec Ideal S1x4096 .f32) : k0_chk1 (word z) := by
  intro a
  have h := word_lt z
  match a with
  | ⟨0, _⟩ => exact le_refl 1
  | ⟨1, _⟩ =>
    show (Scalar.indexCast (word z)).toNat + 1 ≤ 4096
    rw [row_of_word _ h]
    omega
  | ⟨2, _⟩ => exact le_refl 1024

theorem strike_at (z : FVec Ideal S1x4096 .f32) (s p : Fin 4096) (hp : Best (fun s : Fin 4096 => z (ix2 0 s)) p) :
    strike z (ix2 0 s) = if s = p then ⊥ else z (ix2 0 s) := by
  refine (sel_cmpi _ _ _ _ _).trans ?_
  rw [column4_at, word_eq z p hp]
  have inj : BitVec.ofNat 32 s.val = BitVec.ofNat 32 p.val ↔ s = p := ⟨fun h => by
    have := congrArg BitVec.toInt h
    rw [word4_toInt, word4_toInt] at this
    exact Fin.ext (by exact_mod_cast this), fun h => by rw [h]⟩
  refine if_congr inj ?_ rfl
  show lit 0xFF800000#32 = ⊥
  simp [Ideal.ofBits, Ideal.ieee, -EReal.coe_mul]

/-- Before round `n` the best `n` of the row are struck out. -/
theorem state_at (z : FVec Ideal S1x4096 .f32) (hz : ∀ s : Fin 4096, z (ix2 0 s) ≠ ⊥) (n : Nat) (hn : n ≤ 4096) :
    (fun s : Fin 4096 => state z n (ix2 0 s)) = struck (fun s => z (ix2 0 s)) n := by
  induction n with
  | zero => exact (struck_zero _).symm
  | succ n ih =>
    have ih := ih (Nat.le_of_succ_le hn)
    have hb : Best (fun s : Fin 4096 => state z n (ix2 0 s)) (rank (fun s => z (ix2 0 s)) ⟨n, hn⟩) := by
      rw [ih]
      exact struck_best _ hz ⟨n, hn⟩
    funext s
    refine (strike_at (state z n) s _ hb).trans ?_
    rw [show state z n (ix2 0 s) = struck (fun s => z (ix2 0 s)) n s from congrFun ih s]
    exact (struck_succ (fun s => z (ix2 0 s)) ⟨n, hn⟩ s).symm

/-- The column round `n` takes. -/
theorem word_at (z : FVec Ideal S1x4096 .f32) (hz : ∀ s : Fin 4096, z (ix2 0 s) ≠ ⊥) (n : Nat) (hn : n < 4096) :
    word (state z n) = BitVec.ofNat 32 (rank (fun s : Fin 4096 => z (ix2 0 s)) ⟨n, hn⟩).val := by
  refine word_eq _ _ ?_
  rw [state_at z hz n hn.le]
  exact struck_best _ hz ⟨n, hn⟩

end Cert.StageB

end
-- ==== Proof.Math.StageBRun.lean ====
/- The body of stage B run once: the blocks it reads stay as they were and each output's buffer holds the pieces the run stores. -/
module

public import proofs.«01_k».proof.Proof.Gen.KernelBIdeal.Launch
public import proofs.«01_k».proof.Proof.Gen.KernelBIdeal.Skeleton
public import proofs.«01_k».proof.Proof.Gen.KernelBIdeal.Points
public import proofs.«01_k».proof.Proof.Gen.KernelBIdeal.Frame
public import proofs.«01_k».proof.Proof.Gen.ReferenceBIdeal.Run
public import proofs.«01_k».proof.Proof.Gen.ReferenceBIdeal.Read
public import proofs.«01_k».proof.Proof.Math.StageBVec

@[expose] public section

set_option maxRecDepth 16384

noncomputable section

namespace Cert.StageB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelBIdeal Cert.KernelBIdeal.Gen

local notation "𝕄" => MT nD τ sig Unit (Elt Ideal) ℕ (UR sig nD τ) ℕ

set_option sl_exec.dischHeartbeats 200000
set_option maxHeartbeats 4000000 in
/-- The pieces the body stores into each output, with the proof that the body runs to them. -/
def bodyRun (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) :
    Σ' (L5 : List (View.Piece (Elt Ideal) S1x1x4096 .f32)), Σ' (L6 : List (View.Piece (Elt Ideal) S1x1x4096 .f32)), { L7 : List (View.Piece (Elt Ideal) S1x16x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt Ideal) f L5) ∗ (∃ f, arg6.view.loc (c : Thread nD τ) ↦[arg6.view.set]{fullShare} arg6.view.writes (Elt Ideal) f L6) ∗ (∃ f, arg7.view.loc (c : Thread nD τ) ↦[arg7.view.set]{fullShare} arg7.view.writes (Elt Ideal) f L7)) -∗ K ⟨⟩))
          ⊢ wp frame (wpE (defs₀ (F := Ideal)) Variants.none c none) E (cc0__stage_b_body i arg1 harg1 arg2 harg2 arg3 harg3 arg4 harg4 arg5 harg5 arg6 harg6 arg7 harg7) K } := by
  refine ⟨?_, ?_, ?_, fun E K => ?run⟩
  case run =>
    simp only [cc0__stage_b_body_eq_skeleton]; unfold cc0__stage_b_body_skel
    simp only [k0_part13_eq_skeleton]; unfold k0_part13_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf1; obtain rfl := harg2.eq_unread hf2; obtain rfl := harg3.eq_unread hf3; obtain rfl := harg4.eq_unread hf4
    sl_exec (disch := exact chk_of _)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.StageB

end
-- ==== Proof.Math.StageBFrame.lean ====
/- The launch of stage B: every execution ends with each array as the pipeline leaves it, the inputs unchanged. -/
module

public import proofs.«01_k».proof.Proof.Math.StageBRun

@[expose] public section

set_option maxRecDepth 16384

noncomputable section

namespace Cert.StageB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelBIdeal Cert.KernelBIdeal.Gen

local notation "𝕄" => MT nD τ sig Unit (Elt Ideal) ℕ (UR sig nD τ) ℕ

/-- The output's buffer as a view. -/
abbrev VO4 : View sig .tc .vmem S1x1x4096 .f32 := (Memref.whole cc0_stg4_0 : Memref sig .tc .vmem S1x1x4096 .f32).view
/-- The output's buffer as a view. -/
abbrev VO5 : View sig .tc .vmem S1x1x4096 .f32 := (Memref.whole cc0_stg5_0 : Memref sig .tc .vmem S1x1x4096 .f32).view
/-- The output's buffer as a view. -/
abbrev VO6 : View sig .tc .vmem S1x16x1024 .f32 := (Memref.whole cc0_stg6_0 : Memref sig .tc .vmem S1x16x1024 .f32).view
abbrev ms0 (t : Fin cfg0.N) : Memref sig .tc .vmem S1x4096x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x16x1024 .f32 := win0_6.stage (cfg0.slots t 6)
abbrev hs6 (t : Fin cfg0.N) : (ms6 t).IsWhole := hstage0_6 ((cfg0.slots t 6).cast nbuf0_6)

/-- The pieces of the output cover its block. -/
theorem cover4 (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) (y : S1x1x4096.Idx) :
    ∃ pc ∈ (bodyRun c i arg1 harg1 arg2 harg2 arg3 harg3 arg4 harg4 arg5 harg5 arg6 harg6 arg7 harg7 x1 x2 x3 x4).1, y ∈ pc.1.set :=
  View.cover_of_tiledL (bodyRun c i arg1 harg1 arg2 harg2 arg3 harg3 arg4 harg4 arg5 harg5 arg6 harg6 arg7 harg7 x1 x2 x3 x4).1 ![1, 1, 512] (by sl_kernel_rfl) y

/-- What the run leaves in the output's buffer. -/
def out4 (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) : Vec Ideal S1x1x4096 .f32 :=
  VO4.read (Elt Ideal) (VO4.writes (Elt Ideal) VO4.junk (bodyRun c i arg1 harg1 arg2 harg2 arg3 harg3 arg4 harg4 arg5 harg5 arg6 harg6 arg7 harg7 x1 x2 x3 x4).1)

/-- The pieces of the output cover its block. -/
theorem cover5 (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) (y : S1x1x4096.Idx) :
    ∃ pc ∈ (bodyRun c i arg1 harg1 arg2 harg2 arg3 harg3 arg4 harg4 arg5 harg5 arg6 harg6 arg7 harg7 x1 x2 x3 x4).2.1, y ∈ pc.1.set :=
  View.cover_of_tiledL (bodyRun c i arg1 harg1 arg2 harg2 arg3 harg3 arg4 harg4 arg5 harg5 arg6 harg6 arg7 harg7 x1 x2 x3 x4).2.1 S1x1x4096.size (by sl_kernel_rfl) y

/-- What the run leaves in the output's buffer. -/
def out5 (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) : Vec Ideal S1x1x4096 .f32 :=
  VO5.read (Elt Ideal) (VO5.writes (Elt Ideal) VO5.junk (bodyRun c i arg1 harg1 arg2 harg2 arg3 harg3 arg4 harg4 arg5 harg5 arg6 harg6 arg7 harg7 x1 x2 x3 x4).2.1)

/-- The pieces of the output cover its block. -/
theorem cover6 (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) (y : S1x16x1024.Idx) :
    ∃ pc ∈ (bodyRun c i arg1 harg1 arg2 harg2 arg3 harg3 arg4 harg4 arg5 harg5 arg6 harg6 arg7 harg7 x1 x2 x3 x4).2.2.1, y ∈ pc.1.set :=
  View.cover_of_tiledL (bodyRun c i arg1 harg1 arg2 harg2 arg3 harg3 arg4 harg4 arg5 harg5 arg6 harg6 arg7 harg7 x1 x2 x3 x4).2.2.1 ![1, 1, 1024] (by sl_kernel_rfl) y

/-- What the run leaves in the output's buffer. -/
def out6 (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32) : Vec Ideal S1x16x1024 .f32 :=
  VO6.read (Elt Ideal) (VO6.writes (Elt Ideal) VO6.junk (bodyRun c i arg1 harg1 arg2 harg2 arg3 harg3 arg4 harg4 arg5 harg5 arg6 harg6 arg7 harg7 x1 x2 x3 x4).2.2.1)

variable (m : (ℓ : Loc nD τ sig) → Buf (Elt Ideal) ℓ) (ρ : Dev nD → PrngReg)

/-- What the outputs' buffers hold after the body at point `t`. -/
def outsAt (c : Dev nD) (t : Fin cfg0.N) : Vec Ideal S1x1x4096 .f32 × Vec Ideal S1x1x4096 .f32 × Vec Ideal S1x16x1024 .f32 :=
  (out4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t), out5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t), out6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))

/-- The proof data: the arrays as the region finds them, and what the body leaves in each buffer. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t).1
    | ⟨5, _⟩ => (outsAt m c t).2.1
    | ⟨6, _⟩ => (outsAt m c t).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t).1 := by dsimp only [dats]
theorem after_5 (c : Dev nD) (t : Fin cfg0.N) : (dats m 0 c).after 5 t = (outsAt m c t).2.1 := by dsimp only [dats]
theorem after_6 (c : Dev nD) (t : Fin cfg0.N) : (dats m 0 c).after 6 t = (outsAt m c t).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  unfold outsAt
  unfold out4 out5 out6; (try dsimp only)
  iintro ⟨Hg, Ho, ⟨%d0, H0⟩, ⟨%d1, H1⟩, ⟨%d2, H2⟩, ⟨%d3, H3⟩, ⟨%d4, H4⟩, ⟨%d5, H5⟩, ⟨%d6, H6⟩⟩
  iapply ((bodyRun c _ _ _ _ _ _ _ _ _ _ _ _ _ _ _ (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c _ _ _ _ _ _ _ _ _ _ _ _ _ _ _ _ _ _ _)
  isplitl [H5]
  · unfold owns; iexists _; isplitr
    swap; · iexact H5
    ipureintro; exact View.read_writes_of_cover _ _ _ _ _ (cover5 c _ _ _ _ _ _ _ _ _ _ _ _ _ _ _ _ _ _ _)
  unfold owns; iexists _; isplitr
  swap; · iexact H6
  ipureintro; exact View.read_writes_of_cover _ _ _ _ _ (cover6 c _ _ _ _ _ _ _ _ _ _ _ _ _ _ _ _ _ _ _)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The inputs end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.StageB

end
-- ==== Proof.Math.StageBPieces.lean ====
/- What one run of stage B's body leaves in its outputs, as functions of the blocks it reads. -/
module

public import proofs.«01_k».proof.Proof.Math.StageBFrame

@[expose] public section

set_option maxRecDepth 16384

noncomputable section

namespace Cert.StageB

open Idealize.ShloMosaic Idealize.ShloMosaic.TcCoe Cert.Spec Cert.KernelVec
open Cert.KernelBIdeal Cert.KernelBIdeal.Gen

theorem part_inb (n : Nat) : ∀ a, (![0, 512 * (n % 8), 0] : Fin S1x4096x1024.rank → Nat) a + S1x512x1024.size a ≤ S1x4096x1024.size a := by
  intro a
  have := Nat.mod_lt n (show 0 < 8 by decide)
  match a with
  | ⟨0, _⟩ => exact le_refl 1
  | ⟨1, _⟩ => show 512 * (n % 8) + 512 ≤ 4096; omega
  | ⟨2, _⟩ => exact le_refl 1024

theorem span_inb (n : Nat) : ∀ a, (![0, 0, 512 * (n % 8)] : Fin S1x1x4096.rank → Nat) a + S1x1x512.size a ≤ S1x1x4096.size a := by
  intro a
  have := Nat.mod_lt n (show 0 < 8 by decide)
  match a with
  | ⟨0, _⟩ => exact le_refl 1
  | ⟨1, _⟩ => exact le_refl 1
  | ⟨2, _⟩ => show 512 * (n % 8) + 512 ≤ 4096; omega

theorem line_inb (n : Nat) : ∀ a, (![0, n % 16, 0] : Fin S1x16x1024.rank → Nat) a + S1x1x1024.size a ≤ S1x16x1024.size a := by
  intro a
  have := Nat.mod_lt n (show 0 < 16 by decide)
  match a with
  | ⟨0, _⟩ => exact le_refl 1
  | ⟨1, _⟩ => exact this
  | ⟨2, _⟩ => exact le_refl 1024

section
variable (arg1 : Memref sig .tc .vmem S1x4096x1024 .f32) (harg1 : arg1.IsWhole) (x1 : Vec Ideal S1x4096x1024 .f32)

/-- The scores of the first `n` chunks of rows against the query `q`, the last first. -/
def chunks (q : Vec Ideal S1x1x1024 .f32) : Nat → List (View.Piece (Elt Ideal) S1x1x4096 .f32)
  | 0 => []
  | n + 1 => ⟨Rect.unit (s := S1x1x4096) ![0, 0, 512 * (n % 8)] S1x1x512.size (span_inb n), k0_pay2 q (View.readAt (Elt Ideal) arg1.view
      (Rect.unit (s := S1x4096x1024) ![0, 512 * (n % 8), 0] S1x512x1024.size (part_inb n)).toLoadRect (harg1.unread x1))⟩ :: chunks q n

/-- The rows the first `n` rounds take, the last first. -/
def lines (z : FVec Ideal S1x4096 .f32) : Nat → List (View.Piece (Elt Ideal) S1x16x1024 .f32)
  | 0 => []
  | n + 1 => ⟨Rect.unit (s := S1x16x1024) ![0, n % 16, 0] S1x1x1024.size (line_inb n), k0_pay18 (View.readAt (Elt Ideal) arg1.view
      (Rect.unit (s := S1x4096x1024) (k0_off1 (word (state z n))) S1x1x1024.size (chk_of (state z n))).toLoadRect (harg1.unread x1))⟩ :: lines z n
end

variable (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole) (x1 : Vec Ideal S1x4096x1024 .f32) (x2 : Vec Ideal S1x1x1024 .f32) (x3 : Vec Ideal S1x1x4096 .f32) (x4 : Vec Ideal S1x1x4096 .f32)

/-- The query, the factors and the noise as the body loads them. -/
def seenQ : Vec Ideal S1x1x1024 .f32 :=
  View.readAt (Elt Ideal) arg2.view (Rect.unit (s := S1x1x1024) ![0, 0, 0] S1x1x1024.size inb_S1x1x1024_S1x1x1024_0_0_0).toLoadRect (harg2.unread x2)
def seenH : Vec Ideal S1x1x4096 .f32 :=
  View.readAt (Elt Ideal) arg3.view (Rect.unit (s := S1x1x4096) ![0, 0, 0] S1x1x4096.size inb_S1x1x4096_S1x1x4096_0_0_0).toLoadRect (harg3.unread x3)
def seenG : Vec Ideal S1x1x4096 .f32 :=
  View.readAt (Elt Ideal) arg4.view (Rect.unit (s := S1x1x4096) ![0, 0, 0] S1x1x4096.size inb_S1x1x4096_S1x1x4096_0_0_0).toLoadRect (harg4.unread x4)
/-- The scores as the body reads them back. -/
def seenS : Vec Ideal S1x1x4096 .f32 :=
  arg5.view.readCov (chunks arg1 harg1 x1 (seenQ arg2 harg2 x2) 8) (Rect.unit (s := S1x1x4096) ![0, 0, 0] S1x1x4096.size inb_S1x1x4096_S1x1x4096_0_0_0).toLoadRect

theorem seenQ_eq : seenQ arg2 harg2 x2 = x2 := Cert.StageA.load_whole harg2 x2 (by decide) inb_S1x1x1024_S1x1x1024_0_0_0
theorem seenH_eq : seenH arg3 harg3 x3 = x3 := Cert.StageA.load_whole harg3 x3 (by decide) inb_S1x1x4096_S1x1x4096_0_0_0
theorem seenG_eq : seenG arg4 harg4 x4 = x4 := Cert.StageA.load_whole harg4 x4 (by decide) inb_S1x1x4096_S1x1x4096_0_0_0

theorem scores_eq : bodyRun.sl.v c arg1 harg1 arg2 harg2 arg5 x1 x2 = seenS arg1 harg1 arg2 harg2 arg5 x1 x2 := by
  sl_kernel_rfl

theorem logits_eq : (bodyRun c i arg1 harg1 arg2 harg2 arg3 harg3 arg4 harg4 arg5 harg5 arg6 harg6 arg7 harg7 x1 x2 x3 x4).1
    = ⟨Rect.unit (s := S1x1x4096) ![0, 0, 0] S1x1x4096.size inb_S1x1x4096_S1x1x4096_0_0_0,
        k0_pay13 (bodyRun.sl.v c arg1 harg1 arg2 harg2 arg5 x1 x2) (seenH arg3 harg3 x3)⟩ :: bodyRun.sl.H5_8 c arg1 harg1 arg2 harg2 x1 x2 := by
  sl_kernel_rfl

theorem probs_eq : (bodyRun c i arg1 harg1 arg2 harg2 arg3 harg3 arg4 harg4 arg5 harg5 arg6 harg6 arg7 harg7 x1 x2 x3 x4).2.1
    = [⟨Rect.unit (s := S1x1x4096) ![0, 0, 0] S1x1x4096.size inb_S1x1x4096_S1x1x4096_0_0_0,
        k0_pay15 (bodyRun.sl.v c arg1 harg1 arg2 harg2 arg5 x1 x2) (seenH arg3 harg3 x3) (seenG arg4 harg4 x4)⟩] := by
  sl_kernel_rfl

theorem lines_eq : (bodyRun c i arg1 harg1 arg2 harg2 arg3 harg3 arg4 harg4 arg5 harg5 arg6 harg6 arg7 harg7 x1 x2 x3 x4).2.2.1
    = lines arg1 harg1 x1 (k0_pay14 (bodyRun.sl.v c arg1 harg1 arg2 harg2 arg5 x1 x2) (seenH arg3 harg3 x3) (seenG arg4 harg4 x4)) 16 := by
  sl_kernel_rfl

end Cert.StageB

end
-- ==== Proof.Math.StageBOut.lean ====
/- Stage B's outputs of one block as functions of the blocks read: the scores, their softmax, and the rows at the greatest scores. -/
module

public import proofs.«01_k».proof.Proof.Math.StageBPieces
public import Idealize.ShloMosaic.Lib.Pipeline.ValueKit.Tiles

@[expose] public section

noncomputable section

namespace Cert.StageB

open Idealize.ShloMosaic hiding ix1 ix2 ix3 ix4 addf_apply subf_apply mulf_apply divf_apply constant_apply truncf_apply
open Idealize.ShloMosaic.ValueIdx Cert.Spec Cert.KernelVec Cert.Picks
open Cert.KernelBIdeal Cert.KernelBIdeal.Gen

/-- The inner product of row `s` with the query, scaled. -/
def scoreB (x1 : Vec Ideal S1x4096x1024 .f32) (x2 : Vec Ideal S1x1x1024 .f32) (s : Fin 4096) : EReal :=
  (∑ d : Fin 1024, x1 (ix3 0 s d) * x2 (ix3 0 0 d)) * lit 0x3D000000#32

/-- The score less the row's factor. -/
def logitB (x1 : Vec Ideal S1x4096x1024 .f32) (x2 : Vec Ideal S1x1x1024 .f32) (x3 : Vec Ideal S1x1x4096 .f32) (s : Fin 4096) : EReal :=
  scoreB x1 x2 s - lit 0x3F800000#32 * x3 (col s)

/-- The score with its noise, over the warmth. -/
def noisyB (x1 : Vec Ideal S1x4096x1024 .f32) (x2 : Vec Ideal S1x1x1024 .f32) (x3 x4 : Vec Ideal S1x1x4096 .f32) (s : Fin 4096) : EReal :=
  Ideal.div (logitB x1 x2 x3 s + x4 (col s)) (lit 0x3F4CCCCD#32)

/-! ## The payloads -/

theorem query_at (q : Vec Ideal S1x1x1024 .f32) (r : Fin 512) (d : Fin 1024) :
    broadcastTo S512x1024 (k0_pay1 (F := Ideal) q) broadcasts_S1x1024_S512x1024 (ix2 r d) = q (ix3 0 0 d) := by
  refine (broadcastTo_apply _ _ _ (ix2 0 d) fun a => ?_).trans (flat_apply q _ d)
  match a with
  | ⟨0, _⟩ => rfl
  | ⟨1, _⟩ => rfl

theorem chunk_at (q : Vec Ideal S1x1x1024 .f32) (v : Vec Ideal S1x512x1024 .f32) (r : Fin 512) :
    k0_pay2 (F := Ideal) q v (ix3 0 0 r) = (∑ d : Fin 1024, v (ix3 0 r d) * q (ix3 0 0 d)) * lit 0x3D000000#32 := by
  unfold k0_pay2
  refine (shapeCast_apply _ _ (ix3 0 0 r) (ix1 r) (by
    rw [Shape.rowMajor_val_one, Shape.rowMajor_val_three]
    show r.val = (0 * 1 + 0) * 512 + r.val
    omega)).trans ?_
  refine congrArg (· * lit 0x3D000000#32) ((rowSum _ _ _ _ r).trans (Finset.sum_congr rfl fun d _ => ?_))
  refine congrArg₂ (· * ·) ?_ (query_at q r d)
  refine shapeCast_apply _ _ (ix2 r d) (ix3 0 r d) ?_
  rw [Shape.rowMajor_val_two, Shape.rowMajor_val_three]
  show (0 * 512 + r.val) * 1024 + d.val = r.val * 1024 + d.val
  omega

theorem pay12_at (v h : Vec Ideal S1x1x4096 .f32) (s : Fin 4096) :
    k0_pay12 (F := Ideal) v h (ix2 0 s) = v (col s) - lit 0x3F800000#32 * h (col s) :=
  congrArg₂ (fun a b : EReal => a - lit 0x3F800000#32 * b) (flat_apply v _ s) (flat_apply h _ s)

theorem pay13_at (v h : Vec Ideal S1x1x4096 .f32) (s : Fin 4096) :
    k0_pay13 (F := Ideal) v h (col s) = v (col s) - lit 0x3F800000#32 * h (col s) :=
  (wide_apply _ _ s).trans (pay12_at v h s)

theorem pay14_at (v h g : Vec Ideal S1x1x4096 .f32) (s : Fin 4096) :
    k0_pay14 (F := Ideal) v h g (ix2 0 s) = Ideal.div ((v (col s) - lit 0x3F800000#32 * h (col s)) + g (col s)) (lit 0x3F4CCCCD#32) :=
  congrArg₂ (fun a b : EReal => Ideal.div (a + b) (lit 0x3F4CCCCD#32)) (pay12_at v h s) (flat_apply g _ s)

/-- The softmax of a row over both of its axes. -/
def soft {N : Nat} (z : FVec Ideal (M2 1 N) .f32) (h1 : (M2 1 N).ShapeCasts (M3 1 1 N)) (h2 : (M3 1 1 N).Reduces [1, 2] (M1 1))
    (h3 : (M1 1).ShapeCasts (M3 1 1 1)) (p : ∀ a, (![0, 0, 0] : Fin 3 → Nat) a < (M3 1 1 1).size a) : FVec Ideal (M3 1 1 N) .f32 :=
  shapeCast (M3 1 1 N) (divf (exp (subf z (broadcast (M2 1 N) (extractAt ![0, 0, 0] (shapeCast (M3 1 1 1)
      (multiReduction .maximumf [1, 2] (M1 1) (shapeCast (M3 1 1 N) z h1) 0xFF800000#32 h2 (.inl rfl) rfl) h3) p))))
    (broadcast (M2 1 N) (extractAt ![0, 0, 0] (shapeCast (M3 1 1 1) (multiReduction .add [1, 2] (M1 1) (shapeCast (M3 1 1 N)
      (exp (subf z (broadcast (M2 1 N) (extractAt ![0, 0, 0] (shapeCast (M3 1 1 1)
        (multiReduction .maximumf [1, 2] (M1 1) (shapeCast (M3 1 1 N) z h1) 0xFF800000#32 h2 (.inl rfl) rfl) h3) p)))) h1)
      0x00000000#32 h2 (.inl rfl) rfl) h3) p))) h1

theorem soft_at {N : Nat} (z : FVec Ideal (M2 1 N) .f32) (h1 h2 h3 p) (s : Fin N) : soft z h1 h2 h3 p (col s) = softmax (fun s => z (ix2 0 s)) s := by
  have t : extractAt ![0, 0, 0] (shapeCast (M3 1 1 1)
      (multiReduction .maximumf [1, 2] (M1 1) (shapeCast (M3 1 1 N) z h1) 0xFF800000#32 h2 (.inl rfl) rfl) h3) p = top fun s => z (ix2 0 s) :=
    (out_apply _ _ _).trans ((total_top _ _ _ _ _).trans (congrArg top (funext fun s => wide_apply z h1 s)))
  unfold soft
  rw [t]
  refine (wide_apply _ _ s).trans ?_
  refine congrArg (Ideal.div (Ideal.exp (z (ix2 0 s) - top fun s => z (ix2 0 s)))) ((out_apply _ _ _).trans ((total_sum _ _ _ _ _).trans ?_))
  exact Finset.sum_congr rfl fun k _ => wide_apply _ h1 k

theorem pay15_eq (v h g : Vec Ideal S1x1x4096 .f32) : k0_pay15 (F := Ideal) v h g
    = soft (k0_pay14 (F := Ideal) v h g) shapeCasts_S1x4096_S1x1x4096 reduces_S1x1x4096_S1 shapeCasts_S1_S1x1x1 inpos_S1x1x1_p0_0_0 := by
  unfold k0_pay15 soft
  rfl

theorem pay15_at (v h g : Vec Ideal S1x1x4096 .f32) (s : Fin 4096) :
    k0_pay15 (F := Ideal) v h g (col s) = softmax (fun s : Fin 4096 => k0_pay14 (F := Ideal) v h g (ix2 0 s)) s := by
  rw [pay15_eq]
  exact soft_at _ _ _ _ _ s

theorem line_at (v : Vec Ideal S1x1x1024 .f32) (d : Fin 1024) : k0_pay18 (F := Ideal) v (ix3 0 0 d) = v (ix3 0 0 d) := by
  unfold k0_pay18
  refine (shapeCast_apply _ _ (ix3 0 0 d) (ix1 d) (by
    rw [Shape.rowMajor_val_one, Shape.rowMajor_val_three]
    show d.val = (0 * 1 + 0) * 1024 + d.val
    omega)).trans ?_
  refine (shapeCast_apply _ _ (ix1 d) (ix2 0 d) (by
    rw [Shape.rowMajor_val_two, Shape.rowMajor_val_one]
    show 0 * 1024 + d.val = d.val
    omega)).trans ?_
  exact flat_apply v _ d

/-! ## The pieces -/

section
variable (arg1 : Memref sig .tc .vmem S1x4096x1024 .f32) (harg1 : arg1.IsWhole) (x1 : Vec Ideal S1x4096x1024 .f32)

theorem rows_at (n : Nat) (r : Fin 512) (d : Fin 1024) : View.readAt (Elt Ideal) arg1.view
      (Rect.unit (s := S1x4096x1024) ![0, 512 * (n % 8), 0] S1x512x1024.size (part_inb n)).toLoadRect (harg1.unread x1) (ix3 0 r d)
    = x1 (ix3 0 ⟨512 * (n % 8) + r.val, by have := Nat.mod_lt n (show 0 < 8 by decide); have := r.isLt; omega⟩ d) := by
  rw [View.readAt_eq_ld, harg1.read_unread]
  refine Idealize.ShloMosaic.View.ld_unit_apply_of x1 _ _ _ (ix3 0 r d) _ fun a => ?_
  match a with
  | ⟨0, _⟩ => rfl
  | ⟨1, _⟩ => rfl
  | ⟨2, _⟩ => exact (Nat.zero_add _).symm

theorem row_at (w : BitVec 32) (hw : k0_chk1 w) (p : Fin 4096) (hp : w.toNat = p.val) (d : Fin 1024) : View.readAt (Elt Ideal) arg1.view
      (Rect.unit (s := S1x4096x1024) (k0_off1 w) S1x1x1024.size hw).toLoadRect (harg1.unread x1) (ix3 0 0 d) = x1 (ix3 0 p d) := by
  rw [View.readAt_eq_ld, harg1.read_unread]
  refine Idealize.ShloMosaic.View.ld_unit_apply_of x1 _ _ _ (ix3 0 0 d) _ fun a => ?_
  match a with
  | ⟨0, _⟩ => rfl
  | ⟨1, _⟩ => exact hp.symm
  | ⟨2, _⟩ => exact (Nat.zero_add _).symm

theorem chunks_score (q : Vec Ideal S1x1x1024 .f32) (n : Nat) :
    ∀ p ∈ chunks arg1 harg1 x1 q n, ∀ j : p.1.shape.Idx, p.2 j = scoreB x1 q ((p.1.emb j : S1x1x4096.Idx) 2) := by
  induction n with
  | zero => exact fun p hp => absurd hp List.not_mem_nil
  | succ n ih =>
    intro p hp
    rcases List.mem_cons.mp hp with rfl | hp
    · intro j
      obtain ⟨r, rfl⟩ := col_surj (N := 512) j
      refine (chunk_at q _ r).trans ?_
      have e : ((Rect.unit (s := S1x1x4096) ![0, 0, 512 * (n % 8)] S1x1x512.size (span_inb n)).emb (col r) : S1x1x4096.Idx) 2
          = (⟨512 * (n % 8) + r.val, by have := Nat.mod_lt n (show 0 < 8 by decide); have := r.isLt; omega⟩ : Fin 4096) := by
        refine Fin.ext ?_
        show 512 * (n % 8) + 1 * r.val = _
        rw [Nat.one_mul]
      refine Eq.trans ?_ (congrArg (scoreB x1 q) e).symm
      exact congrArg (· * lit 0x3D000000#32) (Finset.sum_congr rfl fun d _ => congrArg (· * q (ix3 0 0 d)) (rows_at arg1 harg1 x1 n r d))
    · exact ih p hp

theorem mem_chunks (q : Vec Ideal S1x1x1024 .f32) (n k : Nat) (hk : k < n) : ∃ w, (⟨Rect.unit (s := S1x1x4096) ![0, 0, 512 * (k % 8)] S1x1x512.size (span_inb k), w⟩ :
    View.Piece (Elt Ideal) S1x1x4096 .f32) ∈ chunks arg1 harg1 x1 q n := by
  induction n with
  | zero => exact absurd hk (Nat.not_lt_zero _)
  | succ n ih =>
    rcases Nat.lt_succ_iff_lt_or_eq.mp hk with lt | rfl
    · exact (ih lt).imp fun w => List.mem_cons_of_mem _
    · exact ⟨_, List.mem_cons_self⟩

theorem chunks_at (q : Vec Ideal S1x1x1024 .f32) : View.canon (chunks arg1 harg1 x1 q 8) = fun i : S1x1x4096.Idx => scoreB x1 q (i 2) := by
  funext i
  have h2 : (i 2).val < 4096 := (i 2).isLt
  obtain ⟨w, hw⟩ := mem_chunks arg1 harg1 x1 q 8 ((i 2).val / 512) (by omega)
  refine View.canon_apply_of_pieces (fun i : S1x1x4096.Idx => scoreB x1 q (i 2)) _ (chunks_score arg1 harg1 x1 q 8) i ⟨_, hw, ?_⟩
  refine (Rect.mem_set_unit (inb := span_inb ((i 2).val / 512))).mpr fun a => ?_
  match a with
  | ⟨0, _⟩ => exact ⟨Nat.zero_le _, (i 0).isLt⟩
  | ⟨1, _⟩ => exact ⟨Nat.zero_le _, (i 1).isLt⟩
  | ⟨2, _⟩ => exact ⟨by show 512 * ((i 2).val / 512 % 8) ≤ (i 2).val; omega, by show (i 2).val < 512 * ((i 2).val / 512 % 8) + 512; omega⟩

theorem lines_row (z : FVec Ideal S1x4096 .f32) (hz : ∀ s : Fin 4096, z (ix2 0 s) ≠ ⊥) (n : Nat) (hn : n ≤ 16) :
    ∀ p ∈ lines arg1 harg1 x1 z n, ∀ j : p.1.shape.Idx, p.2 j = x1 (ix3 0 (rank (fun s : Fin 4096 => z (ix2 0 s))
      ⟨((p.1.emb j : S1x16x1024.Idx) 1).val, lt_trans ((p.1.emb j : S1x16x1024.Idx) 1).isLt (show 16 < 4096 by decide)⟩) ((p.1.emb j : S1x16x1024.Idx) 2)) := by
  induction n with
  | zero => exact fun p hp => absurd hp List.not_mem_nil
  | succ n ih =>
    intro p hp
    rcases List.mem_cons.mp hp with rfl | hp
    · intro j
      obtain ⟨d, rfl⟩ := col_surj (N := 1024) j
      have hm : n % 16 = n := Nat.mod_eq_of_lt hn
      refine (line_at _ d).trans ((row_at arg1 harg1 x1 _ _ (rank (fun s : Fin 4096 => z (ix2 0 s)) ⟨n, by omega⟩) ?_ d).trans ?_)
      · rw [word_at z hz n (by omega), BitVec.toNat_ofNat]
        exact Nat.mod_eq_of_lt (lt_trans (Fin.isLt _) (show 4096 < 2 ^ 32 by decide))
      · refine congrArg x1 (congrArg₂ (fun a b => ix3 0 (rank (fun s : Fin 4096 => z (ix2 0 s)) a) b) (Fin.ext ?_) (Fin.ext ?_))
        · show n = n % 16 + 1 * 0
          omega
        · show d.val = 0 + 1 * d.val
          omega
    · exact ih (Nat.le_of_succ_le hn) p hp

theorem mem_lines (z : FVec Ideal S1x4096 .f32) (n k : Nat) (hk : k < n) : ∃ w, (⟨Rect.unit (s := S1x16x1024) ![0, k % 16, 0] S1x1x1024.size (line_inb k), w⟩ :
    View.Piece (Elt Ideal) S1x16x1024 .f32) ∈ lines arg1 harg1 x1 z n := by
  induction n with
  | zero => exact absurd hk (Nat.not_lt_zero _)
  | succ n ih =>
    rcases Nat.lt_succ_iff_lt_or_eq.mp hk with lt | rfl
    · exact (ih lt).imp fun w => List.mem_cons_of_mem _
    · exact ⟨_, List.mem_cons_self⟩

/-- The rows of a block at the greatest entries of `z`. -/
def lineV (x1 : Vec Ideal S1x4096x1024 .f32) (z : Fin 4096 → EReal) : Vec Ideal S1x16x1024 .f32 :=
  fun i => x1 (ix3 0 (rank z ⟨(i 1).val, lt_trans (i 1).isLt (show 16 < 4096 by decide)⟩) (i 2))

theorem lines_at (z : FVec Ideal S1x4096 .f32) (hz : ∀ s : Fin 4096, z (ix2 0 s) ≠ ⊥) :
    View.canon (lines arg1 harg1 x1 z 16) = lineV x1 fun s => z (ix2 0 s) := by
  funext i
  obtain ⟨w, hw⟩ := mem_lines arg1 harg1 x1 z 16 (i 1).val (i 1).isLt
  refine View.canon_apply_of_pieces (lineV x1 fun s => z (ix2 0 s)) _ (lines_row arg1 harg1 x1 z hz 16 le_rfl) i ⟨_, hw, ?_⟩
  refine (Rect.mem_set_unit (inb := line_inb (i 1).val)).mpr fun a => ?_
  have h1 : (i 1).val < 16 := (i 1).isLt
  match a with
  | ⟨0, _⟩ => exact ⟨Nat.zero_le _, (i 0).isLt⟩
  | ⟨1, _⟩ => exact ⟨by show (i 1).val % 16 ≤ (i 1).val; omega, by show (i 1).val < (i 1).val % 16 + 1; omega⟩
  | ⟨2, _⟩ => exact ⟨Nat.zero_le _, by show (i 2).val < 0 + 1024; have : (i 2).val < 1024 := (i 2).isLt; omega⟩
end

/-! ## The outputs of one block -/

variable (c : Dev nD) (i : grid0.Coords) (arg1 : Memref sig .tc .vmem S1x4096x1024 .f32) (harg1 : arg1.IsWhole) (arg2 : Memref sig .tc .vmem S1x1x1024 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x16x1024 .f32) (harg7 : arg7.IsWhole)
  (x1 : Vec Ideal S1x4096x1024 .f32) (x2 : Vec Ideal S1x1x1024 .f32) (x3 x4 : Vec Ideal S1x1x4096 .f32)

theorem seenS_eq : seenS arg1 harg1 arg2 harg2 arg5 x1 x2 = fun i : S1x1x4096.Idx => scoreB x1 x2 (i 2) := by
  unfold seenS
  rw [View.readCov_eq_canon', seenQ_eq, chunks_at]
  exact View.ld_unit_zero (Val := Elt Ideal) (e := .f32) (S := S1x1x4096) (off := ![0, 0, 0]) (by funext a; revert a; decide) inb_S1x1x4096_S1x1x4096_0_0_0 (fun i => scoreB x1 x2 (i 2))

theorem scores_at : bodyRun.sl.v c arg1 harg1 arg2 harg2 arg5 x1 x2 = fun i : S1x1x4096.Idx => scoreB x1 x2 (i 2) :=
  (scores_eq ..).trans (seenS_eq ..)

theorem out4_at : out4 c i arg1 harg1 arg2 harg2 arg3 harg3 arg4 harg4 arg5 harg5 arg6 harg6 arg7 harg7 x1 x2 x3 x4 = fun i : S1x1x4096.Idx => logitB x1 x2 x3 (i 2) := by
  unfold out4
  rw [View.read_writes_junk_eq_canon, logits_eq, View.canon_cons_unit_zero (S := S1x1x4096) (off := ![0, 0, 0]) (by funext a; revert a; decide), scores_at, seenH_eq]
  funext y
  obtain ⟨s, rfl⟩ := col_surj (N := 4096) y
  exact pay13_at _ _ s

theorem pay14_row : (fun s : Fin 4096 => k0_pay14 (F := Ideal) (fun i : S1x1x4096.Idx => scoreB x1 x2 (i 2)) x3 x4 (ix2 0 s)) = noisyB x1 x2 x3 x4 :=
  funext fun s => pay14_at _ _ _ s

theorem out5_at : out5 c i arg1 harg1 arg2 harg2 arg3 harg3 arg4 harg4 arg5 harg5 arg6 harg6 arg7 harg7 x1 x2 x3 x4 = fun i : S1x1x4096.Idx => softmax (noisyB x1 x2 x3 x4) (i 2) := by
  unfold out5
  rw [View.read_writes_junk_eq_canon, probs_eq, View.canon_unit_zero (S := S1x1x4096) (off := ![0, 0, 0]) (by funext a; revert a; decide), scores_at, seenH_eq, seenG_eq]
  funext y
  obtain ⟨s, rfl⟩ := col_surj (N := 4096) y
  refine (pay15_at _ _ _ s).trans ?_
  rw [pay14_row]
  rfl

theorem out6_at (hz : ∀ s, noisyB x1 x2 x3 x4 s ≠ ⊥) : out6 c i arg1 harg1 arg2 harg2 arg3 harg3 arg4 harg4 arg5 harg5 arg6 harg6 arg7 harg7 x1 x2 x3 x4 = lineV x1 (noisyB x1 x2 x3 x4) := by
  unfold out6
  rw [View.read_writes_junk_eq_canon, lines_eq, scores_at, seenH_eq, seenG_eq, lines_at, pay14_row]
  intro s
  exact (congrFun (pay14_row x1 x2 x3 x4) s).trans_ne (hz s)

end Cert.StageB

end
-- ==== Proof.Math.StageBArrays.lean ====
/- Stage B's output arrays after the run, as functions of the arguments: point `t` of the grid reads batch `t`'s blocks and writes batch
   `t`'s blocks of the outputs. -/
module

public import proofs.«01_k».proof.Proof.Math.StageBOut
public import proofs.«01_k».proof.Proof.Math.Finite

@[expose] public section

set_option maxRecDepth 16384

noncomputable section

namespace Cert.StageB

open Idealize.ShloMosaic hiding ix1 ix2 ix3 ix4 addf_apply subf_apply mulf_apply divf_apply constant_apply truncf_apply
open Idealize.ShloMosaic.ValueIdx Cert.Spec Cert.KernelVec Cert.Picks Idealize.ShloMosaic.TcCoe Idealize.SL.Sem
open Cert.KernelBIdeal Cert.KernelBIdeal.Gen

variable (m : (ℓ : Loc nD τ sig) → Buf (Elt Ideal) ℓ) (ρ : Dev nD → PrngReg)

/-! ## What the region finds -/

/-- Batch `b`'s rows. -/
def rowsOf (C : FVec Ideal S16x4096x1024 .f32) (b : Fin 16) : Vec Ideal S1x4096x1024 .f32 := fun i => C (ix3 b (i 1) (i 2))

/-- Batch `b`'s entries. -/
def partOf {N : Nat} (x : FVec Ideal (M2 16 N) .f32) (b : Fin 16) : Vec Ideal (M3 1 1 N) .f32 := fun i => x (ix2 b (i 2))

/-- The noise of the draws. -/
def noiseOf (u : FVec Ideal S16x4096 .f32) : FVec Ideal S16x4096 .f32 := fun i => gumbel (u i)

theorem entered4 (c : Dev nD) : V m c main_v4 = shapeCast S16x1x1024 (m ((c : Thread nD τ).loc main_arg1) : FVec Ideal S16x1024 .f32) shapeCasts_S16x1024_S16x1x1024 := by
  show StableHlo.after hostOps0 _ (Proc.devRef .tc main_v4) = _
  after_results
  rfl

theorem entered5 (c : Dev nD) : V m c main_v5 = shapeCast S16x1x4096 (m ((c : Thread nD τ).loc main_arg2) : FVec Ideal S16x4096 .f32) shapeCasts_S16x4096_S16x1x4096 := by
  show StableHlo.after hostOps0 _ (Proc.devRef .tc main_v5) = _
  after_results
  rfl

theorem entered6 (c : Dev nD) : V m c main_v6 = shapeCast S16x1x4096 (noiseOf (m ((c : Thread nD τ).loc main_arg3))) shapeCasts_S16x4096_S16x1x4096 := by
  show StableHlo.after hostOps0 _ (Proc.devRef .tc main_v6) = _
  after_results
  rfl

/-- An array with a unit axis in the middle reads the array without it. -/
theorem mid_apply {N : Nat} {α : Type} (x : (M2 16 N).Idx → α) (h : (M2 16 N).ShapeCasts (M3 16 1 N)) (b : Fin 16) (s : Fin N) :
    shapeCast (M3 16 1 N) x h (ix3 b 0 s) = x (ix2 b s) := by
  refine shapeCast_apply _ _ _ (ix2 b s) ?_
  rw [Shape.rowMajor_val_two, Shape.rowMajor_val_three]
  show b.val * N + s.val = (b.val * 1 + 0) * N + s.val
  rw [Nat.mul_one, Nat.add_zero]

/-! ## The blocks of a point -/

/-- The batch of a point. -/
def batch (t : Fin cfg0.N) : Fin 16 := grid0.coords t 0

theorem batch_word (t : Fin cfg0.N) : (BitVec.ofNat 32 (batch t).val).toNat = (batch t).val := by
  have := (batch t).isLt
  rw [BitVec.toNat_ofNat]
  omega

/-- The point of a batch. -/
def point (b : Fin 16) : Fin cfg0.N := ⟨b.val, b.isLt⟩

theorem batch_point : ∀ b : Fin 16, batch (point b) = b := by decide +kernel

theorem emb0 (t : Fin cfg0.N) (j : S1x4096x1024.Idx) : ((cfg0.win 0).blk t).view.emb j = ix3 (batch t) (j 1) (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ => show 0 * 4096 + 1 * (j 1).val = (j 1).val; omega
  | ⟨2, _⟩ => show 0 * 1024 + 1 * (j 2).val = (j 2).val; omega

theorem emb1 (t : Fin cfg0.N) (j : S1x1x1024.Idx) : ((cfg0.win 1).blk t).view.emb j = ix3 (batch t) 0 (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ =>
    show 0 * 1 + 1 * (j 1).val = 0
    have : (j 1).val < 1 := (j 1).isLt
    omega
  | ⟨2, _⟩ => show 0 * 1024 + 1 * (j 2).val = (j 2).val; omega

theorem emb2 (t : Fin cfg0.N) (j : S1x1x4096.Idx) : ((cfg0.win 2).blk t).view.emb j = ix3 (batch t) 0 (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ =>
    show 0 * 1 + 1 * (j 1).val = 0
    have : (j 1).val < 1 := (j 1).isLt
    omega
  | ⟨2, _⟩ => show 0 * 4096 + 1 * (j 2).val = (j 2).val; omega

theorem emb3 (t : Fin cfg0.N) (j : S1x1x4096.Idx) : ((cfg0.win 3).blk t).view.emb j = ix3 (batch t) 0 (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ =>
    show 0 * 1 + 1 * (j 1).val = 0
    have : (j 1).val < 1 := (j 1).isLt
    omega
  | ⟨2, _⟩ => show 0 * 4096 + 1 * (j 2).val = (j 2).val; omega

theorem emb4 (t : Fin cfg0.N) (j : S1x1x4096.Idx) : ((cfg0.win 4).blk t).view.emb j = ix3 (batch t) 0 (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ =>
    show 0 * 1 + 1 * (j 1).val = 0
    have : (j 1).val < 1 := (j 1).isLt
    omega
  | ⟨2, _⟩ => show 0 * 4096 + 1 * (j 2).val = (j 2).val; omega

theorem emb5 (t : Fin cfg0.N) (j : S1x1x4096.Idx) : ((cfg0.win 5).blk t).view.emb j = ix3 (batch t) 0 (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ =>
    show 0 * 1 + 1 * (j 1).val = 0
    have : (j 1).val < 1 := (j 1).isLt
    omega
  | ⟨2, _⟩ => show 0 * 4096 + 1 * (j 2).val = (j 2).val; omega

theorem emb6 (t : Fin cfg0.N) (j : S1x16x1024.Idx) : ((cfg0.win 6).blk t).view.emb j = ix3 (batch t) (j 1) (j 2) := by
  funext a
  apply Fin.ext
  match a with
  | ⟨0, _⟩ =>
    show (BitVec.ofNat 32 (batch t).val).toNat * 1 + 1 * (j 0).val = (batch t).val
    have : (j 0).val < 1 := (j 0).isLt
    rw [batch_word]
    omega
  | ⟨1, _⟩ => show 0 * 16 + 1 * (j 1).val = (j 1).val; omega
  | ⟨2, _⟩ => show 0 * 1024 + 1 * (j 2).val = (j 2).val; omega

theorem mem4 (i : S16x1x4096.Idx) : i ∈ ((cfg0.win 4).blk (point (i 0))).view.set := by
  have e := ((cfg0.win 4).blk (point (i 0))).view.emb_mem_set (ix3 0 0 (i 2) : S1x1x4096.Idx)
  have h : ix3 (batch (point (i 0))) 0 (i 2) = i := by
    funext a
    match a with
    | ⟨0, _⟩ => exact batch_point _
    | ⟨1, _⟩ => exact Subsingleton.elim (α := Fin 1) _ _
    | ⟨2, _⟩ => rfl
  rw [emb4] at e
  exact Eq.mp (congrArg (· ∈ _) h) e

theorem mem5 (i : S16x1x4096.Idx) : i ∈ ((cfg0.win 5).blk (point (i 0))).view.set := by
  have e := ((cfg0.win 5).blk (point (i 0))).view.emb_mem_set (ix3 0 0 (i 2) : S1x1x4096.Idx)
  have h : ix3 (batch (point (i 0))) 0 (i 2) = i := by
    funext a
    match a with
    | ⟨0, _⟩ => exact batch_point _
    | ⟨1, _⟩ => exact Subsingleton.elim (α := Fin 1) _ _
    | ⟨2, _⟩ => rfl
  rw [emb5] at e
  exact Eq.mp (congrArg (· ∈ _) h) e

theorem mem6 (i : S16x16x1024.Idx) : i ∈ ((cfg0.win 6).blk (point (i 0))).view.set := by
  have e := ((cfg0.win 6).blk (point (i 0))).view.emb_mem_set (ix3 0 (i 1) (i 2) : S1x16x1024.Idx)
  have h : ix3 (batch (point (i 0))) (i 1) (i 2) = i := by
    funext a
    match a with
    | ⟨0, _⟩ => exact batch_point _
    | ⟨1, _⟩ => rfl
    | ⟨2, _⟩ => rfl
  rw [emb6] at e
  exact Eq.mp (congrArg (· ∈ _) h) e

theorem iblk0_eq (c : Dev nD) (t : Fin cfg0.N) : iblk m c 0 t = rowsOf (m ((c : Thread nD τ).loc main_arg0)) (batch t) := by
  funext j
  show V m c main_arg0 (((cfg0.win 0).blk t).view.emb j) = _
  rw [emb0, V_main_arg0]
  rfl

theorem iblk1_eq (c : Dev nD) (t : Fin cfg0.N) : iblk m c 1 t = partOf (N := 1024) (m ((c : Thread nD τ).loc main_arg1)) (batch t) := by
  funext j
  show V m c main_v4 (((cfg0.win 1).blk t).view.emb j) = _
  rw [emb1, entered4]
  exact mid_apply (N := 1024) _ _ _ _

theorem iblk2_eq (c : Dev nD) (t : Fin cfg0.N) : iblk m c 2 t = partOf (N := 4096) (m ((c : Thread nD τ).loc main_arg2)) (batch t) := by
  funext j
  show V m c main_v5 (((cfg0.win 2).blk t).view.emb j) = _
  rw [emb2, entered5]
  exact mid_apply (N := 4096) _ _ _ _

theorem iblk3_eq (c : Dev nD) (t : Fin cfg0.N) : iblk m c 3 t = partOf (N := 4096) (noiseOf (m ((c : Thread nD τ).loc main_arg3))) (batch t) := by
  funext j
  show V m c main_v6 (((cfg0.win 3).blk t).view.emb j) = _
  rw [emb3, entered6]
  exact mid_apply (N := 4096) _ _ _ _

/-! ## The arrays after the run -/

section
variable (C : FVec Ideal S16x4096x1024 .f32) (q : FVec Ideal S16x1024 .f32) (h u : FVec Ideal S16x4096 .f32)

/-- Batch `b`'s scores. -/
def logitsOf (b : Fin 16) : Fin 4096 → EReal := logitB (rowsOf C b) (partOf (N := 1024) q b) (partOf (N := 4096) h b)

/-- Batch `b`'s scores with their noise, over the warmth. -/
def noisyOf (b : Fin 16) : Fin 4096 → EReal := noisyB (rowsOf C b) (partOf (N := 1024) q b) (partOf (N := 4096) h b) (partOf (N := 4096) (noiseOf u) b)
end

theorem outs4 (c : Dev nD) (t : Fin cfg0.N) : (outsAt m c t).1
    = fun i : S1x1x4096.Idx => logitsOf (m ((c : Thread nD τ).loc main_arg0)) (m ((c : Thread nD τ).loc main_arg1)) (m ((c : Thread nD τ).loc main_arg2)) (batch t) (i 2) := by
  dsimp only [outsAt]
  rw [out4_at, iblk0_eq, iblk1_eq, iblk2_eq]
  rfl

theorem outs5 (c : Dev nD) (t : Fin cfg0.N) : (outsAt m c t).2.1
    = fun i : S1x1x4096.Idx => softmax (noisyOf (m ((c : Thread nD τ).loc main_arg0)) (m ((c : Thread nD τ).loc main_arg1)) (m ((c : Thread nD τ).loc main_arg2))
      (m ((c : Thread nD τ).loc main_arg3)) (batch t)) (i 2) := by
  dsimp only [outsAt]
  rw [out5_at, iblk0_eq, iblk1_eq, iblk2_eq, iblk3_eq]
  rfl

theorem outs6 (c : Dev nD) (t : Fin cfg0.N) (hz : ∀ s, noisyOf (m ((c : Thread nD τ).loc main_arg0)) (m ((c : Thread nD τ).loc main_arg1)) (m ((c : Thread nD τ).loc main_arg2))
      (m ((c : Thread nD τ).loc main_arg3)) (batch t) s ≠ ⊥) : (outsAt m c t).2.2
    = lineV (rowsOf (m ((c : Thread nD τ).loc main_arg0)) (batch t)) (noisyOf (m ((c : Thread nD τ).loc main_arg0)) (m ((c : Thread nD τ).loc main_arg1)) (m ((c : Thread nD τ).loc main_arg2))
      (m ((c : Thread nD τ).loc main_arg3)) (batch t)) := by
  dsimp only [outsAt]
  rw [iblk0_eq, iblk1_eq, iblk2_eq, iblk3_eq]
  exact out6_at _ _ _ _ _ _ _ _ _ _ _ _ _ _ _ _ _ _ _ _ hz

theorem final4 (c : Dev nD) : (dats m 0 c).arrAt 4 cfg0.N
    = fun i : S16x1x4096.Idx => logitsOf (m ((c : Thread nD τ).loc main_arg0)) (m ((c : Thread nD τ).loc main_arg1)) (m ((c : Thread nD τ).loc main_arg2)) (i 0) (i 2) := by
  refine (dats m 0 c).arrAt_eq_of_cover 4 _ (fun t _ => ?_) (fun i => ⟨point (i 0), flush0_4 _, ?_⟩)
  · funext j
    show (dats m 0 c).after 4 t j = _
    rw [after_4, outs4]
    exact (congrArg (fun i : S16x1x4096.Idx => logitsOf (m ((c : Thread nD τ).loc main_arg0)) (m ((c : Thread nD τ).loc main_arg1))
      (m ((c : Thread nD τ).loc main_arg2)) (i 0) (i 2)) (emb4 t j)).symm
  · exact mem4 i

theorem final5 (c : Dev nD) : (dats m 0 c).arrAt 5 cfg0.N
    = fun i : S16x1x4096.Idx => softmax (noisyOf (m ((c : Thread nD τ).loc main_arg0)) (m ((c : Thread nD τ).loc main_arg1)) (m ((c : Thread nD τ).loc main_arg2))
      (m ((c : Thread nD τ).loc main_arg3)) (i 0)) (i 2) := by
  refine (dats m 0 c).arrAt_eq_of_cover 5 _ (fun t _ => ?_) (fun i => ⟨point (i 0), flush0_5 _, ?_⟩)
  · funext j
    show (dats m 0 c).after 5 t j = _
    rw [after_5, outs5]
    exact (congrArg (fun i : S16x1x4096.Idx => softmax (noisyOf (m ((c : Thread nD τ).loc main_arg0)) (m ((c : Thread nD τ).loc main_arg1))
      (m ((c : Thread nD τ).loc main_arg2)) (m ((c : Thread nD τ).loc main_arg3)) (i 0)) (i 2)) (emb5 t j)).symm
  · exact mem5 i

/-- The rows of `C` at the greatest entries of each batch's `z`. -/
def newV (C : FVec Ideal S16x4096x1024 .f32) (z : Fin 16 → Fin 4096 → EReal) : FVec Ideal S16x16x1024 .f32 :=
  fun i => C (ix3 (i 0) (rank (z (i 0)) ⟨(i 1).val, lt_trans (i 1).isLt (show 16 < 4096 by decide)⟩) (i 2))

theorem final6 (c : Dev nD) (hz : ∀ b s, noisyOf (m ((c : Thread nD τ).loc main_arg0)) (m ((c : Thread nD τ).loc main_arg1)) (m ((c : Thread nD τ).loc main_arg2))
      (m ((c : Thread nD τ).loc main_arg3)) b s ≠ ⊥) : (dats m 0 c).arrAt 6 cfg0.N
    = newV (m ((c : Thread nD τ).loc main_arg0)) (noisyOf (m ((c : Thread nD τ).loc main_arg0)) (m ((c : Thread nD τ).loc main_arg1)) (m ((c : Thread nD τ).loc main_arg2))
      (m ((c : Thread nD τ).loc main_arg3))) := by
  refine (dats m 0 c).arrAt_eq_of_cover 6 _ (fun t _ => ?_) (fun i => ⟨point (i 0), flush0_6 _, ?_⟩)
  · funext j
    show (dats m 0 c).after 6 t j = _
    rw [after_6, outs6 m c t (hz (batch t))]
    exact (congrArg (newV (m ((c : Thread nD τ).loc main_arg0)) (noisyOf (m ((c : Thread nD τ).loc main_arg0)) (m ((c : Thread nD τ).loc main_arg1))
        (m ((c : Thread nD τ).loc main_arg2)) (m ((c : Thread nD τ).loc main_arg3)))) (emb6 t j)).symm
  · exact mem6 i

theorem run_arrays : θ_run defs (onTc (τ := τ) (main (F := Ideal))) ⟨m, fun _ => 0, ρ⟩ fun r => ∀ c : Dev nD,
      r.2.mem ((c : Thread nD τ).loc main_v7_0) = (dats m 0 c).arrAt 4 cfg0.N
      ∧ r.2.mem ((c : Thread nD τ).loc main_v7_1) = (dats m 0 c).arrAt 5 cfg0.N
      ∧ r.2.mem ((c : Thread nD τ).loc main_v7_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4, (h c).1 5, (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.StageB

end
-- ==== Proof.Math.StageBRef.lean ====
/- Stage B's reference as the same functions of the arguments: the scores, their softmax and the rows at the greatest entries of it. -/
module

public import proofs.«01_k».proof.Proof.Math.StageBArrays
public import proofs.«01_k».proof.Proof.Math.HostTake
public import proofs.«01_k».proof.Proof.Math.StageAProb
public import proofs.«01_k».proof.Proof.Gen.ReferenceBIdeal.Read

@[expose] public section

noncomputable section

namespace Cert.StageBRef

open Idealize.ShloMosaic hiding ix1 ix2 ix3 ix4 addf_apply subf_apply mulf_apply divf_apply constant_apply truncf_apply
open Idealize.ShloMosaic.ValueIdx Cert.Spec Cert.KernelVec Cert.Picks Cert.HostTake
open Cert.ReferenceBIdeal Cert.ReferenceBIdeal.Gen Cert.ReferenceBIdeal.Read

/-! ## The softmax of each row, on the host -/

section
variable {N : Nat} (b1 : (M1 16).BroadcastsInDim (M2 16 1) ![0]) (b2 : (M2 16 1).BroadcastsInDim (M2 16 N) ![0, 1])
  (b0 : S0.BroadcastsInDim (M1 16) ![]) (hr : (M2 16 N).ReducesTo [1] (M1 16)) (hu : 0 < S0.numel)

/-- A row's number, spread over the row. -/
def over (x : FVec Ideal (M1 16) .f32) : FVec Ideal (M2 16 N) .f32 := broadcastInDim (M2 16 N) ![0, 1] b2 (broadcastInDim (M2 16 1) ![0] b1 x)

theorem over_apply (x : FVec Ideal (M1 16) .f32) (b : Fin 16) (s : Fin N) : over b1 b2 x (ix2 b s) = x (ix1 b) := by
  refine (broadcastInDim_apply _ _ _ _ (ix2 b (0 : Fin 1)) fun a => ?_).trans (broadcastInDim_apply _ _ _ _ (ix1 b) fun a => ?_)
  · match a with
    | ⟨0, _⟩ => rfl
    | ⟨1, _⟩ => rfl
  · match a with
    | ⟨0, _⟩ => rfl

/-- Each row's greatest entry. -/
def tops (z : FVec Ideal (M2 16 N) .f32) : FVec Ideal (M1 16) .f32 :=
  maximumf (broadcastInDim (M1 16) ![] b0 (constant S0 .f32 0xFF800000#32)) (Host.reduce FloatOps.maximumf z (constant S0 .f32 0xFF800000#32) hr hu)

theorem tops_apply (z : FVec Ideal (M2 16 N) .f32) (b : Fin 16) : tops b0 hr hu z (ix1 b) = top fun s => z (ix2 b s) := by
  have red : (M2 16 N).Reduces [1] (M1 16) := ⟨rfl, Nat.one_pos, hr.2⟩
  have e : Host.reduce FloatOps.maximumf z (constant S0 .f32 0xFF800000#32) hr hu (ix1 b) = top fun s => z (ix2 b s) := by
    refine (congrFun (hostReduce_maximumf_eq_multiReduction z 0xFF800000#32 hr hu red (.inl rfl) rfl) _).trans ?_
    refine (Ideal.multiReduction_maximumf_single z _ red _ _ _).trans ?_
    exact Finset.fold_congr fun k _ => congrArg z (lift_row red b k)
  show max (broadcastInDim (M1 16) ![] b0 (constant (F := Ideal) S0 .f32 0xFF800000#32) (ix1 b)) _ = _
  rw [e, broadcastInDim_apply _ b0 _ _ (Shape.Idx.first hu) fun a => a.elim0]
  show max (lit 0xFF800000#32) _ = _
  rw [Cert.StageARef.lit_bottom]
  exact max_eq_right bot_le

/-- Each row's softmax. -/
def soft (z : FVec Ideal (M2 16 N) .f32) : FVec Ideal (M2 16 N) .f32 :=
  Host.divf (Host.exp (subf z (over b1 b2 (tops b0 hr hu z))))
    (over b1 b2 (Host.reduceAdd (Host.exp (subf z (over b1 b2 (tops b0 hr hu z)))) (constant S0 .f32 0x00000000#32) hr hu))

theorem soft_apply (z : FVec Ideal (M2 16 N) .f32) (b : Fin 16) (s : Fin N) : soft b1 b2 b0 hr hu z (ix2 b s) = softmax (fun s => z (ix2 b s)) s := by
  have red : (M2 16 N).Reduces [1] (M1 16) := ⟨rfl, Nat.one_pos, hr.2⟩
  have e : ∀ s, Host.exp (subf z (over b1 b2 (tops b0 hr hu z))) (ix2 b s) = Ideal.exp (z (ix2 b s) - top fun s => z (ix2 b s)) := by
    intro s
    show Ideal.exp (z (ix2 b s) - over b1 b2 (tops b0 hr hu z) (ix2 b s)) = _
    rw [over_apply, tops_apply]
  unfold soft softmax
  show Ideal.div _ (over b1 b2 _ (ix2 b s)) = _
  rw [e, over_apply]
  refine congrArg (Ideal.div _) ?_
  show Ideal.hostReduceAdd hr _ (Ideal.ofBits .f32 0x00000000#32) (ix1 b) = _
  rw [Ideal.hostReduceAdd_single hr red, Ideal.ofBits_zero_f32, zero_add]
  exact Finset.sum_congr rfl fun k _ => (congrArg _ (lift_row _ b k)).trans (e k)
end

/-! ## The reference -/

/-- The arrays are finite, the draws strictly between zero and one. -/
structure Finite (C : FVec Ideal S16x4096x1024 .f32) (q : FVec Ideal S16x1024 .f32) (h u : FVec Ideal S16x4096 .f32) : Prop where
  above : ∀ i, 0 < u i
  below : ∀ i, u i < 1
  rows : ∀ i, Fin' (C i)
  query : ∀ i, Fin' (q i)
  factor : ∀ i, Fin' (h i)

/-- Over the square root of the width is times its inverse. -/
theorem div_root {a : EReal} (ha : Fin' a) : Ideal.div a (lit 0x42000000#32) = a * lit 0x3D000000#32 := by
  obtain ⟨r, rfl⟩ := ha
  have h1 : lit 0x42000000#32 = ((32 : ℝ) : EReal) := by
    unfold lit
    simp [Ideal.ofBits, Ideal.ieee, -EReal.coe_mul]
    norm_num
  have h2 : lit 0x3D000000#32 = ((1 / 32 : ℝ) : EReal) := by
    unfold lit
    simp [Ideal.ofBits, Ideal.ieee, -EReal.coe_mul]
    norm_num
  rw [h1, h2, Ideal.div_coe, ← EReal.coe_mul, mul_one_div]
  norm_num

theorem root_fin : Fin' (lit 0x3D000000#32) :=
  ⟨1 / 32, by unfold lit; simp [Ideal.ofBits, Ideal.ieee, -EReal.coe_mul]; norm_num⟩

variable {C : FVec Ideal S16x4096x1024 .f32} {q : FVec Ideal S16x1024 .f32} {h u : FVec Ideal S16x4096 .f32} (fin : Finite C q h u)

include fin

theorem score_fin (b : Fin 16) (s : Fin 4096) : Fin' (∑ d : Fin 1024, C (ix3 b s d) * q (ix2 b d)) :=
  Fin'.sum _ fun d => (fin.rows _).mul (fin.query _)

theorem logits_fin (b : Fin 16) (s : Fin 4096) : Fin' (Cert.StageB.logitsOf C q h b s) :=
  ((score_fin fin b s).mul root_fin).sub (pos_unit.fin.mul (fin.factor _))

theorem noisy_fin (b : Fin 16) (s : Fin 4096) : Fin' (Cert.StageB.noisyOf C q h u b s) :=
  ((logits_fin fin b s).add (gumbel_fin (fin.above _) (fin.below _))).div pos_warmth

theorem noisy_ne (b : Fin 16) (s : Fin 4096) : Cert.StageB.noisyOf C q h u b s ≠ ⊥ := by
  obtain ⟨r, hr⟩ := noisy_fin fin b s
  rw [hr]
  exact EReal.coe_ne_bot r

theorem logits_at (b : Fin 16) (s : Fin 4096) : val_main_v5 (F := Ideal) C q h (ix2 b s) = Cert.StageB.logitsOf C q h b s := by
  have e : val_main_v2 (F := Ideal) C q (ix2 b s) = Cert.StageB.scoreB (Cert.StageB.rowsOf C b) (Cert.StageB.partOf (N := 1024) q b) s := by
    rw [val_main_v2_apply, val_main_v1_apply, val_main_v0_apply]
    show Ideal.div (∑ d : Fin 1024, C (lidx_main_v0 (ix2 b s) d) * q (ridx_main_v0 (ix2 b s) d)) (lit 0x42000000#32) = _
    have c1 : ∀ d : Fin 1024, lidx_main_v0 (ix2 b s) d = ix3 b s d := fun d => funext fun a => match a with
      | ⟨0, _⟩ => rfl
      | ⟨1, _⟩ => rfl
      | ⟨2, _⟩ => rfl
    have c2 : ∀ d : Fin 1024, ridx_main_v0 (ix2 b s) d = ix2 b d := fun d => funext fun a => match a with
      | ⟨0, _⟩ => rfl
      | ⟨1, _⟩ => rfl
    simp only [c1, c2]
    exact div_root (score_fin fin b s)
  rw [val_main_v5_apply, val_main_v4_apply, val_main_v3_apply, e]
  rfl

theorem noisy_at (b : Fin 16) (s : Fin 4096) : val_main_v12 (F := Ideal) C q h u (ix2 b s) = Cert.StageB.noisyOf C q h u b s := by
  rw [val_main_v12_apply, val_main_v11_apply, val_main_v10_apply, logits_at fin b s]
  rfl

omit fin in
theorem probs_eq : val_main_v23 (F := Ideal) C q h u = soft (N := 4096) bcast_S16_S16x1_0 bcast_S16x1_S16x4096_0_1 bcast_S_S16 reducesTo_S16x4096_S16_d1 h_S_
    (val_main_v12 (F := Ideal) C q h u) := rfl

theorem probs_at (b : Fin 16) (s : Fin 4096) : val_main_v23 (F := Ideal) C q h u (ix2 b s) = softmax (Cert.StageB.noisyOf C q h u b) s := by
  rw [probs_eq]
  refine (soft_apply ..).trans ?_
  rw [funext fun s => noisy_at fin b s]

theorem place_at (b : Fin 16) (r : Fin 16) : (val_main_v24 (F := Ideal) C q h u (ix3 b r 0)).toInt
    = (rank (Cert.StageB.noisyOf C q h u b) ⟨r.val, lt_trans r.isLt (show 16 < 4096 by decide)⟩).val := by
  rw [val_main_v24_apply]
  have e : idx_main_v24 (ix3 b r 0) = ix2 b r := funext fun a => match a with
    | ⟨0, _⟩ => rfl
    | ⟨1, _⟩ => rfl
  rw [e]
  unfold val_main_indices
  refine (congrArg BitVec.toInt (top_at (B := 16) (N := 4096) (K := 16) (val_main_v23 (F := Ideal) C q h u) sliceFits_S16x4096_S16x16 b r
    (lt_trans r.isLt (show 16 < 4096 by decide)))).trans ?_
  rw [funext fun s => probs_at fin b s, rank_congr (softmax (Cert.StageB.noisyOf C q h u b)) (Cert.StageB.noisyOf C q h u b) fun i j => softmax_lt (noisy_fin fin b) i j]
  exact Cert.StageB.word4_toInt _

omit fin in
theorem take_eq : val_main_v25 (F := Ideal) C q h u
    = taken (B := 16) (N := 4096) (K := 16) (D := 1024) 4096#32 4095#32 0x7FC00000#32 bcast_S_S16x16x1 bcast_S1_S1x1x1_2 bcast_S1x1x1_S16x16x1_0_1_2
      reducesTo_S16x16x1_S16x16_d2 h_S_ gather_S16x4096x1024_S16x16x1_S16x16x1024_2_1_0_0_1_2_111024 bcast_S16x16_S16x16x1024_0_1 bcast_S_S16x16x1024 C
      (val_main_v24 (F := Ideal) C q h u) := rfl

theorem new_eq : val_main_v25 (F := Ideal) C q h u = Cert.StageB.newV C (Cert.StageB.noisyOf C q h u) := by
  rw [take_eq]
  funext i
  rw [ValueIdx.eq_ix3 i]
  exact taken_at _ _ _ _ _ _ _ _ _ _ _ C _ _ (place_at fin) (by decide) _ _ _

theorem probs_wide : val_main_v27 (F := Ideal) C q h u = fun i : S16x1x4096.Idx => softmax (Cert.StageB.noisyOf C q h u (i 0)) (i 2) := by
  funext i
  rw [val_main_v27_apply]
  have e : idx_main_v27 i = ix2 (i 0) (i 2) := funext fun a => match a with
    | ⟨0, _⟩ => rfl
    | ⟨1, _⟩ => rfl
  rw [e]
  exact probs_at fin _ _

theorem logits_wide : val_main_v26 (F := Ideal) C q h = fun i : S16x1x4096.Idx => Cert.StageB.logitsOf C q h (i 0) (i 2) := by
  funext i
  rw [val_main_v26_apply]
  have e : idx_main_v26 i = ix2 (i 0) (i 2) := funext fun a => match a with
    | ⟨0, _⟩ => rfl
    | ⟨1, _⟩ => rfl
  rw [e]
  exact logits_at fin _ _

end Cert.StageBRef

end
-- ==== Proof.Math.StageBClaim.lean ====
/- Stage B's claim: on the stated inputs the kernel ends at the reference's results, whatever the rest of memory held. -/
module

public import proofs.«01_k».proof.Defs
public import proofs.«01_k».proof.Proof.Gen.ReferenceBIdeal.Run
public import proofs.«01_k».proof.Proof.Math.StageAPre
public import proofs.«01_k».proof.Proof.Math.StageBRef

@[expose] public section

noncomputable section

namespace Cert.StageBRef

open Idealize.ShloMosaic Idealize.SL.Sem Cert.Spec Cert.Inputs Cert.ReferenceBIdeal.Read

variable [Cert.Pre_stage_b_inputs.Facts]

/-- The stated inputs are finite, the noise strictly between zero and one. -/
theorem finite (m : (ℓ : Loc Cert.KernelBIdeal.nD Cert.KernelBIdeal.τ Cert.KernelBIdeal.sig) → Buf (Elt Ideal) ℓ)
    (pre : Pre_KernelBIdeal_stage_b_inputs m) (c : Dev Cert.KernelBIdeal.nD) :
    Finite (m ((c.tc : Thread Cert.KernelBIdeal.nD Cert.KernelBIdeal.τ).loc Cert.KernelBIdeal.main_arg0))
      (m ((c.tc : Thread Cert.KernelBIdeal.nD Cert.KernelBIdeal.τ).loc Cert.KernelBIdeal.main_arg1))
      (m ((c.tc : Thread Cert.KernelBIdeal.nD Cert.KernelBIdeal.τ).loc Cert.KernelBIdeal.main_arg2))
      (m ((c.tc : Thread Cert.KernelBIdeal.nD Cert.KernelBIdeal.τ).loc Cert.KernelBIdeal.main_arg3)) := by
  have p := pre c
  exact ⟨fun i => (Ideal.ofBits_zero_f32 ▸ gt_of_test p.1 i), fun i => (Cert.HostVec.lit_one ▸ lt_of_test p.2.1 i),
    finite_of_test p.2.2.1, finite_of_test p.2.2.2.1, finite_of_test p.2.2.2.2⟩

section
variable {C C' : FVec Ideal Cert.ReferenceBIdeal.S16x4096x1024 .f32} {q q' : FVec Ideal Cert.ReferenceBIdeal.S16x1024 .f32}
  {h h' u u' : FVec Ideal Cert.ReferenceBIdeal.S16x4096 .f32} (eC : C' = C) (eq : q' = q) (eh : h' = h) (eu : u' = u) (fin : Finite C q h u)

include eC eq eh fin

theorem logits_of : val_main_v26 (F := Ideal) C' q' h' = fun i : Cert.ReferenceBIdeal.S16x1x4096.Idx => Cert.StageB.logitsOf C q h (i 0) (i 2) := by
  subst eC eq eh
  exact logits_wide fin

include eu

theorem probs_of : val_main_v27 (F := Ideal) C' q' h' u'
    = fun i : Cert.ReferenceBIdeal.S16x1x4096.Idx => softmax (Cert.StageB.noisyOf C q h u (i 0)) (i 2) := by
  subst eC eq eh eu
  exact probs_wide fin

theorem new_of : val_main_v25 (F := Ideal) C' q' h' u' = Cert.StageB.newV C (Cert.StageB.noisyOf C q h u) := by
  subst eC eq eh eu
  exact new_eq fin
end

theorem algebraic : Cert.algebraic_KernelBIdeal_ReferenceBIdeal_pre_stage_b_inputs := by
  intro m ρ m' ρ' pre agree
  refine ⟨_, _, _, Cert.StageB.run_arrays m ρ, ?_⟩
  refine (θ_run Cert.ReferenceBIdeal.defs _ _).mono (fun _ h c => ?_) (Cert.ReferenceBIdeal.Value.run (F := Ideal) m' ρ')
  have fin := finite m pre c
  obtain ⟨a0, a1, a2, a3⟩ := agree c
  obtain ⟨h26, h27, h25, rest⟩ := h c
  refine ⟨h26.trans ?_, h27.trans ?_, h25.trans ?_, rest⟩
  · refine (val_main_v26_eq _ _ _).trans (Eq.trans ?_ (Cert.StageB.final4 m c).symm)
    exact logits_of a0 a1 a2 fin
  · refine (val_main_v27_eq _ _ _ _).trans (Eq.trans ?_ (Cert.StageB.final5 m c).symm)
    exact probs_of a0 a1 a2 a3 fin
  · refine (val_main_v25_eq _ _).trans (Eq.trans ?_ (Cert.StageB.final6 m c (noisy_ne fin)).symm)
    exact new_of a0 a1 a2 a3 fin

end Cert.StageBRef

end
-- ==== Proof.lean ====
module

public import proofs.«01_k».proof.Defs
public import proofs.«01_k».proof.Proof.Gen.KernelA.Frame
public import proofs.«01_k».proof.Proof.Gen.KernelAIdeal.Frame
public import proofs.«01_k».proof.Proof.Gen.Pre_stage_a_inputs
public import proofs.«01_k».proof.Proof.Gen.Pre_stage_b_inputs
public import proofs.«01_k».proof.Proof.Gen.ReferenceAIdeal.Run
public import proofs.«01_k».proof.Proof.Math.StageAClaim
public import proofs.«01_k».proof.Proof.Math.StageBFrame
public import proofs.«01_k».proof.Proof.Math.StageBClaim

@[expose] public section

noncomputable section

namespace Cert.Proof

open Idealize.ShloMosaic Idealize.SL.Sem

/-- The first reference runs, keeps its arguments and leaves every semaphore at zero. -/
theorem frame_reference_a : Cert.quiescent_ReferenceAIdeal := fun m ρ _ =>
  (θ_run Cert.ReferenceAIdeal.defs _ _).mono (fun r h => ⟨fun c => (h c).2.2.2.2, sem_eq_zero_of_no_sems (by decide) r.2⟩)
    (Cert.ReferenceAIdeal.Value.run (F := Ideal) m ρ)

/-- The second reference runs, keeps its arguments and leaves every semaphore at zero. -/
theorem frame_reference_b : Cert.quiescent_ReferenceBIdeal := fun m ρ _ =>
  (θ_run Cert.ReferenceBIdeal.defs _ _).mono (fun r h => ⟨fun c => (h c).2.2.2, sem_eq_zero_of_no_sems (by decide) r.2⟩)
    (Cert.ReferenceBIdeal.Value.run (F := Ideal) m ρ)

theorem claim : Cert.Claim :=
  ⟨Cert.KernelA.Gen.facts, Cert.KernelAIdeal.Gen.facts, Cert.ReferenceAIdeal.Gen.facts, Cert.KernelBIdeal.Gen.facts, Cert.ReferenceBIdeal.Gen.facts,
    Cert.Pre_stage_a_inputs.Gen.facts, Cert.Pre_stage_b_inputs.Gen.facts,
    fun m ρ _ => Cert.KernelA.Gen.frame m ρ, fun m ρ _ => Cert.KernelAIdeal.Gen.frame m ρ, fun m ρ _ => Cert.KernelAIdeal.Gen.frame m ρ,
    frame_reference_a, fun m ρ _ => frame_reference_a m ρ trivial,
    fun m ρ _ => Cert.StageB.frame m ρ, fun m ρ _ => Cert.StageB.frame m ρ,
    frame_reference_b, fun m ρ _ => frame_reference_b m ρ trivial,
    IdealRules.named_const.statement Cert.KernelAIdeal.κ "sqrt2" .f32 0x3FB504F3#32 ((Real.sqrt 2 : ℝ) : EReal) rfl,
    Cert.StageAEq.algebraic, Cert.StageBRef.algebraic⟩

end Cert.Proof

end
